-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v50) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v56) = v4 c
          ∧ r.2.mem ((c.tc : Thread Cert.Reference3Ideal.nD Cert.Reference3Ideal.τ).loc Cert.Reference3Ideal.main_v59) = v5 c
          ∧ r.2.mem ((c.tc : Thread Cert.Reference3Ideal.nD Cert.Reference3Ideal.τ).loc Cert.Reference3Ideal.main_v42) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v30_0)) (v1 : (c : Dev Cert.Kernel5Ideal.nD) → Buf (Elt Ideal) ((c.tc : Thread Cert.Kernel5Ideal.nD Cert.Kernel5Ideal.τ).loc Cert.Kernel5Ideal.main_v30_1)) (v2 : (c : Dev Cert.Kernel5Ideal.nD) → Buf (Elt Ideal) ((c.tc : Thread Cert.Kernel5Ideal.nD Cert.Kernel5Ideal.τ).loc Cert.Kernel5Ideal.main_v30_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v30_0) = v0 c
          ∧ r.2.mem ((c.tc : Thread Cert.Kernel5Ideal.nD Cert.Kernel5Ideal.τ).loc Cert.Kernel5Ideal.main_v30_1) = v1 c
          ∧ r.2.mem ((c.tc : Thread Cert.Kernel5Ideal.nD Cert.Kernel5Ideal.τ).loc Cert.Kernel5Ideal.main_v30_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_v53) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S32x2048x256 : Shape := ⟨3, ![32, 2048, 256]⟩
abbrev S2048x256 : Shape := ⟨2, ![2048, 256]⟩
abbrev S256 : Shape := ⟨1, ![256]⟩
abbrev S_ : Shape := ⟨0, ![]⟩

class Facts : Prop where
  bitsLt_bf16_f32 : FTy.bits .bf16 < FTy.bits .f32
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S32x2048x256 .bf16) (main_arg1 : FVec F S32x2048x256 .bf16) (main_arg2 : FVec F S2048x256 .f32) (main_arg3 : FVec F S2048x256 .f32) (main_arg4 : FVec F S256 .f32) : IVec S_ 1 :=
  let main_v0 : FVec F S32x2048x256 .f32 := (extf .f32 · bitsLt_bf16_f32) main_arg0
  let main_v1 : FVec F S32x2048x256 .f32 := Host.absf main_v0
  let main_cst : FVec F S_ .f32 := constant S_ .f32 0x7F800000#32
  let main_v2 : FVec F S32x2048x256 .f32 := broadcastInDim S32x2048x256 ![] bcast_S_S32x2048x256 main_cst
  let main_v3 : IVec S32x2048x256 1 := cmpf .olt main_v1 main_v2
  let main_c : IVec S_ 1 := constantI S_ 1 1#1
  let main_v4 : IVec S_ 1 := (fun x v => Host.reduce IntOp.andi x v reducesTo_S32x2048x256_S_d0_1_2 h_S_) main_v3 main_c
  let main_v5 : FVec F S2048x256 .f32 := Host.absf main_arg2
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_c_1 : IVec S_ 1 := constantI S_ 1 1#1
  let main_v8 : IVec S_ 1 := (fun x v => Host.reduce IntOp.andi x v reducesTo_S2048x256_S_d0_1 h_S_) main_v7 main_c_1
  let main_v9 : IVec S_ 1 := andi main_v4 main_v8
  let main_v10 : FVec F S2048x256 .f32 := Host.absf main_arg3
  let main_cst_2 : FVec F S_ .f32 := constant S_ .f32 0x7F800000#32
  let main_v11 : FVec F S2048x256 .f32 := broadcastInDim S2048x256 ![] bcast_S_S2048x256 main_cst_2
  let main_v12 : IVec S2048x256 1 := cmpf .olt main_v10 main_v11
  let main_c_3 : IVec S_ 1 := constantI S_ 1 1#1
  let main_v13 : IVec S_ 1 := (fun x v => Host.reduce IntOp.andi x v reducesTo_S2048x256_S_d0_1 h_S_) main_v12 main_c_3
  let main_v14 : IVec S_ 1 := andi main_v9 main_v13
  main_v14
-- ==== Pre_finite4.lean ====
abbrev S65536x1024 : Shape := ⟨2, ![65536, 1024]⟩
abbrev S65536x256 : Shape := ⟨2, ![65536, 256]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bitsLt_bf16_f32 : FTy.bits .bf16 < FTy.bits .f32
  bcast_S_S65536x256 : S_.BroadcastsInDim S65536x256 (![] : Fin 0 → Fin S65536x256.rank)
  reducesTo_S65536x256_S_d0_1 : S65536x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part2 {F : FTy → Type} [FloatOps F] (main_arg7 : FVec F S1024x16 .f32) (main_v27 : IVec S_ 1) (main_v31 : IVec S_ 1) (main_v34 : IVec S1024 1) : IVec S_ 1 :=
  let main_c_11 : IVec S_ 1 := constantI S_ 1 1#1
  let main_v35 : IVec S_ 1 := (fun x v => Host.reduce IntOp.andi x v reducesTo_S1024_S_d0 h_S_) main_v34 main_c_11
  let main_v36 : IVec S_ 1 := andi main_v31 main_v35
  let main_v37 : FVec F S1024x16 .f32 := Host.absf main_arg7
  let main_cst_12 : FVec F S_ .f32 := constant S_ .f32 0x7F800000#32
  let main_v38 : FVec F S1024x16 .f32 := broadcastInDim S1024x16 ![] bcast_S_S1024x16 main_cst_12
  let main_v39 : IVec S1024x16 1 := cmpf .olt main_v37 main_v38
  let main_c_13 : IVec S_ 1 := constantI S_ 1 1#1
  let main_v40 : IVec S_ 1 := (fun x v => Host.reduce IntOp.andi x v reducesTo_S1024x16_S_d0_1 h_S_) main_v39 main_c_13
  let main_v41 : IVec S_ 1 := andi main_v36 main_v40
  let main_v42 : IVec S_ 1 := andi main_v27 main_v41
  main_v42

def fn_part1 {F : FTy → Type} [FloatOps F] (main_arg4 : FVec F S65536x256 .bf16) (main_arg5 : FVec F S1024x1024 .f32) (main_arg6 : FVec F S1024 .f32) (main_arg7 : FVec F S1024x16 .f32) (main_v15 : IVec S_ 1) (main_v17 : FVec F S65536x256 .f32) : IVec S_ 1 :=
  let main_cst_4 : FVec F S_ .f32 := constant S_ .f32 0x7F800000#32
  let main_v18 : FVec F S65536x256 .f32 := broadcastInDim S65536x256 ![] bcast_S_S65536x256 main_cst_4
  let main_v19 : IVec S65536x256 1 := cmpf .olt main_v17 main_v18
  let main_c_5 : IVec S_ 1 := constantI S_ 1 1#1
  let main_v20 : IVec S_ 1 := (fun x v => Host.reduce IntOp.andi x v reducesTo_S65536x256_S_d0_1 h_S_) main_v19 main_c_5
  let main_v21 : IVec S_ 1 := andi main_v15 main_v20
  let main_v22 : FVec F S65536x256 .f32 := (extf .f32 · bitsLt_bf16_f32) main_arg4
  let main_v23 : FVec F S65536x256 .f32 := Host.absf main_v22
  let main_cst_6 : FVec F S_ .f32 := constant S_ .f32 0x7F800000#32
  let main_v24 : FVec F S65536x256 .f32 := broadcastInDim S65536x256 ![] bcast_S_S65536x256 main_cst_6
  let main_v25 : IVec S65536x256 1 := cmpf .olt main_v23 main_v24
  let main_c_7 : IVec S_ 1 := constantI S_ 1 1#1
  let main_v26 : IVec S_ 1 := (fun x v => Host.reduce IntOp.andi x v reducesTo_S65536x256_S_d0_1 h_S_) main_v25 main_c_7
  let main_v27 : IVec S_ 1 := andi main_v21 main_v26
  let main_v28 : FVec F S1024x1024 .f32 := Host.absf main_arg5
  let main_cst_8 : FVec F S_ .f32 := constant S_ .f32 0x7F800000#32
  let main_v29 : FVec F S1024x1024 .f32 := broadcastInDim S1024x1024 ![] bcast_S_S1024x1024 main_cst_8
  let main_v30 : IVec S1024x1024 1 := cmpf .olt main_v28 main_v29
  let main_c_9 : IVec S_ 1 := constantI S_ 1 1#1
  let main_v31 : IVec S_ 1 := (fun x v => Host.reduce IntOp.andi x v reducesTo_S1024x1024_S_d0_1 h_S_) main_v30 main_c_9
  let main_v32 : FVec F S1024 .f32 := Host.absf main_arg6
  let main_cst_10 : FVec F S_ .f32 := constant S_ .f32 0x7F800000#32
  let main_v33 : FVec F S1024 .f32 := broadcastInDim S1024 ![] bcast_S_S1024 main_cst_10
  let main_v34 : IVec S1024 1 := cmpf .olt main_v32 main_v33
  fn_part2 (F := F) main_arg7 main_v27 main_v31 main_v34

def fn {F : FTy → Type} [FloatOps F] (main_arg0 : FVec F S65536x1024 .f32) (main_arg1 : FVec F S65536x256 .bf16) (main_arg2 : FVec F S65536x256 .bf16) (main_arg3 : FVec F S65536x256 .bf16) (main_arg4 : FVec F S65536x256 .bf16) (main_arg5 : FVec F S1024x1024 .f32) (main_arg6 : FVec F S1024 .f32) (main_arg7 : FVec F S1024x16 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S65536x256 .f32 := (extf .f32 · bitsLt_bf16_f32) main_arg1
  let main_v5 : FVec F S65536x256 .f32 := Host.absf main_v4
  let main_cst_0 : FVec F S_ .f32 := constant S_ .f32 0x7F800000#32
  let main_v6 : FVec F S65536x256 .f32 := broadcastInDim S65536x256 ![] bcast_S_S65536x256 main_cst_0
  let main_v7 : IVec S65536x256 1 := cmpf .olt main_v5 main_v6
  let main_c_1 : IVec S_ 1 := constantI S_ 1 1#1
  let main_v8 : IVec S_ 1 := (fun x v => Host.reduce IntOp.andi x v reducesTo_S65536x256_S_d0_1 h_S_) main_v7 main_c_1
  let main_v9 : IVec S_ 1 := andi main_v3 main_v8
  let main_v10 : FVec F S65536x256 .f32 := (extf .f32 · bitsLt_bf16_f32) main_arg2
  let main_v11 : FVec F S65536x256 .f32 := Host.absf main_v10
  let main_cst_2 : FVec F S_ .f32 := constant S_ .f32 0x7F800000#32
  let main_v12 : FVec F S65536x256 .f32 := broadcastInDim S65536x256 ![] bcast_S_S65536x256 main_cst_2
  let main_v13 : IVec S65536x256 1 := cmpf .olt main_v11 main_v12
  let main_c_3 : IVec S_ 1 := constantI S_ 1 1#1
  let main_v14 : IVec S_ 1 := (fun x v => Host.reduce IntOp.andi x v reducesTo_S65536x256_S_d0_1 h_S_) main_v13 main_c_3
  let main_v15 : IVec S_ 1 := andi main_v9 main_v14
  let main_v16 : FVec F S65536x256 .f32 := (extf .f32 · bitsLt_bf16_f32) main_arg3
  let main_v17 : FVec F S65536x256 .f32 := Host.absf main_v16
  fn_part1 (F := F) main_arg4 main_arg5 main_arg6 main_arg7 main_v15 main_v17
-- ==== Pre_finite5.lean ====
abbrev S2048x33 : Shape := ⟨2, ![2048, 33]⟩
abbrev S2048x256 : Shape := ⟨2, ![2048, 256]⟩
abbrev S33x64 : Shape := ⟨2, ![33, 64]⟩
abbrev S64 : Shape := ⟨1, ![64]⟩
abbrev S64x64 : Shape := ⟨2, ![64, 64]⟩
abbrev S64x512 : Shape := ⟨2, ![64, 512]⟩
abbrev S_ : Shape := ⟨0, ![]⟩

class Facts : Prop where
  bcast_S_S2048x33 : S_.BroadcastsInDim S2048x33 (![] : Fin 0 → Fin S2048x33.rank)
  reducesTo_S2048x33_S_d0_1 : S2048x33.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S33x64 : S_.BroadcastsInDim S33x64 (![] : Fin 0 → Fin S33x64.rank)
  reducesTo_S33x64_S_d0_1 : S33x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x512 : S_.BroadcastsInDim S64x512 (![] : Fin 0 → Fin S64x512.rank)
  reducesTo_S64x512_S_d0_1 : S64x512.ReducesTo [0, 1] S_

variable [Facts]

def fn_part2 {F : FTy → Type} [FloatOps F] (main_arg7 : FVec F S64x512 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64 .f32) (main_arg7 : FVec F S64x512 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S2048x33 .f32) (main_arg1 : FVec F S2048x256 .f32) (main_arg2 : FVec F S33x64 .f32) (main_arg3 : FVec F S64 .f32) (main_arg4 : FVec F S64x64 .f32) (main_arg5 : FVec F S64 .f32) (main_arg6 : FVec F S64 .f32) (main_arg7 : FVec F S64x512 .f32) : IVec S_ 1 :=
  let main_v0 : FVec F S2048x33 .f32 := Host.absf main_arg0
  let main_cst : FVec F S_ .f32 := constant S_ .f32 0x7F800000#32
  let main_v1 : FVec F S2048x33 .f32 := broadcastInDim S2048x33 ![] bcast_S_S2048x33 main_cst
  let main_v2 : IVec S2048x33 1 := cmpf .olt main_v0 main_v1
  let main_c : IVec S_ 1 := constantI S_ 1 1#1
  let main_v3 : IVec S_ 1 := (fun x v => Host.reduce IntOp.andi x v reducesTo_S2048x33_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S33x64 .f32 := Host.absf main_arg2
  let main_cst_2 : FVec F S_ .f32 := constant S_ .f32 0x7F800000#32
  let main_v10 : FVec F S33x64 .f32 := broadcastInDim S33x64 ![] bcast_S_S33x64 main_cst_2
  let main_v11 : IVec S33x64 1 := cmpf .olt main_v9 main_v10
  let main_c_3 : IVec S_ 1 := constantI S_ 1 1#1
  let main_v12 : IVec S_ 1 := (fun x v => Host.reduce IntOp.andi x v reducesTo_S33x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S32x2048x256 : Shape := ⟨3, ![32, 2048, 256]⟩
abbrev S2048x256 : Shape := ⟨2, ![2048, 256]⟩
abbrev S256 : Shape := ⟨1, ![256]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4096x2048 : Shape := ⟨2, ![4096, 2048]⟩
abbrev S2048x4096 : Shape := ⟨2, ![2048, 4096]⟩
abbrev S1x256 : Shape := ⟨2, ![1, 256]⟩
abbrev S8x256 : Shape := ⟨2, ![8, 256]⟩
abbrev S2048x2048x1 : Shape := ⟨3, ![2048, 2048, 1]⟩
abbrev S1x2048x256 : Shape := ⟨3, ![1, 2048, 256]⟩
abbrev S2048x2048x256 : Shape := ⟨3, ![2048, 2048, 256]⟩
abbrev S4096x256 : Shape := ⟨2, ![4096, 256]⟩
abbrev S512x2048 : Shape := ⟨2, ![512, 2048]⟩
abbrev S512x256 : Shape := ⟨2, ![512, 256]⟩
abbrev S512x1 : Shape := ⟨2, ![512, 1]⟩
abbrev S512x4096 : Shape := ⟨2, ![512, 4096]⟩
abbrev S1x512x256 : Shape := ⟨3, ![1, 512, 256]⟩

abbrev nBuf : Space → Nat
  | .hbm => 73
  | .vmem => 13
  | .smem => 0
  | _ => 0

abbrev bufTy : (tb : Table) → Fin (tcTables nBuf tb) → BufTy
  | .hbm, ⟨0, _⟩ => ⟨S32x2048x256, .bf16⟩
  | .hbm, ⟨1, _⟩ => ⟨S32x2048x256, .bf16⟩
  | .hbm, ⟨2, _⟩ => ⟨S2048x256, .f32⟩
  | .hbm, ⟨3, _⟩ => ⟨S2048x256, .f32⟩
  | .hbm, ⟨4, _⟩ => ⟨S256, .f32⟩
  | .hbm, ⟨5, _⟩ => ⟨S2048, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x1, .i32⟩
  | .hbm, ⟨13, _⟩ => ⟨S1x2048, .i32⟩
  | .hbm, ⟨14, _⟩ => ⟨S2048x2048, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S4096x2048, .f32⟩
  | .hbm, ⟨29, _⟩ => ⟨S4096x2048, .bf16⟩
  | .hbm, ⟨30, _⟩ => ⟨S2048x4096, .f32⟩
  | .hbm, ⟨31, _⟩ => ⟨S2048x4096, .bf16⟩
  | .hbm, ⟨32, _⟩ => ⟨S2048x256, .i32⟩
  | .hbm, ⟨33, _⟩ => ⟨S_, .i32⟩
  | .hbm, ⟨34, _⟩ => ⟨S2048x256, .i32⟩
  | .hbm, ⟨35, _⟩ => ⟨S2048x256, .i1⟩
  | .hbm, ⟨36, _⟩ => ⟨S_, .f32⟩
  | .hbm, ⟨37, _⟩ => ⟨S_, .f32⟩
  | .hbm, ⟨38, _⟩ => ⟨S2048x256, .f32⟩
  | .hbm, ⟨39, _⟩ => ⟨S2048x256, .f32⟩
  | .hbm, ⟨40, _⟩ => ⟨S2048x256, .f32⟩
  | .hbm, ⟨41, _⟩ => ⟨S2048x256, .f32⟩
  | .hbm, ⟨42, _⟩ => ⟨S_, .i32⟩
  | .hbm, ⟨43, _⟩ => ⟨S2048x256, .i32⟩
  | .hbm, ⟨44, _⟩ => ⟨S2048x256, .i32⟩
  | .hbm, ⟨45, _⟩ => ⟨S_, .i32⟩
  | .hbm, ⟨46, _⟩ => ⟨S2048x256, .i32⟩
  | .hbm, ⟨47, _⟩ => ⟨S2048x256, .i32⟩
  | .hbm, ⟨48, _⟩ => ⟨S_, .i32⟩
  | .hbm, ⟨49, _⟩ => ⟨S2048x256, .i32⟩
  | .hbm, ⟨50, _⟩ => ⟨S2048x256, .i32⟩
  | .hbm, ⟨51, _⟩ => ⟨S2048x256, .f32⟩
  | .hbm, ⟨52, _⟩ => ⟨S2048x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S8x256, .f32⟩
  | .hbm, ⟨57, _⟩ => ⟨S2048x2048x1, .f32⟩
  | .hbm, ⟨58, _⟩ => ⟨S1x2048x256, .f32⟩
  | .hbm, ⟨59, _⟩ => ⟨S2048x2048x256, .f32⟩
  | .hbm, ⟨60, _⟩ => ⟨S2048x2048x256, .f32⟩
  | .hbm, ⟨61, _⟩ => ⟨S2048x2048x256, .f32⟩
  | .hbm, ⟨62, _⟩ => ⟨S_, .f32⟩
  | .hbm, ⟨63, _⟩ => ⟨S2048x256, .f32⟩
  | .hbm, ⟨64, _⟩ => ⟨S2048x2048x1, .f32⟩
  | .hbm, ⟨65, _⟩ => ⟨S1x2048x256, .f32⟩
  | .hbm, ⟨66, _⟩ => ⟨S2048x2048x256, .f32⟩
  | .hbm, ⟨67, _⟩ => ⟨S2048x2048x256, .f32⟩
  | .hbm, ⟨68, _⟩ => ⟨S2048x2048x256, .f32⟩
  | .hbm, ⟨69, _⟩ => ⟨S_, .f32⟩
  | .hbm, ⟨70, _⟩ => ⟨S2048x256, .f32⟩
  | .hbm, ⟨71, _⟩ => ⟨S1x256, .f32⟩
  | .hbm, ⟨72, _⟩ => ⟨S32x2048x256, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S4096x2048, .bf16⟩
  | .local _ .vmem, ⟨5, _⟩ => ⟨S2048x4096, .bf16⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | .local _ .vmem, ⟨12, _⟩ => ⟨S4096x256, .bf16⟩
  | _, _ => ⟨S32x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v21 : BitVec 32 := Scalar.muli arg11 c512_i32
  v21
def k0_mult2 (k0_t1 : Fin k0_t1_loop.trips) : BitVec 32 :=
  let c2048_i32 : BitVec 32 := 2048#32
  let c0_i32 : BitVec 32 := 0#32
  let c1_i32 : BitVec 32 := 1#32
  let arg11 : BitVec 32 := Scf.iv c0_i32 c1_i32 k0_t1
  let c512_i32_12 : BitVec 32 := 512#32
  let v23 : BitVec 32 := Scalar.muli arg11 c512_i32_12
  let v24 : BitVec 32 := Scalar.addi c2048_i32 v23
  v24
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v21 : BitVec 32 := Scalar.muli arg11 c512_i32
  let v22 : BitVec 32 := v21
  let v26 : Index := Scalar.indexCast v22
  let c0_13 : Index := 0#32
  ![v26.toNat, 0]
def k0_off2 (k0_t1 : Fin k0_t1_loop.trips) : Fin 2 → Nat :=
  let c2048_i32 : BitVec 32 := 2048#32
  let c0_i32 : BitVec 32 := 0#32
  let c1_i32 : BitVec 32 := 1#32
  let arg11 : BitVec 32 := Scf.iv c0_i32 c1_i32 k0_t1
  let c512_i32_12 : BitVec 32 := 512#32
  let v23 : BitVec 32 := Scalar.muli arg11 c512_i32_12
  let v24 : BitVec 32 := Scalar.addi c2048_i32 v23
  let v25 : BitVec 32 := v24
  let v30 : Index := Scalar.indexCast v25
  let c0_15 : Index := 0#32
  ![v30.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v21 : BitVec 32 := Scalar.muli arg11 c512_i32
  let v22 : BitVec 32 := v21
  let v43 : Index := Scalar.indexCast v22
  let c0_21 : Index := 0#32
  ![v43.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v21 : BitVec 32 := Scalar.muli arg11 c512_i32
  let v22 : BitVec 32 := v21
  let v55 : Index := Scalar.indexCast v22
  let c0_23 : Index := 0#32
  ![v55.toNat, 0]
def k0_off5 (k0_t1 : Fin k0_t1_loop.trips) : Fin 2 → Nat :=
  let c2048_i32 : BitVec 32 := 2048#32
  let c0_i32 : BitVec 32 := 0#32
  let c1_i32 : BitVec 32 := 1#32
  let arg11 : BitVec 32 := Scf.iv c0_i32 c1_i32 k0_t1
  let c512_i32_12 : BitVec 32 := 512#32
  let v23 : BitVec 32 := Scalar.muli arg11 c512_i32_12
  let v24 : BitVec 32 := Scalar.addi c2048_i32 v23
  let v25 : BitVec 32 := v24
  let v65 : Index := Scalar.indexCast v25
  let c0_24 : Index := 0#32
  ![v65.toNat, 0]
@[reducible] def k0_t2_loop : Scf.Loop 32 :=
  let c0_i32_8 : BitVec 32 := 0#32
  let c4_i32_9 : BitVec 32 := 4#32
  let v20 : BitVec 32 := Scalar.addi c0_i32_8 c4_i32_9
  let c1_i32_10 : BitVec 32 := 1#32
  ⟨c0_i32_8, v20, c1_i32_10⟩
def k0_mult3 (k0_t2 : Fin k0_t2_loop.trips) : BitVec 32 :=
  let c0_i32_8 : BitVec 32 := 0#32
  let c1_i32_10 : BitVec 32 := 1#32
  let arg11 : BitVec 32 := Scf.iv c0_i32_8 c1_i32_10 k0_t2
  let c512_i32 : BitVec 32 := 512#32
  let v21 : BitVec 32 := Scalar.muli arg11 c512_i32
  v21
def k0_off6 (k0_t2 : Fin k0_t2_loop.trips) : Fin 2 → Nat :=
  let c0_i32_8 : BitVec 32 := 0#32
  let c1_i32_10 : BitVec 32 := 1#32
  let arg11 : BitVec 32 := Scf.iv c0_i32_8 c1_i32_10 k0_t2
  let c512_i32 : BitVec 32 := 512#32
  let v21 : BitVec 32 := Scalar.muli arg11 c512_i32
  let v22 : BitVec 32 := v21
  let v23 : Index := Scalar.indexCast v22
  let c0_12 : Index := 0#32
  ![v23.toNat, 0]
def k0_off7 (k0_t2 : Fin k0_t2_loop.trips) : Fin 3 → Nat :=
  let c0_19 : Index := 0#32
  let c0_i32_8 : BitVec 32 := 0#32
  let c1_i32_10 : BitVec 32 := 1#32
  let arg11 : BitVec 32 := Scf.iv c0_i32_8 c1_i32_10 k0_t2
  let c512_i32 : BitVec 32 := 512#32
  let v21 : BitVec 32 := Scalar.muli arg11 c512_i32
  let v22 : BitVec 32 := v21
  let v36 : Index := Scalar.indexCast v22
  let c0_20 : Index := 0#32
  ![0, v36.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S32x2048x256 : Shape := ⟨3, ![32, 2048, 256]⟩
abbrev S2048x256 : Shape := ⟨2, ![2048, 256]⟩
abbrev S256 : Shape := ⟨1, ![256]⟩
abbrev S1x256 : Shape := ⟨2, ![1, 256]⟩
abbrev S_ : Shape := ⟨0, ![]⟩
abbrev S2047x256 : Shape := ⟨2, ![2047, 256]⟩
abbrev S4096x256 : Shape := ⟨2, ![4096, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x256 : Shape := ⟨3, ![2048, 2048, 256]⟩
abbrev S256x32x2048 : Shape := ⟨3, ![256, 32, 2048]⟩
abbrev S1x1x256 : Shape := ⟨3, ![1, 1, 256]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x256, .bf16⟩
  | .hbm, ⟨1, _⟩ => ⟨S32x2048x256, .bf16⟩
  | .hbm, ⟨2, _⟩ => ⟨S2048x256, .f32⟩
  | .hbm, ⟨3, _⟩ => ⟨S2048x256, .f32⟩
  | .hbm, ⟨4, _⟩ => ⟨S256, .f32⟩
  | .hbm, ⟨5, _⟩ => ⟨S32x2048x256, .f32⟩
  | .hbm, ⟨6, _⟩ => ⟨S1x256, .f32⟩
  | .hbm, ⟨7, _⟩ => ⟨S_, .f32⟩
  | .hbm, ⟨8, _⟩ => ⟨S1x256, .f32⟩
  | .hbm, ⟨9, _⟩ => ⟨S2047x256, .f32⟩
  | .hbm, ⟨10, _⟩ => ⟨S2047x256, .f32⟩
  | .hbm, ⟨11, _⟩ => ⟨S4096x256, .f32⟩
  | .hbm, ⟨12, _⟩ => ⟨S2048, .i32⟩
  | .hbm, ⟨13, _⟩ => ⟨S2048x1, .i32⟩
  | .hbm, ⟨14, _⟩ => ⟨S1x2048, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S_, .i32⟩
  | .hbm, ⟨33, _⟩ => ⟨S_, .i1⟩
  | .hbm, ⟨34, _⟩ => ⟨S2048x2048, .i1⟩
  | .hbm, ⟨35, _⟩ => ⟨S2048x2048, .i1⟩
  | .hbm, ⟨36, _⟩ => ⟨S2048x2048, .i1⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S2048x2048x1, .i32⟩
  | .hbm, ⟨41, _⟩ => ⟨S2048x2048x256, .f32⟩
  | .hbm, ⟨42, _⟩ => ⟨S256x32x2048, .f32⟩
  | .hbm, ⟨43, _⟩ => ⟨S32x2048x256, .f32⟩
  | .hbm, ⟨44, _⟩ => ⟨S1x1x256, .f32⟩
  | .hbm, ⟨45, _⟩ => ⟨S32x2048x256, .f32⟩
  | .hbm, ⟨46, _⟩ => ⟨S32x2048x256, .f32⟩
  | .hbm, ⟨47, _⟩ => ⟨S32x2048x256, .f32⟩
  | .hbm, ⟨48, _⟩ => ⟨S32x2048x256, .f32⟩
  | .hbm, ⟨49, _⟩ => ⟨S32x2048x256, .f32⟩
  | .hbm, ⟨50, _⟩ => ⟨S32x2048x256, .bf16⟩
  | _, _ => ⟨S32x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_1 : Ref sig .tc := ⟨.hbm, 26, rfl⟩
abbrev main_call0_v5 : Ref sig .tc := ⟨.hbm, 27, rfl⟩
abbrev main_call0_v6 : Ref sig .tc := ⟨.hbm, 28, rfl⟩
abbrev main_call0_c_2 : Ref sig .tc := ⟨.hbm, 29, rfl⟩
abbrev main_call0_v7 : Ref sig .tc := ⟨.hbm, 30, rfl⟩
abbrev main_call0_v8 : Ref sig .tc := ⟨.hbm, 31, rfl⟩
abbrev main_call0_c_3 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_v12 : Ref sig .tc := ⟨.hbm, 39, rfl⟩
abbrev main_call1_v0 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩

abbrev nD : Nat := 1
abbrev τ : Topo := Topo.v7x

variable {F : FTy → Type} [FloatOps F]
-- ==== Kernel2.lean ====
abbrev S32x16x256x1024 : Shape := ⟨4, ![32, 16, 256, 1024]⟩
abbrev S2x16x1024x1024 : Shape := ⟨4, ![2, 16, 1024, 1024]⟩
abbrev S4x1x256x1024 : Shape := ⟨4, ![4, 1, 256, 1024]⟩
abbrev S1x1x1024x1024 : Shape := ⟨4, ![1, 1, 1024, 1024]⟩
abbrev S1024x1024 : Shape := ⟨2, ![1024, 1024]⟩

abbrev nBuf : Space → Nat
  | .hbm => 5
  | .vmem => 13
  | .smem => 0
  | _ => 0

abbrev bufTy : (tb : Table) → Fin (tcTables nBuf tb) → BufTy
  | .hbm, ⟨0, _⟩ => ⟨S32x16x256x1024, .bf16⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S32x16x256x1024, .bf16⟩
  | .local _ .vmem, ⟨0, _⟩ => ⟨S4x1x256x1024, .bf16⟩
  | .local _ .vmem, ⟨1, _⟩ => ⟨S4x1x256x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S4x1x256x1024, .bf16⟩
  | .local _ .vmem, ⟨9, _⟩ => ⟨S4x1x256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S32x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S32x16x256x1024 : Shape := ⟨4, ![32, 16, 256, 1024]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S16x1024x32x256 : Shape := ⟨4, ![16, 1024, 32, 256]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S32x16x256x1024, .bf16⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S32x16x256x1024, .f32⟩
  | .hbm, ⟨5, _⟩ => ⟨S1x16x1024x1024, .f32⟩
  | .hbm, ⟨6, _⟩ => ⟨S16x1024x1024, .f32⟩
  | .hbm, ⟨7, _⟩ => ⟨S1x16x1024x1024, .f32⟩
  | .hbm, ⟨8, _⟩ => ⟨S16x1024x1024, .f32⟩
  | .hbm, ⟨9, _⟩ => ⟨S1x16x1024x1024, .f32⟩
  | .hbm, ⟨10, _⟩ => ⟨S16x1024x1024, .f32⟩
  | .hbm, ⟨11, _⟩ => ⟨S16x1024x32x256, .f32⟩
  | .hbm, ⟨12, _⟩ => ⟨S32x16x256x1024, .f32⟩
  | .hbm, ⟨13, _⟩ => ⟨S32x16x256x1024, .f32⟩
  | .hbm, ⟨14, _⟩ => ⟨S32x16x256x1024, .f32⟩
  | .hbm, ⟨15, _⟩ => ⟨S_, .f32⟩
  | .hbm, ⟨16, _⟩ => ⟨S32x16x256x1024, .f32⟩
  | .hbm, ⟨17, _⟩ => ⟨S32x16x256x1024, .f32⟩
  | .hbm, ⟨18, _⟩ => ⟨S_, .f32⟩
  | .hbm, ⟨19, _⟩ => ⟨S32x16x256x1024, .f32⟩
  | .hbm, ⟨20, _⟩ => ⟨S32x16x256x1024, .f32⟩
  | .hbm, ⟨21, _⟩ => ⟨S32x16x256x1024, .f32⟩
  | .hbm, ⟨22, _⟩ => ⟨S16x1024x32x256, .f32⟩
  | .hbm, ⟨23, _⟩ => ⟨S32x16x256x1024, .f32⟩
  | .hbm, ⟨24, _⟩ => ⟨S32x16x256x1024, .f32⟩
  | .hbm, ⟨25, _⟩ => ⟨S16x1024x32x256, .f32⟩
  | .hbm, ⟨26, _⟩ => ⟨S32x16x256x1024, .f32⟩
  | .hbm, ⟨27, _⟩ => ⟨S32x16x256x1024, .bf16⟩
  | _, _ => ⟨S32x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x3592 : Shape := ⟨2, ![1024, 3592]⟩
abbrev S3x768 : Shape := ⟨2, ![3, 768]⟩
abbrev S1024x768 : Shape := ⟨2, ![1024, 768]⟩
abbrev S1024x256 : Shape := ⟨2, ![1024, 256]⟩
abbrev S1024x512 : Shape := ⟨2, ![1024, 512]⟩
abbrev S1024x1280 : Shape := ⟨2, ![1024, 1280]⟩
abbrev S1024x3584 : Shape := ⟨2, ![1024, 3584]⟩
abbrev S1024x8 : Shape := ⟨2, ![1024, 8]⟩
abbrev S8x1024 : Shape := ⟨2, ![8, 1024]⟩
abbrev S65536x1024 : Shape := ⟨2, ![65536, 1024]⟩
abbrev S1x1024 : Shape := ⟨2, ![1, 1024]⟩
abbrev S65536x256 : Shape := ⟨2, ![65536, 256]⟩
abbrev S65536x512 : Shape := ⟨2, ![65536, 512]⟩
abbrev S65536x768 : Shape := ⟨2, ![65536, 768]⟩
abbrev S65536x1280 : Shape := ⟨2, ![65536, 1280]⟩
abbrev S512x8x128 : Shape := ⟨3, ![512, 8, 128]⟩
abbrev S1024x1024 : Shape := ⟨2, ![1024, 1024]⟩
abbrev S16x1024 : Shape := ⟨2, ![16, 1024]⟩
abbrev S8x8x128 : Shape := ⟨3, ![8, 8, 128]⟩
abbrev S1024x1 : Shape := ⟨2, ![1024, 1]⟩
abbrev S16 : Shape := ⟨1, ![16]⟩
abbrev S16x1 : Shape := ⟨2, ![16, 1]⟩
abbrev S1056x1024 : Shape := ⟨2, ![1056, 1024]⟩
abbrev S1056x768 : Shape := ⟨2, ![1056, 768]⟩
abbrev S1x768 : Shape := ⟨2, ![1, 768]⟩
abbrev S8x128 : Shape := ⟨2, ![8, 128]⟩
abbrev S1x8x128 : Shape := ⟨3, ![1, 8, 128]⟩

abbrev nBuf : Space → Nat
  | .hbm => 23
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3592, .f32⟩
  | .hbm, ⟨3, _⟩ => ⟨S3x768, .f32⟩
  | .hbm, ⟨4, _⟩ => ⟨S1024x768, .f32⟩
  | .hbm, ⟨5, _⟩ => ⟨S1024x256, .f32⟩
  | .hbm, ⟨6, _⟩ => ⟨S1024x512, .f32⟩
  | .hbm, ⟨7, _⟩ => ⟨S1024x768, .f32⟩
  | .hbm, ⟨8, _⟩ => ⟨S1024x1280, .f32⟩
  | .hbm, ⟨9, _⟩ => ⟨S1024x3584, .f32⟩
  | .hbm, ⟨10, _⟩ => ⟨S1024x3584, .bf16⟩
  | .hbm, ⟨11, _⟩ => ⟨S1024x8, .f32⟩
  | .hbm, ⟨12, _⟩ => ⟨S8x1024, .f32⟩
  | .hbm, ⟨13, _⟩ => ⟨S8x1024, .bf16⟩
  | .hbm, ⟨14, _⟩ => ⟨S65536x1024, .f32⟩
  | .hbm, ⟨15, _⟩ => ⟨S1x1024, .f32⟩
  | .hbm, ⟨16, _⟩ => ⟨S65536x256, .bf16⟩
  | .hbm, ⟨17, _⟩ => ⟨S65536x256, .bf16⟩
  | .hbm, ⟨18, _⟩ => ⟨S65536x256, .bf16⟩
  | .hbm, ⟨19, _⟩ => ⟨S65536x512, .bf16⟩
  | .hbm, ⟨20, _⟩ => ⟨S65536x768, .bf16⟩
  | .hbm, ⟨21, _⟩ => ⟨S65536x1280, .bf16⟩
  | .hbm, ⟨22, _⟩ => ⟨S512x8x128, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x3584, .bf16⟩
  | .local _ .vmem, ⟨8, _⟩ => ⟨S8x1024, .bf16⟩
  | .local _ .vmem, ⟨9, _⟩ => ⟨S3x768, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x512, .bf16⟩
  | .local _ .vmem, ⟨17, _⟩ => ⟨S1024x512, .bf16⟩
  | .local _ .vmem, ⟨18, _⟩ => ⟨S1024x768, .bf16⟩
  | .local _ .vmem, ⟨19, _⟩ => ⟨S1024x768, .bf16⟩
  | .local _ .vmem, ⟨20, _⟩ => ⟨S1024x1280, .bf16⟩
  | .local _ .vmem, ⟨21, _⟩ => ⟨S1024x1280, .bf16⟩
  | .local _ .vmem, ⟨22, _⟩ => ⟨S8x8x128, .f32⟩
  | .local _ .vmem, ⟨23, _⟩ => ⟨S8x8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev main_v12_5 : Ref sig .tc := ⟨.hbm, 21, rfl⟩
abbrev main_v12_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1280 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32x2048x1024 : Shape := ⟨3, ![32, 2048, 1024]⟩
abbrev S1024 : Shape := ⟨1, ![1024]⟩
abbrev S1024x3592 : Shape := ⟨2, ![1024, 3592]⟩
abbrev S3x768 : Shape := ⟨2, ![3, 768]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3592 : Shape := ⟨3, ![32, 2048, 3592]⟩
abbrev S32x2048x768 : Shape := ⟨3, ![32, 2048, 768]⟩
abbrev S32x1x768 : Shape := ⟨3, ![32, 1, 768]⟩
abbrev S32x2047x768 : Shape := ⟨3, ![32, 2047, 768]⟩
abbrev S1x768 : Shape := ⟨2, ![1, 768]⟩
abbrev S768 : Shape := ⟨1, ![768]⟩
abbrev S1x1x768 : Shape := ⟨3, ![1, 1, 768]⟩
abbrev S32x2048x256 : Shape := ⟨3, ![32, 2048, 256]⟩
abbrev S32x2048x8 : Shape := ⟨3, ![32, 2048, 8]⟩
abbrev S512x128x8 : Shape := ⟨3, ![512, 128, 8]⟩
abbrev S512x8x128 : Shape := ⟨3, ![512, 8, 128]⟩
abbrev S65536x256 : Shape := ⟨2, ![65536, 256]⟩
abbrev S32x2048x512 : Shape := ⟨3, ![32, 2048, 512]⟩
abbrev S65536x512 : Shape := ⟨2, ![65536, 512]⟩
abbrev S65536x768 : Shape := ⟨2, ![65536, 768]⟩
abbrev S32x2048x1280 : Shape := ⟨3, ![32, 2048, 1280]⟩
abbrev S65536x1280 : Shape := ⟨2, ![65536, 1280]⟩

abbrev nBuf : Space → Nat
  | .hbm => 68
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3592, .f32⟩
  | .hbm, ⟨3, _⟩ => ⟨S3x768, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x3592, .f32⟩
  | .hbm, ⟨21, _⟩ => ⟨S32x2048x768, .f32⟩
  | .hbm, ⟨22, _⟩ => ⟨S_, .f32⟩
  | .hbm, ⟨23, _⟩ => ⟨S32x1x768, .f32⟩
  | .hbm, ⟨24, _⟩ => ⟨S32x2047x768, .f32⟩
  | .hbm, ⟨25, _⟩ => ⟨S32x2048x768, .f32⟩
  | .hbm, ⟨26, _⟩ => ⟨S32x2047x768, .f32⟩
  | .hbm, ⟨27, _⟩ => ⟨S32x2048x768, .f32⟩
  | .hbm, ⟨28, _⟩ => ⟨S1x768, .f32⟩
  | .hbm, ⟨29, _⟩ => ⟨S768, .f32⟩
  | .hbm, ⟨30, _⟩ => ⟨S1x1x768, .f32⟩
  | .hbm, ⟨31, _⟩ => ⟨S32x2048x768, .f32⟩
  | .hbm, ⟨32, _⟩ => ⟨S32x2048x768, .f32⟩
  | .hbm, ⟨33, _⟩ => ⟨S1x768, .f32⟩
  | .hbm, ⟨34, _⟩ => ⟨S768, .f32⟩
  | .hbm, ⟨35, _⟩ => ⟨S1x1x768, .f32⟩
  | .hbm, ⟨36, _⟩ => ⟨S32x2048x768, .f32⟩
  | .hbm, ⟨37, _⟩ => ⟨S32x2048x768, .f32⟩
  | .hbm, ⟨38, _⟩ => ⟨S32x2048x768, .f32⟩
  | .hbm, ⟨39, _⟩ => ⟨S1x768, .f32⟩
  | .hbm, ⟨40, _⟩ => ⟨S768, .f32⟩
  | .hbm, ⟨41, _⟩ => ⟨S1x1x768, .f32⟩
  | .hbm, ⟨42, _⟩ => ⟨S32x2048x768, .f32⟩
  | .hbm, ⟨43, _⟩ => ⟨S32x2048x768, .f32⟩
  | .hbm, ⟨44, _⟩ => ⟨S32x2048x768, .f32⟩
  | .hbm, ⟨45, _⟩ => ⟨S32x2048x256, .f32⟩
  | .hbm, ⟨46, _⟩ => ⟨S32x2048x256, .f32⟩
  | .hbm, ⟨47, _⟩ => ⟨S32x2048x256, .f32⟩
  | .hbm, ⟨48, _⟩ => ⟨S32x2048x8, .f32⟩
  | .hbm, ⟨49, _⟩ => ⟨S512x128x8, .f32⟩
  | .hbm, ⟨50, _⟩ => ⟨S512x8x128, .f32⟩
  | .hbm, ⟨51, _⟩ => ⟨S32x2048x256, .f32⟩
  | .hbm, ⟨52, _⟩ => ⟨S32x2048x256, .bf16⟩
  | .hbm, ⟨53, _⟩ => ⟨S65536x256, .bf16⟩
  | .hbm, ⟨54, _⟩ => ⟨S32x2048x256, .bf16⟩
  | .hbm, ⟨55, _⟩ => ⟨S65536x256, .bf16⟩
  | .hbm, ⟨56, _⟩ => ⟨S32x2048x256, .f32⟩
  | .hbm, ⟨57, _⟩ => ⟨S32x2048x256, .bf16⟩
  | .hbm, ⟨58, _⟩ => ⟨S65536x256, .bf16⟩
  | .hbm, ⟨59, _⟩ => ⟨S32x2048x512, .f32⟩
  | .hbm, ⟨60, _⟩ => ⟨S32x2048x512, .bf16⟩
  | .hbm, ⟨61, _⟩ => ⟨S65536x512, .bf16⟩
  | .hbm, ⟨62, _⟩ => ⟨S32x2048x768, .f32⟩
  | .hbm, ⟨63, _⟩ => ⟨S32x2048x768, .bf16⟩
  | .hbm, ⟨64, _⟩ => ⟨S65536x768, .bf16⟩
  | .hbm, ⟨65, _⟩ => ⟨S32x2048x1280, .f32⟩
  | .hbm, ⟨66, _⟩ => ⟨S32x2048x1280, .bf16⟩
  | .hbm, ⟨67, _⟩ => ⟨S65536x1280, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩

abbrev nD : Nat := 1
abbrev τ : Topo := Topo.v7x

variable {F : FTy → Type} [FloatOps F]
-- ==== Kernel4.lean ====
abbrev S65536x1024 : Shape := ⟨2, ![65536, 1024]⟩
abbrev S65536x256 : Shape := ⟨2, ![65536, 256]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S4x256x1024 : Shape := ⟨3, ![4, 256, 1024]⟩
abbrev S1x1024 : Shape := ⟨2, ![1, 1024]⟩
abbrev S16x65536 : Shape := ⟨2, ![16, 65536]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S16x1024, .f32⟩
  | .hbm, ⟨9, _⟩ => ⟨S16x1024, .bf16⟩
  | .hbm, ⟨10, _⟩ => ⟨S16x1024, .f32⟩
  | .hbm, ⟨11, _⟩ => ⟨S16x1024, .f32⟩
  | .hbm, ⟨12, _⟩ => ⟨S16x1024, .bf16⟩
  | .hbm, ⟨13, _⟩ => ⟨S4x256x1024, .f32⟩
  | .hbm, ⟨14, _⟩ => ⟨S4x256x1024, .bf16⟩
  | .hbm, ⟨15, _⟩ => ⟨S1x1024, .f32⟩
  | .hbm, ⟨16, _⟩ => ⟨S65536x1024, .f32⟩
  | .hbm, ⟨17, _⟩ => ⟨S65536x1024, .bf16⟩
  | .hbm, ⟨18, _⟩ => ⟨S16x65536, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S4x256x1024, .bf16⟩
  | .local _ .vmem, ⟨11, _⟩ => ⟨S1x1024, .f32⟩
  | .local _ .vmem, ⟨12, _⟩ => ⟨S16x1024, .bf16⟩
  | .local _ .vmem, ⟨13, _⟩ => ⟨S16x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | .local _ .vmem, ⟨18, _⟩ => ⟨S16x1024, .f32⟩
  | .local _ .vmem, ⟨19, _⟩ => ⟨S16x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S65536x1024 : Shape := ⟨2, ![65536, 1024]⟩
abbrev S65536x256 : Shape := ⟨2, ![65536, 256]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S16x65536 : Shape := ⟨2, ![16, 65536]⟩

abbrev nBuf : Space → Nat
  | .hbm => 30
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S65536x1024, .bf16⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x1, .f32⟩
  | .hbm, ⟨23, _⟩ => ⟨S65536x1024, .f32⟩
  | .hbm, ⟨24, _⟩ => ⟨S65536x1024, .f32⟩
  | .hbm, ⟨25, _⟩ => ⟨S1x1024, .f32⟩
  | .hbm, ⟨26, _⟩ => ⟨S65536x1024, .f32⟩
  | .hbm, ⟨27, _⟩ => ⟨S65536x1024, .f32⟩
  | .hbm, ⟨28, _⟩ => ⟨S65536x1024, .bf16⟩
  | .hbm, ⟨29, _⟩ => ⟨S16x65536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel5.lean ====
abbrev S2048x33 : Shape := ⟨2, ![2048, 33]⟩
abbrev S2048x256 : Shape := ⟨2, ![2048, 256]⟩
abbrev S33x64 : Shape := ⟨2, ![33, 64]⟩
abbrev S64 : Shape := ⟨1, ![64]⟩
abbrev S64x64 : Shape := ⟨2, ![64, 64]⟩
abbrev S64x512 : Shape := ⟨2, ![64, 512]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S4096x2048 : Shape := ⟨2, ![4096, 2048]⟩
abbrev S2048x128 : Shape := ⟨2, ![2048, 128]⟩
abbrev S128x64 : Shape := ⟨2, ![128, 64]⟩
abbrev S1 : Shape := ⟨1, ![1]⟩
abbrev S1x64 : Shape := ⟨2, ![1, 64]⟩
abbrev S8x256 : Shape := ⟨2, ![8, 256]⟩
abbrev S256x2048 : Shape := ⟨2, ![256, 2048]⟩
abbrev S256x256 : Shape := ⟨2, ![256, 256]⟩
abbrev S1x256 : Shape := ⟨2, ![1, 256]⟩
abbrev S256x128 : Shape := ⟨2, ![256, 128]⟩
abbrev S256x64 : Shape := ⟨2, ![256, 64]⟩
abbrev S256x512 : Shape := ⟨2, ![256, 512]⟩
abbrev S256 : Shape := ⟨1, ![256]⟩

abbrev nBuf : Space → Nat
  | .hbm => 50
  | .vmem => 25
  | .smem => 0
  | _ => 0

abbrev bufTy : (tb : Table) → Fin (tcTables nBuf tb) → BufTy
  | .hbm, ⟨0, _⟩ => ⟨S2048x33, .f32⟩
  | .hbm, ⟨1, _⟩ => ⟨S2048x256, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x512, .f32⟩
  | .hbm, ⟨8, _⟩ => ⟨S2048, .i32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S4096x2048, .f32⟩
  | .hbm, ⟨32, _⟩ => ⟨S4096x2048, .bf16⟩
  | .hbm, ⟨33, _⟩ => ⟨S4096x2048, .f32⟩
  | .hbm, ⟨34, _⟩ => ⟨S4096x2048, .f32⟩
  | .hbm, ⟨35, _⟩ => ⟨S4096x2048, .bf16⟩
  | .hbm, ⟨36, _⟩ => ⟨S_, .i32⟩
  | .hbm, ⟨37, _⟩ => ⟨S_, .f32⟩
  | .hbm, ⟨38, _⟩ => ⟨S2048x128, .f32⟩
  | .hbm, ⟨39, _⟩ => ⟨S_, .f32⟩
  | .hbm, ⟨40, _⟩ => ⟨S128x64, .f32⟩
  | .hbm, ⟨41, _⟩ => ⟨S_, .i32⟩
  | .hbm, ⟨42, _⟩ => ⟨S1, .i32⟩
  | .hbm, ⟨43, _⟩ => ⟨S128x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S2048x256, .f32⟩
  | .hbm, ⟨48, _⟩ => ⟨S2048x256, .f32⟩
  | .hbm, ⟨49, _⟩ => ⟨S8x256, .f32⟩
  | .local _ .vmem, ⟨0, _⟩ => ⟨S2048x128, .f32⟩
  | .local _ .vmem, ⟨1, _⟩ => ⟨S128x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S1x64, .f32⟩
  | .local _ .vmem, ⟨6, _⟩ => ⟨S64x512, .f32⟩
  | .local _ .vmem, ⟨7, _⟩ => ⟨S2048x256, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S8x256, .f32⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | _, _ => ⟨S2048x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_call0_v0 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30_0 : Ref sig .tc := ⟨.hbm, 47, rfl⟩
abbrev main_v30_1 : Ref sig .tc := ⟨.hbm, 48, rfl⟩
abbrev main_v30_2 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_34 : BitVec 32 := 0#32
  let c8_i32 : BitVec 32 := 8#32
  let v34 : BitVec 32 := Scalar.addi c0_i32_34 c8_i32
  let c1_i32 : BitVec 32 := 1#32
  ⟨c0_i32_34, v34, c1_i32⟩
def k0_mult1 (k0_t1 : Fin k0_t1_loop.trips) : BitVec 32 :=
  let c0_i32_34 : BitVec 32 := 0#32
  let c1_i32 : BitVec 32 := 1#32
  let arg20 : BitVec 32 := Scf.iv c0_i32_34 c1_i32 k0_t1
  let c256_i32 : BitVec 32 := 256#32
  let v39 : BitVec 32 := Scalar.muli arg20 c256_i32
  v39
def k0_off1 (k0_t1 : Fin k0_t1_loop.trips) : Fin 2 → Nat :=
  let c0_i32_34 : BitVec 32 := 0#32
  let c1_i32 : BitVec 32 := 1#32
  let arg20 : BitVec 32 := Scf.iv c0_i32_34 c1_i32 k0_t1
  let c256_i32 : BitVec 32 := 256#32
  let v39 : BitVec 32 := Scalar.muli arg20 c256_i32
  let v40 : BitVec 32 := v39
  let v43 : Index := Scalar.indexCast v40
  let c0_40 : Index := 0#32
  ![v43.toNat, 0]
def k0_off2 (k0_t1 : Fin k0_t1_loop.trips) : Fin 2 → Nat :=
  let c0_i32_34 : BitVec 32 := 0#32
  let c1_i32 : BitVec 32 := 1#32
  let arg20 : BitVec 32 := Scf.iv c0_i32_34 c1_i32 k0_t1
  let c256_i32 : BitVec 32 := 256#32
  let v39 : BitVec 32 := Scalar.muli arg20 c256_i32
  let v40 : BitVec 32 := v39
  let v67 : Index := Scalar.indexCast v40
  let c0_54 : Index := 0#32
  ![v67.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S2048x33 : Shape := ⟨2, ![2048, 33]⟩
abbrev S2048x256 : Shape := ⟨2, ![2048, 256]⟩
abbrev S33x64 : Shape := ⟨2, ![33, 64]⟩
abbrev S64 : Shape := ⟨1, ![64]⟩
abbrev S64x64 : Shape := ⟨2, ![64, 64]⟩
abbrev S64x512 : Shape := ⟨2, ![64, 512]⟩
abbrev S2048x64 : Shape := ⟨2, ![2048, 64]⟩
abbrev S1x64 : Shape := ⟨2, ![1, 64]⟩
abbrev S2048x512 : Shape := ⟨2, ![2048, 512]⟩
abbrev S2048x2x256 : Shape := ⟨3, ![2048, 2, 256]⟩
abbrev S2048x1x256 : Shape := ⟨3, ![2048, 1, 256]⟩
abbrev S1x256 : Shape := ⟨2, ![1, 256]⟩
abbrev S_ : Shape := ⟨0, ![]⟩
abbrev S2047x256 : Shape := ⟨2, ![2047, 256]⟩
abbrev S4096x256 : Shape := ⟨2, ![4096, 256]⟩
abbrev S2049 : Shape := ⟨1, ![2049]⟩
abbrev S2049x1 : Shape := ⟨2, ![2049, 1]⟩
abbrev S4096 : Shape := ⟨1, ![4096]⟩
abbrev S1x4096 : Shape := ⟨2, ![1, 4096]⟩
abbrev S2049x4096 : Shape := ⟨2, ![2049, 4096]⟩
abbrev S2049x256 : Shape := ⟨2, ![2049, 256]⟩
abbrev S8x256 : Shape := ⟨2, ![8, 256]⟩

abbrev nBuf : Space → Nat
  | .hbm => 90
  | .vmem => 0
  | .smem => 0
  | _ => 0

abbrev bufTy : (tb : Table) → Fin (tcTables nBuf tb) → BufTy
  | .hbm, ⟨0, _⟩ => ⟨S2048x33, .f32⟩
  | .hbm, ⟨1, _⟩ => ⟨S2048x256, .f32⟩
  | .hbm, ⟨2, _⟩ => ⟨S33x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64, .f32⟩
  | .hbm, ⟨7, _⟩ => ⟨S64x512, .f32⟩
  | .hbm, ⟨8, _⟩ => ⟨S2048x64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S1x64, .f32⟩
  | .hbm, ⟨18, _⟩ => ⟨S2048x64, .f32⟩
  | .hbm, ⟨19, _⟩ => ⟨S2048x64, .f32⟩
  | .hbm, ⟨20, _⟩ => ⟨S1x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x512, .f32⟩
  | .hbm, ⟨25, _⟩ => ⟨S2048x2x256, .f32⟩
  | .hbm, ⟨26, _⟩ => ⟨S2048x1x256, .f32⟩
  | .hbm, ⟨27, _⟩ => ⟨S2048x2x256, .f32⟩
  | .hbm, ⟨28, _⟩ => ⟨S2048x2x256, .f32⟩
  | .hbm, ⟨29, _⟩ => ⟨S2048x1x256, .f32⟩
  | .hbm, ⟨30, _⟩ => ⟨S2048x256, .f32⟩
  | .hbm, ⟨31, _⟩ => ⟨S2048x1x256, .f32⟩
  | .hbm, ⟨32, _⟩ => ⟨S2048x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S2047x256, .f32⟩
  | .hbm, ⟨37, _⟩ => ⟨S2047x256, .f32⟩
  | .hbm, ⟨38, _⟩ => ⟨S4096x256, .f32⟩
  | .hbm, ⟨39, _⟩ => ⟨S2049, .i32⟩
  | .hbm, ⟨40, _⟩ => ⟨S2049x1, .i32⟩
  | .hbm, ⟨41, _⟩ => ⟨S4096, .i32⟩
  | .hbm, ⟨42, _⟩ => ⟨S1x4096, .i32⟩
  | .hbm, ⟨43, _⟩ => ⟨S2049x4096, .i32⟩
  | .hbm, ⟨44, _⟩ => ⟨S2049x4096, .i32⟩
  | .hbm, ⟨45, _⟩ => ⟨S2049x4096, .i32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S2049x4096, .i32⟩
  | .hbm, ⟨59, _⟩ => ⟨S2049x4096, .i32⟩
  | .hbm, ⟨60, _⟩ => ⟨S_, .i32⟩
  | .hbm, ⟨61, _⟩ => ⟨S2049x4096, .i32⟩
  | .hbm, ⟨62, _⟩ => ⟨S2049x4096, .i1⟩
  | .hbm, ⟨63, _⟩ => ⟨S_, .i32⟩
  | .hbm, ⟨64, _⟩ => ⟨S2049x4096, .i32⟩
  | .hbm, ⟨65, _⟩ => ⟨S2049x4096, .i1⟩
  | .hbm, ⟨66, _⟩ => ⟨S_, .i32⟩
  | .hbm, ⟨67, _⟩ => ⟨S_, .i1⟩
  | .hbm, ⟨68, _⟩ => ⟨S2049x4096, .i1⟩
  | .hbm, ⟨69, _⟩ => ⟨S2049x4096, .i1⟩
  | .hbm, ⟨70, _⟩ => ⟨S2049x4096, .i1⟩
  | .hbm, ⟨71, _⟩ => ⟨S2049x4096, .i32⟩
  | .hbm, ⟨72, _⟩ => ⟨S2049x4096, .i32⟩
  | .hbm, ⟨73, _⟩ => ⟨S2049x4096, .i32⟩
  | .hbm, ⟨74, _⟩ => ⟨S2049x4096, .f32⟩
  | .hbm, ⟨75, _⟩ => ⟨S2049x4096, .f32⟩
  | .hbm, ⟨76, _⟩ => ⟨S2049x4096, .f32⟩
  | .hbm, ⟨77, _⟩ => ⟨S_, .f32⟩
  | .hbm, ⟨78, _⟩ => ⟨S2049x4096, .f32⟩
  | .hbm, ⟨79, _⟩ => ⟨S2049x4096, .f32⟩
  | .hbm, ⟨80, _⟩ => ⟨S2049x4096, .f32⟩
  | .hbm, ⟨81, _⟩ => ⟨S2049x256, .f32⟩
  | .hbm, ⟨82, _⟩ => ⟨S2049x4096, .f32⟩
  | .hbm, ⟨83, _⟩ => ⟨S2049x256, .f32⟩
  | .hbm, ⟨84, _⟩ => ⟨S2049x256, .f32⟩
  | .hbm, ⟨85, _⟩ => ⟨S2048x256, .f32⟩
  | .hbm, ⟨86, _⟩ => ⟨S2048x256, .f32⟩
  | .hbm, ⟨87, _⟩ => ⟨S2048x256, .f32⟩
  | .hbm, ⟨88, _⟩ => ⟨S1x256, .f32⟩
  | .hbm, ⟨89, _⟩ => ⟨S8x256, .f32⟩
  | _, _ => ⟨S2048x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_c : Ref sig .tc := ⟨.hbm, 52, rfl⟩
abbrev main_call0_v0 : Ref sig .tc := ⟨.hbm, 53, rfl⟩
abbrev main_call0_c : Ref sig .tc := ⟨.hbm, 54, rfl⟩
abbrev main_call0_v1 : Ref sig .tc := ⟨.hbm, 55, rfl⟩
abbrev main_call0_c_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_1 : Ref sig .tc := ⟨.hbm, 60, rfl⟩
abbrev main_call0_v5 : Ref sig .tc := ⟨.hbm, 61, rfl⟩
abbrev main_call0_v6 : Ref sig .tc := ⟨.hbm, 62, rfl⟩
abbrev main_call0_c_2 : Ref sig .tc := ⟨.hbm, 63, rfl⟩
abbrev main_call0_v7 : Ref sig .tc := ⟨.hbm, 64, rfl⟩
abbrev main_call0_v8 : Ref sig .tc := ⟨.hbm, 65, rfl⟩
abbrev main_call0_c_3 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_v12 : Ref sig .tc := ⟨.hbm, 70, rfl⟩
abbrev main_call0_v13 : Ref sig .tc := ⟨.hbm, 71, rfl⟩
abbrev main_call0_v14 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_3 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩

abbrev nD : Nat := 1
abbrev τ : Topo := Topo.v7x

variable {F : FTy → Type} [FloatOps F]
-- ==== Proof.Hyena.IdealRun.lean ====
/- One step of the long convolution's body, run once over its memory operations. The first loop fills the scratch array of spectra, the
   second reads it; as the first loop's stores cover the scratch array, what the second reads does not depend on what was there. -/
module

public import proofs.«01_k».proof.Proof.Gen.KernelIdeal.Frame.Runs

@[expose] public section

set_option maxRecDepth 16384

noncomputable section

namespace Cert.KernelIdeal.Hyena

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x2048x256 .bf16) (harg1 : arg1.IsWhole)
  (arg2 : Memref sig .tc .vmem S1x2048x256 .bf16) (harg2 : arg2.IsWhole)
  (arg3 : Memref sig .tc .vmem S4096x2048 .bf16) (harg3 : arg3.IsWhole)
  (arg4 : Memref sig .tc .vmem S2048x4096 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S8x256 .f32) (harg7 : arg7.IsWhole)
  (arg8 : Memref sig .tc .vmem S1x256 .f32) (harg8 : arg8.IsWhole)
  (arg9 : Memref sig .tc .vmem S1x2048x256 .bf16) (harg9 : arg9.IsWhole)
  (arg10 : Memref sig .tc .vmem S4096x256 .bf16) (harg10 : arg10.IsWhole)

/-- The eight stores of the first loop cover the scratch array. -/
theorem scratch_cover (v0 : Vec F S1x2048x256 .bf16) (X3 : BufTy.Contents (Elt F) arg3.view.ty) (X5 : BufTy.Contents (Elt F) arg5.view.ty)
    (X6 : BufTy.Contents (Elt F) arg6.view.ty) (y : S4096x256.Idx) :
    ∃ pc ∈ pb_k0_t1 (F := F) Variants.none c none i arg1 harg1 arg2 harg2 arg3 harg3 arg4 harg4 arg5 harg5 arg6 harg6 arg7 harg7 arg8 harg8 arg9 harg9 arg10 harg10 v0 X3 X5 X6 k0_t1_loop.trips, y ∈ pc.1.set :=
  View.cover_of_tiledL (pb_k0_t1 (F := F) Variants.none c none i arg1 harg1 arg2 harg2 arg3 harg3 arg4 harg4 arg5 harg5 arg6 harg6 arg7 harg7 arg8 harg8 arg9 harg9 arg10 harg10 v0 X3 X5 X6 k0_t1_loop.trips) S512x256.size (by sl_kernel_rfl) y

/-- So its contents are the stores', whatever it held. -/
theorem scratch_eq (v0 : Vec F S1x2048x256 .bf16) (X3 : BufTy.Contents (Elt F) arg3.view.ty) (X5 : BufTy.Contents (Elt F) arg5.view.ty)
    (X6 : BufTy.Contents (Elt F) arg6.view.ty) (f g : BufTy.Contents (Elt F) arg10.view.ty) :
    arg10.view.writes (Elt F) f (pb_k0_t1 (F := F) Variants.none c none i arg1 harg1 arg2 harg2 arg3 harg3 arg4 harg4 arg5 harg5 arg6 harg6 arg7 harg7 arg8 harg8 arg9 harg9 arg10 harg10 v0 X3 X5 X6 k0_t1_loop.trips)
      = arg10.view.writes (Elt F) g (pb_k0_t1 (F := F) Variants.none c none i arg1 harg1 arg2 harg2 arg3 harg3 arg4 harg4 arg5 harg5 arg6 harg6 arg7 harg7 arg8 harg8 arg9 harg9 arg10 harg10 v0 X3 X5 X6 k0_t1_loop.trips) :=
  (harg10.eq_unread (View.read_writes_of_cover _ _ _ _ _ (scratch_cover c i arg1 harg1 arg2 harg2 arg3 harg3 arg4 harg4 arg5 harg5 arg6 harg6 arg7 harg7 arg8 harg8 arg9 harg9 arg10 harg10 v0 X3 X5 X6))).trans
    (harg10.unread_read _)

set_option maxHeartbeats 1000000 in
/-- What the body leaves in the result's block, as the list of its stores, with the proof that the body runs to it. -/
noncomputable def bodyRun
    (x0 : Vec F S1x2048x256 .bf16) (x1 : Vec F S1x2048x256 .bf16) (x2 : Vec F S4096x2048 .bf16) (x3 : Vec F S2048x4096 .bf16) (x4 : Vec F S2048x256 .f32) (x5 : Vec F S2048x256 .f32) (x6 : Vec F S8x256 .f32) (x7 : Vec F S1x256 .f32) :
    { L8 : List (View.Piece (Elt F) S1x2048x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d)) -∗ K ⟨⟩))
          ⊢ wp frame (wpE (defs₀ (F := F)) Variants.none c none) E (cc0_hyena_conv i arg1 harg1 arg2 harg2 arg3 harg3 arg4 harg4 arg5 harg5 arg6 harg6 arg7 harg7 arg8 harg8 arg9 harg9 arg10 harg10) K } := by
  refine ⟨?_, fun E K => ?run⟩
  case run =>
    simp only [cc0_hyena_conv_eq_skeleton]; unfold cc0_hyena_conv_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    simp only [scratch_eq c i arg1 harg1 arg2 harg2 arg3 harg3 arg4 harg4 arg5 harg5 arg6 harg6 arg7 harg7 arg8 harg8 arg9 harg9 arg10 harg10 _ _ _ _ fs0 arg10.view.junk]
    isplitl [H8]; · iexists _; iexact H8
    iexists _, _; isplitr; swap; · iexact HS0
    ipureintro; rfl

end Cert.KernelIdeal.Hyena

end
-- ==== Proof.Hyena.IdealFrame.lean ====
/- The frame of the long convolution's program: the body's run (`IdealRun`) at every grid point, and the whole run from it. -/
module

public import proofs.«01_k».proof.Proof.Hyena.IdealRun
public import Idealize.ShloMosaic.Lib.Claim

@[expose] public section

set_option maxRecDepth 16384

noncomputable section

namespace Cert.KernelIdeal.Hyena

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S1x2048x256 .bf16) (harg1 : arg1.IsWhole)
  (arg2 : Memref sig .tc .vmem S1x2048x256 .bf16) (harg2 : arg2.IsWhole)
  (arg3 : Memref sig .tc .vmem S4096x2048 .bf16) (harg3 : arg3.IsWhole)
  (arg4 : Memref sig .tc .vmem S2048x4096 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S8x256 .f32) (harg7 : arg7.IsWhole)
  (arg8 : Memref sig .tc .vmem S1x256 .f32) (harg8 : arg8.IsWhole)
  (arg9 : Memref sig .tc .vmem S1x2048x256 .bf16) (harg9 : arg9.IsWhole)
  (arg10 : Memref sig .tc .vmem S4096x256 .bf16) (harg10 : arg10.IsWhole)

variable (m : (ℓ : Loc nD τ sig) → Buf (Elt F) ℓ) (ρ : Dev nD → PrngReg)
/-- The four stores cover the block. -/
theorem block_cover     (x0 : Vec F S1x2048x256 .bf16) (x1 : Vec F S1x2048x256 .bf16) (x2 : Vec F S4096x2048 .bf16) (x3 : Vec F S2048x4096 .bf16) (x4 : Vec F S2048x256 .f32) (x5 : Vec F S2048x256 .f32) (x6 : Vec F S8x256 .f32) (x7 : Vec F S1x256 .f32) (y : S1x2048x256.Idx) :
    ∃ pc ∈ (bodyRun c i arg1 harg1 arg2 harg2 arg3 harg3 arg4 harg4 arg5 harg5 arg6 harg6 arg7 harg7 arg8 harg8 arg9 harg9 arg10 harg10 x0 x1 x2 x3 x4 x5 x6 x7).1, y ∈ pc.1.set :=
  View.cover_of_tiledL (bodyRun c i arg1 harg1 arg2 harg2 arg3 harg3 arg4 harg4 arg5 harg5 arg6 harg6 arg7 harg7 arg8 harg8 arg9 harg9 arg10 harg10 x0 x1 x2 x3 x4 x5 x6 x7).1 S1x512x256.size (by sl_kernel_rfl) y

/-- The block the body leaves. -/
def block     (x0 : Vec F S1x2048x256 .bf16) (x1 : Vec F S1x2048x256 .bf16) (x2 : Vec F S4096x2048 .bf16) (x3 : Vec F S2048x4096 .bf16) (x4 : Vec F S2048x256 .f32) (x5 : Vec F S2048x256 .f32) (x6 : Vec F S8x256 .f32) (x7 : Vec F S1x256 .f32) : Vec F S1x2048x256 .bf16 :=
  VO0_8.read (Elt F) (VO0_8.writes (Elt F) VO0_8.junk (bodyRun c i arg1 harg1 arg2 harg2 arg3 harg3 arg4 harg4 arg5 harg5 arg6 harg6 arg7 harg7 arg8 harg8 arg9 harg9 arg10 harg10 x0 x1 x2 x3 x4 x5 x6 x7).1)

/-- The block it leaves at grid point `t`. -/
def blockAt (c : Dev nD) (t : Fin cfg0.N) : Vec F S1x2048x256 .bf16 :=
  block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)

/-- The pipeline's data: each argument's buffer keeps its block, the result's ends with `blockAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blockAt m c t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (blockAt m c t) := by dsimp only [dats]

/-- Each argument's buffer holds its block before the body too. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point takes the first to the second. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold blockAt
  unfold block
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((bodyRun c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  iintro ⟨H0, H1, H2, H3, H4, H5, H6, H7, ⟨%e8, H8⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (block_cover c _ _ _ _ _ _ _ _ _ _ _ _ _ _ _ _ _ _ _ _ _ _ _ _ _ _ _ _ _)

/-- The table's row is the body. -/
theorem defs₀_row (t : Fin cfg0.N) :
    defs₀ (F := F) .tc cfg0.body (cfg0.bodyArgs t (cfg0.slots t)) = bodyAt0 t := by
  unfold defs₀; rw [Defs.onTc_tc]

/-- So the pipeline's obligation holds. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, its counters at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim at any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hyena

end
-- ==== Proof.Filter.IdealRun.lean ====
/- The body of the filters' spectra, run once over its memory operations: at the first grid step, where its loop computes the filters
   chunk by chunk into four scratch arrays, and at the others, which only read them. -/
module

public import proofs.«01_k».proof.Proof.Gen.Kernel5Ideal.Loops
public import proofs.«01_k».proof.Proof.Gen.Kernel5Ideal.Frame
public import Idealize.ShloMosaic.Lib.VecWindow

@[expose] public section

set_option maxRecDepth 16384

noncomputable section

namespace Cert.Kernel5Ideal.Filter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal.Gen
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S2048x128 .f32) (harg1 : arg1.IsWhole)
  (arg2 : Memref sig .tc .vmem S128x64 .f32) (harg2 : arg2.IsWhole)
  (arg3 : Memref sig .tc .vmem S1x64 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S64x512 .f32) (harg7 : arg7.IsWhole)
  (arg8 : Memref sig .tc .vmem S2048x256 .f32) (harg8 : arg8.IsWhole)
  (arg9 : Memref sig .tc .vmem S256x2048 .bf16) (harg9 : arg9.IsWhole)
  (arg10 : Memref sig .tc .vmem S256x2048 .bf16) (harg10 : arg10.IsWhole)
  (arg11 : Memref sig .tc .vmem S256x2048 .bf16) (harg11 : arg11.IsWhole)
  (arg12 : Memref sig .tc .vmem S256x2048 .bf16) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S8x256 .f32) (harg15 : arg15.IsWhole)
  (arg16 : Memref sig .tc .vmem S2048x256 .bf16) (harg16 : arg16.IsWhole)
  (arg17 : Memref sig .tc .vmem S2048x256 .bf16) (harg17 : arg17.IsWhole)
  (arg18 : Memref sig .tc .vmem S2048x256 .bf16) (harg18 : arg18.IsWhole)
  (arg19 : Memref sig .tc .vmem S2048x256 .bf16) (harg19 : arg19.IsWhole)

/-- The loop's stores into each scratch array cover it. -/
theorem cover16 (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (y : S2048x256.Idx) :
    ∃ pc ∈ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.1, y ∈ pc.1.set :=
  View.cover_of_tiledL (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.1 S256x256.size (by sl_kernel_rfl) y
theorem cover17 (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (y : S2048x256.Idx) :
    ∃ pc ∈ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.1, y ∈ pc.1.set :=
  View.cover_of_tiledL (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.1 S256x256.size (by sl_kernel_rfl) y
theorem cover18 (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (y : S2048x256.Idx) :
    ∃ pc ∈ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.2.1, y ∈ pc.1.set :=
  View.cover_of_tiledL (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.2.1 S256x256.size (by sl_kernel_rfl) y
theorem cover19 (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (y : S2048x256.Idx) :
    ∃ pc ∈ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.2.2, y ∈ pc.1.set :=
  View.cover_of_tiledL (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k0_pay7 k0_t1_loop.trips).2.2.2.2 S256x256.size (by sl_kernel_rfl) y

/-- What each scratch array holds after the first step, read through the array. -/
def held16 (h : k0_cond1 i = 1#1) (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) : Vec F S2048x256 .bf16 :=
  arg16.view.read (Elt F) (arg16.view.writes (Elt F) arg16.view.junk (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.1)
def held17 (h : k0_cond1 i = 1#1) (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) : Vec F S2048x256 .bf16 :=
  arg17.view.read (Elt F) (arg17.view.writes (Elt F) arg17.view.junk (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.1)
def held18 (h : k0_cond1 i = 1#1) (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) : Vec F S2048x256 .bf16 :=
  arg18.view.read (Elt F) (arg18.view.writes (Elt F) arg18.view.junk (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.2.1)
def held19 (h : k0_cond1 i = 1#1) (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) : Vec F S2048x256 .bf16 :=
  arg19.view.read (Elt F) (arg19.view.writes (Elt F) arg19.view.junk (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.2.2)

/-- What the first step leaves of the third result: the alternating sums of the loop. -/
def alt (h : k0_cond1 i = 1#1) (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) : Vec F S8x256 .f32 := k0_pay18 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).1

/-- The first result's block of a step, from what two scratch arrays hold. -/
def outC (x8 x9 : Vec F S256x2048 .bf16) (s0 s1 : Vec F S2048x256 .bf16) : Vec F S256x256 .f32 := k0_pay19 x8 s0 x8 s1 x9 s0
/-- The second result's block of a step, from what the other two hold. -/
def outS (x10 x11 : Vec F S256x2048 .bf16) (s2 s3 : Vec F S2048x256 .bf16) : Vec F S256x256 .f32 := k0_pay1 (k0_pay20 x10 s2 x10 s3) x11 s2

theorem outC_of {y1 y2 y3 x8 x9 : Vec F S256x2048 .bf16} {a b d s0 s1 : Vec F S2048x256 .bf16} (h1 : y1 = x8) (h2 : a = s0) (h3 : y2 = x8)
    (h4 : b = s1) (h5 : y3 = x9) (h6 : d = s0) : k0_pay19 y1 a y2 b y3 d = outC x8 x9 s0 s1 := by
  subst h1 h2 h4 h5; subst h3 h6; rfl
theorem outS_of {y1 y2 y3 x10 x11 : Vec F S256x2048 .bf16} {a b d s2 s3 : Vec F S2048x256 .bf16} {r : FVec F S256x256 .f32}
    (hr : r = k0_pay20 y1 a y2 b) (h1 : y1 = x10) (h2 : a = s2) (h3 : y2 = x10)
    (h4 : b = s3) (h5 : y3 = x11) (h6 : d = s2) : k0_pay1 r y3 d = outS x10 x11 s2 s3 := by
  subst hr h1 h2 h4 h5; subst h3 h6; rfl

set_option maxHeartbeats 4000000 in
/-- The first step. -/
theorem runFirst (h : k0_cond1 i = 1#1)
    (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) (x8 : Vec F S256x2048 .bf16) (x9 : Vec F S256x2048 .bf16) (x10 : Vec F S256x2048 .bf16) (x11 : Vec F S256x2048 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outC x8 x9 (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)) ∗ owns (c : Thread nD τ) arg14 fullShare (outS x10 x11 (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)) ∗ owns (c : Thread nD τ) arg15 fullShare (alt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) ∗ owns (c : Thread nD τ) arg16 fullShare (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) ∗ owns (c : Thread nD τ) arg17 fullShare (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) ∗ owns (c : Thread nD τ) arg18 fullShare (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7) ∗ owns (c : Thread nD τ) arg19 fullShare (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)) -∗ K ⟨⟩))
      ⊢ wp frame (wpE (defs₀ (F := F)) Variants.none c none) E (cc0_hyena_filter i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_hyena_filter_eq_skeleton]; unfold cc0_hyena_filter_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    refine (View.read_writes_full _ _ _ _ _).trans ?_
    exact outC_of ((View.readAt_full _ _ _).trans (harg9.read_unread _)) ((View.readAt_full _ _ _).trans (View.read_writes_of_cover _ _ _ _ _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7)))) ((View.readAt_full _ _ _).trans (harg9.read_unread _)) ((View.readAt_full _ _ _).trans (View.read_writes_of_cover _ _ _ _ _ (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7)))) ((View.readAt_full _ _ _).trans (harg10.read_unread _)) ((View.readAt_full _ _ _).trans (View.read_writes_of_cover _ _ _ _ _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))))
  isplitl [H13]
  · iexists _; isplitr; swap; · iexact H13
    ipureintro
    refine (View.read_writes_full _ _ _ _ _).trans ?_
    exact outS_of rfl ((View.readAt_full _ _ _).trans (harg11.read_unread _)) ((View.readAt_full _ _ _).trans (View.read_writes_of_cover _ _ _ _ _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7)))) ((View.readAt_full _ _ _).trans (harg11.read_unread _)) ((View.readAt_full _ _ _).trans (View.read_writes_of_cover _ _ _ _ _ (cover19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7)))) ((View.readAt_full _ _ _).trans (harg12.read_unread _)) ((View.readAt_full _ _ _).trans (View.read_writes_of_cover _ _ _ _ _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))))
  isplitl [H14]
  · iexists _; isplitr; swap; · iexact H14
    ipureintro
    refine (View.read_writes_full _ _ _ _ _).trans ?_
    rfl
  isplitl [H15]
  · iexists _; isplitr; swap; · iexact H15
    ipureintro
    show arg16.view.read (Elt F) (arg16.view.writes (Elt F) f15 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.1) = (held16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)
    exact View.read_writes_of_cover _ _ _ _ _ (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))
  isplitl [H16]
  · iexists _; isplitr; swap; · iexact H16
    ipureintro
    show arg17.view.read (Elt F) (arg17.view.writes (Elt F) f16 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.1) = (held17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)
    exact View.read_writes_of_cover _ _ _ _ _ (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))
  isplitl [H17]
  · iexists _; isplitr; swap; · iexact H17
    ipureintro
    show arg18.view.read (Elt F) (arg18.view.writes (Elt F) f17 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.2.1) = (held18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)
    exact View.read_writes_of_cover _ _ _ _ _ (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))
  iexists _; isplitr; swap; · iexact H18
  ipureintro
  show arg19.view.read (Elt F) (arg19.view.writes (Elt F) f18 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 k0_t1_loop.trips).2.2.2.2) = (held19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7)
  exact View.read_writes_of_cover _ _ _ _ _ (cover19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7))

set_option maxHeartbeats 4000000 in
/-- A later step. -/
theorem runLater (h : ¬k0_cond1 i = 1#1)
    (x0 : Vec F S2048x128 .f32) (x1 : Vec F S128x64 .f32) (x2 : Vec F S1x64 .f32) (x3 : Vec F S64x64 .f32) (x4 : Vec F S1x64 .f32) (x5 : Vec F S1x64 .f32) (x6 : Vec F S64x512 .f32) (x7 : Vec F S2048x256 .f32) (x8 : Vec F S256x2048 .bf16) (x9 : Vec F S256x2048 .bf16) (x10 : Vec F S256x2048 .bf16) (x11 : Vec F S256x2048 .bf16) (x14 : Vec F S8x256 .f32) (s0 : Vec F S2048x256 .bf16) (s1 : Vec F S2048x256 .bf16) (s2 : Vec F S2048x256 .bf16) (s3 : Vec F S2048x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ owns (c : Thread nD τ) arg15 fullShare x14 ∗ owns (c : Thread nD τ) arg16 fullShare s0 ∗ owns (c : Thread nD τ) arg17 fullShare s1 ∗ owns (c : Thread nD τ) arg18 fullShare s2 ∗ owns (c : Thread nD τ) arg19 fullShare s3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (outC x8 x9 s0 s1) ∗ owns (c : Thread nD τ) arg14 fullShare (outS x10 x11 s2 s3) ∗ owns (c : Thread nD τ) arg15 fullShare x14 ∗ owns (c : Thread nD τ) arg16 fullShare s0 ∗ owns (c : Thread nD τ) arg17 fullShare s1 ∗ owns (c : Thread nD τ) arg18 fullShare s2 ∗ owns (c : Thread nD τ) arg19 fullShare s3) -∗ K ⟨⟩))
      ⊢ wp frame (wpE (defs₀ (F := F)) Variants.none c none) E (cc0_hyena_filter i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_hyena_filter_eq_skeleton]; unfold cc0_hyena_filter_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%f16, %hf16, H16⟩, ⟨%f17, %hf17, H17⟩, ⟨%f18, %hf18, H18⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hf14; obtain rfl := harg16.eq_unread hf15; obtain rfl := harg17.eq_unread hf16; obtain rfl := harg18.eq_unread hf17; obtain rfl := harg19.eq_unread hf18
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap; · iexact H12
    ipureintro
    refine (View.read_writes_full _ _ _ _ _).trans ?_
    exact outC_of ((View.readAt_full _ _ _).trans (harg9.read_unread _)) ((View.readAt_full _ _ _).trans (harg16.read_unread _)) ((View.readAt_full _ _ _).trans (harg9.read_unread _)) ((View.readAt_full _ _ _).trans (harg17.read_unread _)) ((View.readAt_full _ _ _).trans (harg10.read_unread _)) ((View.readAt_full _ _ _).trans (harg16.read_unread _))
  isplitl [H13]
  · iexists _; isplitr; swap; · iexact H13
    ipureintro
    refine (View.read_writes_full _ _ _ _ _).trans ?_
    exact outS_of rfl ((View.readAt_full _ _ _).trans (harg11.read_unread _)) ((View.readAt_full _ _ _).trans (harg18.read_unread _)) ((View.readAt_full _ _ _).trans (harg11.read_unread _)) ((View.readAt_full _ _ _).trans (harg19.read_unread _)) ((View.readAt_full _ _ _).trans (harg12.read_unread _)) ((View.readAt_full _ _ _).trans (harg18.read_unread _))
  isplitl [H14]
  · iexists _; isplitr; · ipureintro; exact harg15.read_unread _
    iexact H14
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  iexists _; isplitr; · ipureintro; exact harg19.read_unread _
  iexact H18

end Cert.Kernel5Ideal.Filter

end
-- ==== Proof.Filter.IdealFrame.lean ====
/- The frame of the filters' spectra: the body's two runs at every grid point, and the whole run from them. The scratch arrays and the
   third result's block keep what the first step leaves. -/
module

public import proofs.«01_k».proof.Proof.Filter.IdealRun
public import Idealize.ShloMosaic.Lib.Claim
public import Idealize.ShloMosaic.Lib.Pipeline.TableIdle

@[expose] public section

set_option maxRecDepth 16384

noncomputable section

namespace Cert.Kernel5Ideal.Filter

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a grid point, and the scratch arrays. -/
abbrev ms0 (t : Fin cfg0.N) : Memref sig .tc .vmem S2048x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x2048 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S256x2048 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x2048 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S256x2048 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S256x256 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S256x256 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x256 .f32 := win0_14.stage (cfg0.slots t 14)
abbrev hs14 (t : Fin cfg0.N) : (ms14 t).IsWhole := hstage0_14 ((cfg0.slots t 14).cast nbuf0_14)
abbrev sc0 : Memref sig .tc .vmem S2048x256 .bf16 := Memref.whole cc0_scratch0
abbrev sc1 : Memref sig .tc .vmem S2048x256 .bf16 := Memref.whole cc0_scratch1
abbrev sc2 : Memref sig .tc .vmem S2048x256 .bf16 := Memref.whole cc0_scratch2
abbrev sc3 : Memref sig .tc .vmem S2048x256 .bf16 := Memref.whole cc0_scratch3

/-- The scratch arrays at some contents, and the generator's register. -/
theorem phi_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The body's condition holds at the first point only. -/
theorem first_iff (t : Fin cfg0.N) : k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp
   : ∀ t : Fin grid0.N, k0_cond1 (grid0.coords t) = 1#1 ↔ t.val = 0) t

/-- The first grid point. -/
abbrev p0 : Fin cfg0.N := ⟨0, Nat.lt_of_lt_of_eq (by decide : 0 < 8) N_0.symm⟩
theorem first0 : k0_cond1 (grid0.coords p0) = 1#1 := (first_iff p0).mpr rfl

/-- What the scratch arrays and the third result's block hold from the first step on. -/
def scr0 (c : Dev nD) : Vec F S2048x256 .bf16 :=
  held16 c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0)
def scr1 (c : Dev nD) : Vec F S2048x256 .bf16 :=
  held17 c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0)
def scr2 (c : Dev nD) : Vec F S2048x256 .bf16 :=
  held18 c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0)
def scr3 (c : Dev nD) : Vec F S2048x256 .bf16 :=
  held19 c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0)
def altRow (c : Dev nD) : Vec F S8x256 .f32 :=
  alt c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0)

/-- The region's invariant: the scratch arrays at anything before the first step, at their contents after it. -/
def PhiS (c : Dev nD) : ℕ → sProp 𝕄
  | 0 => Pipeline.ΦA spec0 c
  | _ + 1 => iprop(iprop(owns (c : Thread nD τ) sc0 fullShare (scr0 m c) ∗ owns (c : Thread nD τ) sc1 fullShare (scr1 m c) ∗ owns (c : Thread nD τ) sc2 fullShare (scr2 m c) ∗ owns (c : Thread nD τ) sc3 fullShare (scr3 m c)) ∗ (∃ r, prngReg c r))

theorem PhiS_pos (c : Dev nD) (n : ℕ) (hz : n ≠ 0) :
    PhiS m c n = iprop(iprop(owns (c : Thread nD τ) sc0 fullShare (scr0 m c) ∗ owns (c : Thread nD τ) sc1 fullShare (scr1 m c) ∗ owns (c : Thread nD τ) sc2 fullShare (scr2 m c) ∗ owns (c : Thread nD τ) sc3 fullShare (scr3 m c)) ∗ (∃ r, prngReg c r)) := by
  cases n with
  | zero => exact absurd rfl hz
  | succ n => rfl

/-- The pipeline's data: each argument's buffer keeps its block, the results' end with the step's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outC (iblk m c 8 t) (iblk m c 9 t) (scr0 m c) (scr1 m c)
    | ⟨13, _⟩ => outS (iblk m c 10 t) (iblk m c 11 t) (scr2 m c) (scr3 m c)
    | ⟨14, _⟩ => altRow m c
  Φ t := PhiS m c t.val
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outC (iblk m c 8 t) (iblk m c 9 t) (scr0 m c) (scr1 m c) := by
  dsimp only [dats]
theorem after_13 (c : Dev nD) (t : Fin cfg0.N) : (dats m 0 c).after 13 t = outS (iblk m c 10 t) (iblk m c 11 t) (scr2 m c) (scr3 m c) := by
  dsimp only [dats]
theorem after_14 (c : Dev nD) (t : Fin cfg0.N) : (dats m 0 c).after 14 t = altRow m c := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- The third result's buffer is written back after the last step only: at the others it holds what the first left. -/
theorem fresh_14 : ∀ n, n + 1 < 8 → cfg0.fresh 14 (n + 1) = false
  | n, h => by
    have hN : cfg0.N = 8 := N_0
    have hn : n < cfg0.N := by rw [hN]; omega
    have hf : (cfg0.win 14).flush ⟨n, hn⟩ = false := by
      rw [← Bool.not_eq_true, flush0_14]; show ¬n % 8 = 7; omega
    rw [Pipeline.Cfg.fresh_succ cfg0 14 n hn, hf, Bool.false_or]
    match n, h, hn with
    | 0, h, hn =>
      have e : cfg0.idle 14 (cfg0.grid.coords ⟨0, hn⟩) = false := by
        show (!(k0_cond1 (grid0.coords ⟨0, hn⟩) == 1#1)) = false
        rw [(first_iff ⟨0, hn⟩).mpr rfl]; rfl
      rw [e, Bool.false_and]
    | n + 1, h, _ => rw [fresh_14 n (by omega), Bool.and_false]

theorem before_14 (c : Dev nD) (t : Fin cfg0.N) (ht : t.val ≠ 0) (d) : (dats m 0 c).before 14 t d = altRow m c := by
  have hN : t.val < 8 := Nat.lt_of_lt_of_eq t.isLt N_0
  have hf : cfg0.fresh 14 t.val = false := by
    obtain ⟨n, hn⟩ : ∃ n, t.val = n + 1 := ⟨t.val - 1, by omega⟩
    rw [hn]; exact fresh_14 n (by omega)
  rw [(dats m 0 c).before_out_traj 14 rfl (fun _ _ => rfl) (fun t _ _ _ => by rw [after_14, after_14]) t.val t rfl d, hf]
  exact after_14 m c _

/-- So what the body leaves there is what the pipeline expects: the block at the first step, what was held at the others. -/
theorem leaves_14 (c : Dev nD) (t : Fin cfg0.N) :
    (owns (c : Thread nD τ) (ms14 t) fullShare ((dats m 0 c).after 14 t) : sProp 𝕄)
      ⊢ (match cfg0.idle 14 (cfg0.grid.coords t) with
        | true =>
          match (cfg0.win 14).flush t with
          | false => iprop(∃ d, owns (c : Thread nD τ) (ms14 t) fullShare ((dats m 0 c).before 14 t d))
          | true => owns (c : Thread nD τ) (ms14 t) fullShare ((dats m 0 c).after 14 t)
        | false => owns (c : Thread nD τ) (ms14 t) fullShare ((dats m 0 c).after 14 t)) := by
  by_cases hz : t.val = 0
  · have e : cfg0.idle 14 (cfg0.grid.coords t) = false := by
      show (!(k0_cond1 (grid0.coords t) == 1#1)) = false
      rw [(first_iff t).mpr hz]; rfl
    rw [e]
  · have e : cfg0.idle 14 (cfg0.grid.coords t) = true := by
      show (!(k0_cond1 (grid0.coords t) == 1#1)) = true
      rw [Bool.not_eq_true', beq_eq_false_iff_ne]
      exact fun h => hz ((first_iff t).mp h)
    rw [e]
    cases hf : (cfg0.win 14).flush t
    · simp only [before_14 m c t hz, after_14]
      iintro H; iexists default; iexact H
    · exact .rfl

/-- The body's assertion before point `t` and after it. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t))

set_option maxHeartbeats 6400000 in
/-- The body at any point: the first by its first run, the others by the later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12, after_13, after_14]
  rw [show (dats m 0 c).Φ t.succ = PhiS m c (t.val + 1) from rfl, PhiS_pos m c _ (Nat.succ_ne_zero _),
    show (dats m 0 c).Φ t.castSucc = PhiS m c t.val from rfl]
  by_cases hz : t.val = 0
  · obtain rfl : t = p0 := Fin.ext hz
    rw [show PhiS m c p0.val = Pipeline.ΦA spec0 c from rfl, phi_eq]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runFirst c (grid0.coords p0) (ms0 p0) (hs0 p0) (ms1 p0) (hs1 p0) (ms2 p0) (hs2 p0) (ms3 p0) (hs3 p0) (ms4 p0) (hs4 p0) (ms5 p0) (hs5 p0) (ms6 p0) (hs6 p0) (ms7 p0) (hs7 p0) (ms8 p0) (hs8 p0) (ms9 p0) (hs9 p0) (ms10 p0) (hs10 p0) (ms11 p0) (hs11 p0) (ms12 p0) (hs12 p0) (ms13 p0) (hs13 p0) (ms14 p0) (hs14 p0) sc0 (Memref.isWhole_whole _) sc1 (Memref.isWhole_whole _) sc2 (Memref.isWhole_whole _) sc3 (Memref.isWhole_whole _) first0 (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) (iblk m c 11 p0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [PhiS_pos m c _ hz]
    simp only [before_14 m c t hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) sc0 (Memref.isWhole_whole _) sc1 (Memref.isWhole_whole _) sc2 (Memref.isWhole_whole _) sc3 (Memref.isWhole_whole _) (fun h => hz ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (altRow m c) (scr0 m c) (scr1 m c) (scr2 m c) (scr3 m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexact H14
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (leaves_14 m c t)
  iexact H14

theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the scratch arrays' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, show cfg0.N = 8 from N_0]; decide), phi_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
/-- Every execution ends, with the pipeline's arrays as its data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments are unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel5Ideal.Filter

end
-- ==== Proof.Hyena.Value.lean ====
/- What the long convolution's run leaves in its result: every grid point writes back its own block, one batch row of the
   result array, and no other point's block meets it. -/
module

public import proofs.«01_k».proof.Proof.Hyena.IdealFrame
public import Idealize.ShloMosaic.Lib.Pipeline.Value

@[expose] public section

noncomputable section

namespace Cert.KernelIdeal.Hyena

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- What point `t` writes back. -/
theorem flushed8 (c : Dev nD) (t : Fin cfg0.N) :
    (dats m 0 c).flushed 8 t = (cfg0.win 8).cut (grid0.coords t) (blockAt m c t) := by
  show (cfg0.win 8).cut (grid0.coords t) ((dats m 0 c).after 8 t) = _
  rw [after0_8]

/-- Distinct points write distinct blocks, and every point writes its block back. -/
theorem apart8 : ∀ t t' : Fin cfg0.N, win0_8.index t = win0_8.index t' → t = t' :=
  (by decide +kernel : ∀ t t' : Fin grid0.N, win0_8.index t = win0_8.index t' → t = t')

theorem written8 : ∀ t : Fin cfg0.N, (cfg0.win 8).flush t = true :=
  (by decide +kernel : ∀ t : Fin grid0.N, _)

theorem disjoint8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (apart8 t t' h)

/-- Block `t` of the final result is what point `t` wrote back. -/
theorem blocks8 (c : Dev nD) (t : Fin cfg0.N) :
    ((cfg0.win 8).blk t).view.read (Elt F) ((dats m 0 c).arrAt 8 cfg0.N) = (dats m 0 c).flushed 8 t :=
  (dats m 0 c).read_blk_arrAt_eq_flushed 8 disjoint8 cfg0.N t t.isLt (written8 t)

/-- The run: the result array's final contents, the arguments unchanged. -/
theorem run_blocks : θ_run defs (onTc (τ := τ) (main (F := F))) ⟨m, fun _ => 0, ρ⟩ fun r => ∀ c : Dev nD,
    r.2.mem ((c : Thread nD τ).loc main_v52) = (dats m 0 c).arrAt 8 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  (θ_run defs _ _).mono (fun r h c => ⟨(h c).1 8,
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.KernelIdeal.Hyena

end
-- ==== Proof.Hyena.Arrays.lean ====
/- The arrays the long convolution's program prepares from its arguments: the transform's tables, made from the products of
   two counts reduced modulo 4096, and the filter's half-spectrum, made from those tables. -/
module

public import proofs.«01_k».proof.Proof.Gen.KernelIdeal.Frame.Runs
public import Idealize.ShloMosaic.Lib.Pipeline.Value
public import Idealize.ShloMosaic.PureOps.Ideal.Laws
public import Idealize.ShloMosaic.Lib.Tactic
public import Idealize.ShloMosaic.Lib.Claim

@[expose] public section

set_option maxRecDepth 16384

noncomputable section

namespace Cert.KernelIdeal.Hyena

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments: the convolution's input, the gate, the filter's two halves and the direct term's weights. -/
def input : Vec Ideal S32x2048x256 .bf16 := m ((c : Thread nD τ).loc main_arg0)
def gate : Vec Ideal S32x2048x256 .bf16 := m ((c : Thread nD τ).loc main_arg1)
def forward : Vec Ideal S2048x256 .f32 := m ((c : Thread nD τ).loc main_arg2)
def backward : Vec Ideal S2048x256 .f32 := m ((c : Thread nD τ).loc main_arg3)
def bias : Vec Ideal S256 .f32 := m ((c : Thread nD τ).loc main_arg4)

/-! ## The transform's tables -/

/-- The counts 0, …, 2047, and the products of two of them modulo 4096. -/
def counts : IVec S2048 32 := iotaInDim S2048 32 0
def products : IVec S2048x2048 32 :=
  Host.remsi (muli (broadcastInDim S2048x2048 ![0, 1] bcast_S2048x1_S2048x2048_0_1 (broadcastInDim S2048x1 ![0] bcast_S2048_S2048x1_0 counts))
      (broadcastInDim S2048x2048 ![0, 1] bcast_S1x2048_S2048x2048_0_1 (broadcastInDim S1x2048 ![1] bcast_S2048_S1x2048_1 counts)))
    (broadcastInDim S2048x2048 ![] bcast_S_S2048x2048 (constantI S_ 32 4096#32))
/-- One turn, twice the angle of the point (-1, 0). -/
def turn : FVec Ideal S_ .f32 :=
  mulf (constant S_ .f32 0x40000000#32) (Host.atan2 (constant S_ .f32 0x00000000#32) (Host.negf (constant S_ .f32 0x3F800000#32)))
/-- The angles, and their cosines and sines. -/
def angles : FVec Ideal S2048x2048 .f32 :=
  Host.divf (mulf (broadcastInDim S2048x2048 ![] bcast_S_S2048x2048 turn) (sitofp .f32 products))
    (broadcastInDim S2048x2048 ![] bcast_S_S2048x2048 (constant S_ .f32 0x45800000#32))
def cosTable : FVec Ideal S2048x2048 .f32 := Host.cos angles
def sinTable : FVec Ideal S2048x2048 .f32 := Host.sin angles

theorem rows_array : (V m c main_v19 : Vec Ideal S4096x2048 .bf16)
    = truncf .bf16 (concatenate S4096x2048 0 [⟨S2048x2048, cosTable⟩, ⟨S2048x2048, sinTable⟩] concatenates_S2048x2048_S2048x2048_S4096x2048_d0 : FVec Ideal S4096x2048 .f32) bitsLt_bf16_f32 := by
  entry_read
  rfl

theorem columns_array : (V m c main_v21 : Vec Ideal S2048x4096 .bf16)
    = truncf .bf16 (concatenate S2048x4096 1 [⟨S2048x2048, cosTable⟩, ⟨S2048x2048, sinTable⟩] concatenates_S2048x2048_S2048x2048_S2048x4096_d1 : FVec Ideal S2048x4096 .f32) bitsLt_bf16_f32 := by
  entry_read
  rfl

/-! ## The filter's half-spectrum -/

/-- The row counts of a filter. -/
def filterCounts : IVec S2048x256 32 := iotaInDim S2048x256 32 0
/-- The backward half with its first row, which the filter leaves out, set to zero. -/
def masked : FVec Ideal S2048x256 .f32 :=
  select (cmpi .eq filterCounts (broadcastInDim S2048x256 ![] bcast_S_S2048x256 (constantI S_ 32 0#32)))
    (broadcastInDim S2048x256 ![] bcast_S_S2048x256 (constant S_ .f32 0x00000000#32)) (backward m c)
/-- The signs 1, -1, 1, …, row by row. -/
def rowSigns : FVec Ideal S2048x256 .f32 :=
  sitofp .f32 (subi (broadcastInDim S2048x256 ![] bcast_S_S2048x256 (constantI S_ 32 1#32))
    (muli (broadcastInDim S2048x256 ![] bcast_S_S2048x256 (constantI S_ 32 2#32))
      (andi filterCounts (broadcastInDim S2048x256 ![] bcast_S_S2048x256 (constantI S_ 32 1#32)))))
/-- A table against a filter, summed over the filter's rows. -/
def against (table : FVec Ideal S2048x2048 .f32) (filter : FVec Ideal S2048x256 .f32) : FVec Ideal S2048x256 .f32 :=
  Host.reduceAdd (mulf (broadcastInDim S2048x2048x256 ![0, 1, 2] bcast_S2048x2048x1_S2048x2048x256_0_1_2 (broadcastInDim S2048x2048x1 ![0, 1] bcast_S2048x2048_S2048x2048x1_0_1 table))
      (broadcastInDim S2048x2048x256 ![0, 1, 2] bcast_S1x2048x256_S2048x2048x256_0_1_2 (broadcastInDim S1x2048x256 ![1, 2] bcast_S2048x256_S1x2048x256_1_2 filter)))
    (constant S_ .f32 0x00000000#32) reducesTo_S2048x2048x256_S2048x256_d1 h_S_

theorem real_array : (V m c main_v44 : Vec Ideal S2048x256 .f32) = against cosTable (addf (forward m c) (masked m c)) := by
  entry_read
  rfl

theorem imaginary_array : (V m c main_v50 : Vec Ideal S2048x256 .f32) = against sinTable (subf (forward m c) (masked m c)) := by
  entry_read
  rfl

theorem last_array : (V m c main_v38 : Vec Ideal S8x256 .f32)
    = broadcastInDim S8x256 ![0, 1] bcast_S1x256_S8x256_0_1 (broadcastInDim S1x256 ![1] bcast_S256_S1x256_1
        (Host.reduceAdd (mulf (addf (forward m c) (masked m c)) rowSigns) (constant S_ .f32 0x00000000#32) reducesTo_S2048x256_S256_d0 h_S_)) := by
  entry_read
  rfl

theorem bias_array : (V m c main_v51 : Vec Ideal S1x256 .f32) = broadcastInDim S1x256 ![1] bcast_S256_S1x256_1 (bias m c) := by
  entry_read
  rfl

end Cert.KernelIdeal.Hyena

end
-- ==== Proof.Hyena.Transform.lean ====
/-
The half-spectrum transform of the long convolution, over the reals: 2048 cosines with the weights 1/4096, 2/4096, …, 2/4096
and the alternating term of frequency 2048 sum to one at index zero and to zero at every other index below 4096 in absolute
value. Multiplying the spectra of an input and of a two-sided filter and transforming back is therefore the convolution.
-/
module

public import Mathlib.Analysis.SpecialFunctions.Trigonometric.Basic
public import Mathlib.Algebra.BigOperators.Fin
public import Mathlib.Tactic.Ring
public import Mathlib.Tactic.Linarith
public import Mathlib.Tactic.FieldSimp

@[expose] public section

namespace Cert.Hyena

open Finset

/-- The angle of one step of a transform of length 4096. -/
noncomputable def step : ℝ := 2 * Real.pi / 4096

/-- The weight of frequency `k`: the zeroth counts once, each other one for itself and its mirror image. -/
noncomputable def weight (k : ℕ) : ℝ := if k = 0 then 1 / 4096 else 2 / 4096

/-- The sign of an even or odd place. -/
noncomputable def alternating (n : ℕ) : ℝ := if n % 2 = 0 then 1 else -1

theorem alternating_eq (n : ℕ) : alternating n = (-1) ^ n := by
  unfold alternating
  rcases Nat.even_or_odd n with h | h
  · rw [if_pos (Nat.even_iff.mp h), h.neg_one_pow]
  · rw [if_neg (by have := Nat.odd_iff.mp h; omega), h.neg_one_pow]

/-- Half a step times a run of cosines telescopes. -/
theorem cosine_run (x : ℝ) (n : ℕ) :
    2 * Real.sin (x / 2) * ∑ k ∈ range n, Real.cos (k * x) = Real.sin ((n - 1 / 2) * x) + Real.sin (x / 2) := by
  induction n with
  | zero => rw [sum_range_zero, mul_zero, ← sub_eq_zero, show ((0 : ℕ) - 1 / 2 : ℝ) * x = -(x / 2) by push_cast; ring, Real.sin_neg]; ring
  | succ n ih =>
    rw [sum_range_succ, mul_add, ih]
    have e : ((n + 1 : ℕ) - 1 / 2 : ℝ) * x = n * x + x / 2 := by push_cast; ring
    have e' : ((n : ℝ) - 1 / 2) * x = n * x - x / 2 := by ring
    rw [e, e', Real.sin_add, Real.sin_sub]
    ring

/-- The weighted cosines of index `m` and the alternating term. -/
noncomputable def comb (m : ℤ) : ℝ :=
  ∑ k ∈ range 2048, weight k * Real.cos (k * (step * m)) + 1 / 4096 * Real.cos (2048 * (step * m))

/-- The weighted sum is twice the plain one over 4096, less the zeroth term once. -/
theorem weighted_run (x : ℝ) :
    ∑ k ∈ range 2048, weight k * Real.cos (k * x) = (2 * ∑ k ∈ range 2048, Real.cos (k * x) - 1) / 4096 := by
  have e : ∀ k ∈ range 2048, weight k * Real.cos (k * x) = 2 / 4096 * Real.cos (k * x) - (if k = 0 then 1 / 4096 else 0) := by
    intro k _
    unfold weight
    by_cases h : k = 0
    · subst h
      rw [if_pos rfl, if_pos rfl, Nat.cast_zero, zero_mul, Real.cos_zero]
      norm_num
    · rw [if_neg h, if_neg h, sub_zero]
  rw [sum_congr rfl e, sum_sub_distrib, ← mul_sum, sum_ite_eq' (range 2048) 0, if_pos (mem_range.mpr (by norm_num))]
  ring

/-- It is one at index zero and zero at every other index under a period. -/
theorem comb_eq (m : ℤ) (h : |m| < 4096) : comb m = if m = 0 then 1 else 0 := by
  unfold comb
  rw [weighted_run]
  by_cases hm : m = 0
  · subst hm
    rw [if_pos rfl]
    simp only [Int.cast_zero, mul_zero, Real.cos_zero, sum_const, card_range, nsmul_eq_mul]
    norm_num
  · rw [if_neg hm]
    have hx : step * m / 2 = m * Real.pi / 4096 := by unfold step; ring
    have hL : 2048 * (step * m) = m * Real.pi := by unfold step; ring
    have hs : Real.sin (step * m / 2) ≠ 0 := by
      rw [hx]
      have hb := abs_lt.mp h
      have h1 : (-4096 : ℝ) < m := by exact_mod_cast hb.1
      have h2 : (m : ℝ) < 4096 := by exact_mod_cast hb.2
      have hp := Real.pi_pos
      intro h0
      have hz := (Real.sin_eq_zero_iff_of_lt_of_lt (by nlinarith) (by nlinarith)).mp h0
      have : (m : ℝ) * Real.pi = 0 := by linarith
      rcases mul_eq_zero.mp this with h3 | h3
      · exact hm (by exact_mod_cast h3)
      · exact hp.ne' h3
    have hrun := cosine_run (step * m) 2048
    have e : ((2048 : ℕ) - 1 / 2 : ℝ) * (step * m) = m * Real.pi - step * m / 2 := by
      rw [← hL]; push_cast; ring
    rw [e, Real.sin_sub, Real.sin_int_mul_pi, zero_mul, zero_sub] at hrun
    rw [hL]
    apply mul_left_cancel₀ hs
    linear_combination hrun / 4096

/-- The cosine and sine of entry (k, t) of the transform's tables. -/
noncomputable def cosine (k t : ℕ) : ℝ := Real.cos (k * (step * t))
noncomputable def sine (k t : ℕ) : ℝ := Real.sin (k * (step * t))

/-- An entry at the index reduced modulo the period is the entry. -/
theorem reduced_angle (k t : ℕ) : step * ((k * t % 4096 : ℕ) : ℝ) = k * (step * t) - (k * t / 4096 : ℕ) * (2 * Real.pi) := by
  have h : ((k * t % 4096 : ℕ) : ℝ) = k * t - 4096 * (k * t / 4096 : ℕ) := by
    have := Nat.mod_add_div (k * t) 4096
    have h2 : (((k * t % 4096 + 4096 * (k * t / 4096) : ℕ)) : ℝ) = ((k * t : ℕ) : ℝ) := by rw [this]
    push_cast at h2 ⊢
    linarith
  rw [h]; unfold step; ring

theorem cosine_reduced (k t : ℕ) : Real.cos (step * ((k * t % 4096 : ℕ) : ℝ)) = cosine k t := by
  rw [reduced_angle, Real.cos_sub_nat_mul_two_pi, cosine]

theorem sine_reduced (k t : ℕ) : Real.sin (step * ((k * t % 4096 : ℕ) : ℝ)) = sine k t := by
  rw [reduced_angle, Real.sin_sub_nat_mul_two_pi, sine]

/-- The alternating sign of a sum of places, as the cosine of frequency 2048. -/
theorem nyquist_cosine (n : ℤ) : Real.cos (2048 * (step * n)) = (-1) ^ n := by
  rw [show 2048 * (step * (n : ℝ)) = n * Real.pi by unfold step; ring, Real.cos_int_mul_pi]

/-- A run of entries against values. -/
noncomputable def cosines (v : ℕ → ℝ) (k : ℕ) : ℝ := ∑ s ∈ range 2048, cosine k s * v s
noncomputable def sines (v : ℕ → ℝ) (k : ℕ) : ℝ := ∑ s ∈ range 2048, sine k s * v s
noncomputable def signs (v : ℕ → ℝ) : ℝ := ∑ s ∈ range 2048, v s * alternating s

/-- The transform's convolution at place `t` of an input `z` with a filter of forward taps `f` and backward taps `g`. -/
noncomputable def transformed (z f g : ℕ → ℝ) (t : ℕ) : ℝ :=
  ∑ k ∈ range 2048,
      (cosine k t * ((cosines z k * cosines (fun s => f s + g s) k - sines z k * sines (fun s => f s - g s) k) * weight k)
        + sine k t * ((cosines z k * sines (fun s => f s - g s) k + sines z k * cosines (fun s => f s + g s) k) * weight k))
    + signs z * signs (fun s => f s + g s) * (1 / 4096) * alternating t

/-- One frequency of the product, as a double sum of cosines of differences of places. -/
theorem frequency (z f g : ℕ → ℝ) (t k : ℕ) :
    cosine k t * (cosines z k * cosines (fun s => f s + g s) k - sines z k * sines (fun s => f s - g s) k)
        + sine k t * (cosines z k * sines (fun s => f s - g s) k + sines z k * cosines (fun s => f s + g s) k)
      = ∑ s ∈ range 2048, ∑ r ∈ range 2048,
          z s * (f r * Real.cos (k * (step * ((s + r - t : ℤ) : ℝ))) + g r * Real.cos (k * (step * ((s - r - t : ℤ) : ℝ)))) := by
  unfold cosines sines
  rw [sum_mul_sum, sum_mul_sum, sum_mul_sum, sum_mul_sum, ← sum_sub_distrib, ← sum_add_distrib, mul_sum, mul_sum, ← sum_add_distrib]
  refine sum_congr rfl fun s _ => ?_
  rw [← sum_sub_distrib, ← sum_add_distrib, mul_sum, mul_sum, ← sum_add_distrib]
  refine sum_congr rfl fun r _ => ?_
  have e1 : (k : ℝ) * (step * ((s + r - t : ℤ) : ℝ)) = k * (step * s) + k * (step * r) - k * (step * t) := by push_cast; ring
  have e2 : (k : ℝ) * (step * ((s - r - t : ℤ) : ℝ)) = k * (step * s) - k * (step * r) - k * (step * t) := by push_cast; ring
  rw [e1, e2]
  simp only [Real.cos_sub, Real.cos_add, Real.sin_sub, Real.sin_add, cosine, sine]
  ring

theorem nyquist (z f g : ℕ → ℝ) (t : ℕ) :
    signs z * signs (fun s => f s + g s) * alternating t
      = ∑ s ∈ range 2048, ∑ r ∈ range 2048,
          z s * (f r * Real.cos (2048 * (step * ((s + r - t : ℤ) : ℝ))) + g r * Real.cos (2048 * (step * ((s - r - t : ℤ) : ℝ)))) := by
  unfold signs
  rw [sum_mul_sum, sum_mul]
  refine sum_congr rfl fun s _ => ?_
  rw [sum_mul]
  refine sum_congr rfl fun r _ => ?_
  rw [nyquist_cosine, nyquist_cosine]
  have h0 : (-1 : ℝ) ≠ 0 := by norm_num
  have hi : ∀ n : ℕ, (((-1 : ℝ) ^ n))⁻¹ = (-1) ^ n := fun n => by
    rcases Nat.even_or_odd n with h | h
    · rw [h.neg_one_pow, inv_one]
    · rw [h.neg_one_pow]; norm_num
  rw [zpow_sub₀ h0, zpow_add₀ h0, zpow_sub₀ h0, zpow_sub₀ h0, alternating_eq, alternating_eq, alternating_eq]
  simp only [zpow_natCast, div_eq_mul_inv, hi]
  ring

/-- The transform's convolution, as the sum of the input's values each under the comb of the filter. -/
theorem transformed_comb (z f g : ℕ → ℝ) (t : ℕ) :
    transformed z f g t
      = ∑ s ∈ range 2048, ∑ r ∈ range 2048, z s * (f r * comb (s + r - t) + g r * comb (s - r - t)) := by
  unfold transformed
  have e : ∀ k ∈ range 2048,
      cosine k t * ((cosines z k * cosines (fun s => f s + g s) k - sines z k * sines (fun s => f s - g s) k) * weight k)
        + sine k t * ((cosines z k * sines (fun s => f s - g s) k + sines z k * cosines (fun s => f s + g s) k) * weight k)
      = ∑ s ∈ range 2048, ∑ r ∈ range 2048, weight k * (z s * (f r * Real.cos (k * (step * ((s + r - t : ℤ) : ℝ)))
          + g r * Real.cos (k * (step * ((s - r - t : ℤ) : ℝ))))) := by
    intro k _
    have hw : ∀ X : ℕ → ℕ → ℝ, ∑ s ∈ range 2048, ∑ r ∈ range 2048, weight k * X s r = weight k * ∑ s ∈ range 2048, ∑ r ∈ range 2048, X s r :=
      fun X => by rw [mul_sum]; exact sum_congr rfl fun s _ => (mul_sum _ _ _).symm
    rw [hw, ← frequency]
    ring
  rw [sum_congr rfl e, sum_comm, show signs z * signs (fun s => f s + g s) * (1 / 4096) * alternating t
      = 1 / 4096 * (signs z * signs (fun s => f s + g s) * alternating t) by ring, nyquist, mul_sum, ← sum_add_distrib]
  refine sum_congr rfl fun s _ => ?_
  rw [sum_comm, mul_sum, ← sum_add_distrib]
  refine sum_congr rfl fun r _ => ?_
  unfold comb
  rw [show ∀ a b c d : ℝ, z s * (f r * (a + b) + g r * (c + d)) = z s * f r * a + z s * g r * c + z s * (f r * b + g r * d) from
    fun _ _ _ _ => by ring, mul_sum, mul_sum, ← sum_add_distrib]
  refine congrArg₂ (· + ·) (sum_congr rfl fun k _ => by ring) (by ring)

/-- The transform's convolution is the direct one: place `t` meets each earlier place through a forward tap and each later
    place through a backward one. -/
theorem transformed_eq (z f g : ℕ → ℝ) (hg : g 0 = 0) (t : ℕ) (ht : t < 2048) :
    transformed z f g t = ∑ s ∈ range 2048, z s * (if s ≤ t then f (t - s) else g (s - t)) := by
  rw [transformed_comb]
  refine sum_congr rfl fun s hs => ?_
  have hs := mem_range.mp hs
  rw [← mul_sum]
  refine congrArg (z s * ·) ?_
  have e : ∀ r ∈ range 2048, f r * comb (s + r - t) + g r * comb (s - r - t)
      = (if r = t - s then (if s ≤ t then f (t - s) else 0) else 0) + (if r = s - t then (if s ≤ t then 0 else g (s - t)) else 0) := by
    intro r hr
    have hr := mem_range.mp hr
    rw [comb_eq _ (abs_lt.mpr ⟨by omega, by omega⟩), comb_eq _ (abs_lt.mpr ⟨by omega, by omega⟩)]
    refine congrArg₂ (· + ·) ?_ ?_
    · by_cases h : (s : ℤ) + r - t = 0
      · have hst : s ≤ t := by omega
        have hr' : r = t - s := by omega
        rw [if_pos h, if_pos hr', if_pos hst, mul_one, hr']
      · rw [if_neg h, mul_zero]
        by_cases hr' : r = t - s
        · rw [if_pos hr', if_neg (by omega)]
        · rw [if_neg hr']
    · by_cases h : (s : ℤ) - r - t = 0
      · have hr' : r = s - t := by omega
        rw [if_pos h, if_pos hr', mul_one]
        by_cases hst : s ≤ t
        · rw [if_pos hst, hr', Nat.sub_eq_zero_of_le hst, hg]
        · rw [if_neg hst, hr']
      · rw [if_neg h, mul_zero]
        by_cases hr' : r = s - t
        · rw [if_pos hr', if_pos (by omega)]
        · rw [if_neg hr']
  rw [sum_congr rfl e, sum_add_distrib, sum_ite_eq' , sum_ite_eq']
  by_cases hst : s ≤ t
  · rw [if_pos (mem_range.mpr (by omega)), if_pos hst, if_pos hst, if_pos (mem_range.mpr (by omega)), if_pos hst, add_zero]
  · rw [if_pos (mem_range.mpr (by omega)), if_neg hst, if_neg hst, if_pos (mem_range.mpr (by omega)), if_neg hst, zero_add]

end Cert.Hyena
-- ==== Proof.InProj.Rows.lean ====
/- Row by row operations of the two projections, over the extended reals and for any number of rows: a row scaled by the
   reciprocal root of its mean square and by a weight (`rms`), as a kernel spells it on a block of rows (`rms_rows`), and
   a product into a zero accumulator at one element. -/
module

public import Idealize.ShloMosaic.Lib.ValueIdx
public import Idealize.ShloMosaic.Lib.MatmulPlain
public import Idealize.ShloMosaic.Lib.IdealHost
public import Idealize.ShloMosaic.Lib.Pipeline.Value
public import Idealize.ShloMosaic.Lib.KernelVsHost

@[expose] public section

noncomputable section

namespace Cert.Rows

open Idealize.ShloMosaic Idealize.ShloMosaic.ValueIdx
open scoped BigOperators

/-- The reciprocal root of a row's mean square, with the layer's epsilon: the bit patterns are 1024 and 1e-6. -/
def scale (x : Fin 1024 → EReal) : EReal :=
  Ideal.rsqrt (Ideal.div (∑ j : Fin 1024, x j * x j) (Ideal.ofBits .f32 0x44800000#32) + Ideal.ofBits .f32 0x358637BD#32)

/-- The row `x` normalised, times the weight `w`. -/
def rms (x w : Fin 1024 → EReal) (k : Fin 1024) : EReal := x k * scale x * w k

/-- A block of rows normalised as a kernel spells it, at an element. -/
theorem rms_rows {M : ℕ} (x : FVec Ideal ⟨2, ![M, 1024]⟩ .f32) (w : FVec Ideal ⟨2, ![1, 1024]⟩ .f32)
    (h1 : (⟨2, ![M, 1024]⟩ : Shape).Reduces [1] ⟨1, ![M]⟩) (h2 : (⟨1, ![M]⟩ : Shape).ShapeCasts ⟨2, ![M, 1]⟩)
    (h3 : (⟨2, ![M, 1]⟩ : Shape).Broadcasts ⟨2, ![M, 1024]⟩) (h4 : (⟨2, ![1, 1024]⟩ : Shape).Broadcasts ⟨2, ![M, 1024]⟩)
    (hφ : FKind.Formats FTy.f32) (h0 : (0x00000000#32 : BitVec 32) = FKind.add.neutral .f32 hφ)
    (r : Fin M) (k : Fin 1024) :
    mulf (mulf x (broadcastTo ⟨2, ![M, 1024]⟩ (rsqrt (addf (divf (shapeCast ⟨2, ![M, 1]⟩
        (multiReduction .add [1] ⟨1, ![M]⟩ (mulf x x) (0x00000000#32 : BitVec 32) h1 hφ h0) h2)
        (broadcast ⟨2, ![M, 1]⟩ (Scalar.ofBits (F := Ideal) .f32 0x44800000#32)))
        (broadcast ⟨2, ![M, 1]⟩ (Scalar.ofBits (F := Ideal) .f32 0x358637BD#32)))) h3))
        (broadcastTo ⟨2, ![M, 1024]⟩ w h4) (ix2 r k)
      = rms (fun j => x (ix2 r j)) (fun j => w (ix2 0 j)) k := by
  have es : shapeCast ⟨2, ![M, 1]⟩ (multiReduction .add [1] ⟨1, ![M]⟩ (mulf x x) (0x00000000#32 : BitVec 32) h1 hφ h0) h2 (ix2 r 0)
      = ∑ j : Fin 1024, x (ix2 r j) * x (ix2 r j) := by
    refine (shapeCast_apply _ h2 (ix2 r 0) (ix1 r) (by
      rewrite [Shape.rowMajor_val_one, Shape.rowMajor_val_two]; show r.val = r.val * 1 + 0; omega)).trans ?_
    refine (Ideal.multiReduction_add_single _ _ h1 hφ h0 (ix1 r)).trans ?_
    refine Finset.sum_congr rfl fun j _ => ?_
    have e : h1.lift (ix1 r) j = ix2 r j := by
      funext a; apply Fin.ext
      match a with
      | ⟨0, _⟩ => rfl
      | ⟨1, _⟩ => rfl
    rw [e]; rfl
  have eb (y : FVec Ideal ⟨2, ![M, 1]⟩ .f32) : broadcastTo ⟨2, ![M, 1024]⟩ y h3 (ix2 r k) = y (ix2 r 0) :=
    broadcastTo_apply y h3 (ix2 r k) (ix2 r 0) fun a => match a with
      | ⟨0, _⟩ => by
        show r.val = if M = 1 then 0 else r.val
        split
        · have := r.isLt; omega
        · rfl
      | ⟨1, _⟩ => rfl
  have ew : broadcastTo ⟨2, ![M, 1024]⟩ w h4 (ix2 r k) = w (ix2 0 k) :=
    broadcastTo_apply w h4 (ix2 r k) (ix2 0 k) fun a => match a with
      | ⟨0, _⟩ => rfl
      | ⟨1, _⟩ => rfl
  rw [mulf_apply, mulf_apply, eb, ew]
  unfold rms scale
  rw [← es]
  rfl

/-- A product into a zero accumulator, at an element. -/
theorem product_apply {M K N : ℕ} {φ₁ φ₂ : FTy} (a : FVec Ideal ⟨2, ![M, K]⟩ φ₁) (b : FVec Ideal ⟨2, ![K, N]⟩ φ₂) (r : Fin M) (n : Fin N) :
    FloatOps.matmul (DotDims.plain M K N) none a b (constant ⟨2, ![M, N]⟩ .f32 0x00000000#32) (ix2 r n)
      = ∑ k : Fin K, a (ix2 r k) * b (ix2 k n) := by
  refine (Ideal.matmul_plain_apply none a b _ r n).trans ?_
  rw [constant_apply, show Ideal.ofBits .f32 0x00000000#32 = 0 from Ideal.ofBits_zero_f32, zero_add]

/-- A product with the second factor transposed into a zero accumulator, at an element. -/
theorem product_transposed_apply {M K N : ℕ} {φ₁ φ₂ : FTy} (a : FVec Ideal ⟨2, ![M, K]⟩ φ₁) (b : FVec Ideal ⟨2, ![N, K]⟩ φ₂) (r : Fin M) (n : Fin N) :
    FloatOps.matmul (DotDims.transposedRhs M K N) none a b (constant ⟨2, ![M, N]⟩ .f32 0x00000000#32) (ix2 r n)
      = ∑ k : Fin K, a (ix2 r k) * b (ix2 n k) := by
  refine (Ideal.matmul_transposedRhs_apply none a b _ r n).trans ?_
  rw [constant_apply, show Ideal.ofBits .f32 0x00000000#32 = 0 from Ideal.ofBits_zero_f32, zero_add]

theorem zeros2 : (![0, 0] : Fin 2 → Nat) = fun _ => 0 := funext fun a => by fin_cases a <;> rfl

end Cert.Rows

end
-- ==== Proof.Hyena.Blocks.lean ====
/- The long convolution's input blocks, element by element. A grid point's block of the input and of the gate is one batch row;
   the tables, the filter's half-spectrum and the direct term's weights are the same at every point. -/
module

public import proofs.«01_k».proof.Proof.Hyena.Arrays
public import proofs.«01_k».proof.Proof.Hyena.Transform
public import proofs.«01_k».proof.Proof.InProj.Rows
public import Idealize.ShloMosaic.Lib.Affine
public import Idealize.ShloMosaic.Lib.IdealHost

@[expose] public section

set_option maxRecDepth 16384

noncomputable section

namespace Cert.KernelIdeal.Hyena

open Cert.KernelIdeal Cert.KernelIdeal.Gen Cert.Rows Cert.Hyena
open Idealize.ShloMosaic Idealize.ShloMosaic.TcCoe Idealize.SL.Sem Idealize.ShloMosaic.ValueIdx
open scoped BigOperators

variable (m : (ℓ : Loc nD τ sig) → Buf (Elt Ideal) ℓ) (c : Dev nD)

/-! ## The tables -/

theorem zero_word : Ideal.ofBits .f32 0x00000000#32 = ((0 : ℝ) : EReal) := by
  simp [Ideal.ofBits, Ideal.ieee]
theorem one_word : Ideal.ofBits .f32 0x3F800000#32 = ((1 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem period_word : Ideal.ofBits .f32 0x45800000#32 = ((4096 : ℝ) : EReal) := by
  simp [Ideal.ofBits, Ideal.ieee, -EReal.coe_mul]; norm_num

/-- The turn is twice pi. -/
theorem turn_apply : turn ix0 = ((2 * Real.pi : ℝ) : EReal) := by
  show Ideal.ofBits .f32 0x40000000#32 * Ideal.atan2 (Ideal.ofBits .f32 0x00000000#32) (-(Ideal.ofBits .f32 0x3F800000#32)) = _
  rw [two_word, zero_word, one_word, ← EReal.coe_neg]
  show ((2 : ℝ) : EReal) * ((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ) : EReal) = _
  rw [if_neg (by norm_num), if_pos (by norm_num), if_pos le_rfl, zero_div, Real.arctan_zero, zero_add, ← EReal.coe_mul]

theorem products_toInt (i j : Fin 2048) : (products (ix2 i j)).toInt = ((i.val * j.val % 4096 : ℕ) : ℤ) := by
  have hi := i.isLt
  have hj := j.isLt
  have hb : i.val * j.val < 4194304 := lt_of_le_of_lt (Nat.mul_le_mul (by omega : i.val ≤ 2047) (by omega : j.val ≤ 2047)) (by norm_num)
  have ha : products (ix2 i j) = IntOp.remsi .host (BitVec.ofNat 32 i.val * BitVec.ofNat 32 j.val) (BitVec.ofNat 32 4096) := by
    unfold products counts
    show IntOp.remsi .host (_ * _) _ = _
    rw [broadcastInDim_scalar_apply,
      broadcastInDim_apply _ bcast_S2048x1_S2048x2048_0_1 _ (ix2 i j) (ix2 i 0) (fun a => match a with | ⟨0, _⟩ => rfl | ⟨1, _⟩ => rfl),
      broadcastInDim_apply _ bcast_S2048_S2048x1_0 _ (ix2 i 0) (ix1 i) (fun a => match a with | ⟨0, _⟩ => rfl),
      broadcastInDim_apply _ bcast_S1x2048_S2048x2048_0_1 _ (ix2 i j) (ix2 0 j) (fun a => match a with | ⟨0, _⟩ => rfl | ⟨1, _⟩ => rfl),
      broadcastInDim_apply _ bcast_S2048_S1x2048_1 _ (ix2 0 j) (ix1 j) (fun a => match a with | ⟨0, _⟩ => rfl)]
    rfl
  have hm : (BitVec.ofNat 32 i.val * BitVec.ofNat 32 j.val).toNat = i.val * j.val := by
    rw [BitVec.toNat_mul, BitVec.toNat_ofNat, BitVec.toNat_ofNat, Nat.mod_eq_of_lt (a := i.val) (by omega), Nat.mod_eq_of_lt (a := j.val) (by omega)]
    exact Nat.mod_eq_of_lt (by omega)
  have hn : (products (ix2 i j)).toNat = i.val * j.val % 4096 := by
    rw [ha, IntOp.toNat_remsi .host (by rw [hm]; omega) 4096 (by norm_num) (by norm_num), hm]
  rw [BitVec.toInt_eq_toNat_of_lt (by rw [hn]; omega), hn]

theorem angles_apply (i j : Fin 2048) : angles (ix2 i j) = ((step * ((i.val * j.val % 4096 : ℕ) : ℝ) : ℝ) : EReal) := by
  unfold angles
  show Ideal.div (broadcastInDim S2048x2048 ![] bcast_S_S2048x2048 turn (ix2 i j) * (((products (ix2 i j)).toInt : ℝ) : EReal))
    (broadcastInDim S2048x2048 ![] bcast_S_S2048x2048 (constant (F := Ideal) S_ .f32 0x45800000#32) (ix2 i j)) = _
  rw [broadcastInDim_scalar_apply, broadcastInDim_scalar_apply, turn_apply, products_toInt]
  show Ideal.div _ (Ideal.ofBits .f32 0x45800000#32) = _
  rw [period_word, Ideal.div_coe (by norm_num), ← EReal.coe_mul, ← EReal.coe_mul, Int.cast_natCast]
  refine congrArg _ ?_
  unfold step
  ring

theorem cosTable_apply (i j : Fin 2048) : cosTable (ix2 i j) = ((cosine i.val j.val : ℝ) : EReal) := by
  show Ideal.cos (angles (ix2 i j)) = _
  rw [angles_apply]
  show ((Real.cos _ : ℝ) : EReal) = _
  rw [cosine_reduced]

theorem sinTable_apply (i j : Fin 2048) : sinTable (ix2 i j) = ((sine i.val j.val : ℝ) : EReal) := by
  show Ideal.sin (angles (ix2 i j)) = _
  rw [angles_apply]
  show ((Real.sin _ : ℝ) : EReal) = _
  rw [sine_reduced]

theorem cosine_comm (k t : ℕ) : cosine k t = cosine t k := by
  unfold cosine
  exact congrArg Real.cos (by ring)

theorem sine_comm (k t : ℕ) : sine k t = sine t k := by
  unfold sine
  exact congrArg Real.sin (by ring)

/-! ## The filter -/

theorem mask_word : ∀ s : Fin 2048, IntOp.cmpi .eq (BitVec.ofNat 32 s.val) 0#32 = if s.val = 0 then 1#1 else 0#1 := by decide +kernel

theorem row_sign_word : ∀ s : Fin 2048, (IntOp.subi 1#32 (IntOp.muli 2#32 (IntOp.andi (BitVec.ofNat 32 s.val) 1#32))).toInt = if s.val % 2 = 0 then 1 else -1 := by
  decide +kernel

/-- The backward half without its first row. -/
theorem masked_apply (s : Fin 2048) (ch : Fin 256) : masked m c (ix2 s ch) = if s.val = 0 then 0 else backward m c (ix2 s ch) := by
  unfold masked filterCounts
  rw [select_apply, broadcastInDim_scalar_apply]
  show Scalar.select (IntOp.cmpi .eq (BitVec.ofNat 32 s.val) (broadcastInDim S2048x256 ![] bcast_S_S2048x256 (constantI S_ 32 0#32) (ix2 s ch))) _ _ = _
  rw [broadcastInDim_scalar_apply]
  show Scalar.select (IntOp.cmpi .eq (BitVec.ofNat 32 s.val) 0#32) (Ideal.ofBits .f32 0x00000000#32) _ = _
  rw [mask_word, zero_word]
  split_ifs <;> rfl

theorem rowSigns_apply (s : Fin 2048) (ch : Fin 256) : rowSigns (ix2 s ch) = ((alternating s.val : ℝ) : EReal) := by
  unfold rowSigns filterCounts
  have e : (subi (broadcastInDim S2048x256 ![] bcast_S_S2048x256 (constantI S_ 32 1#32))
    (muli (broadcastInDim S2048x256 ![] bcast_S_S2048x256 (constantI S_ 32 2#32))
      (andi (iotaInDim S2048x256 32 0) (broadcastInDim S2048x256 ![] bcast_S_S2048x256 (constantI S_ 32 1#32)))) : IVec S2048x256 32) (ix2 s ch)
      = IntOp.subi 1#32 (IntOp.muli 2#32 (IntOp.andi (BitVec.ofNat 32 s.val) 1#32)) := by
    show IntOp.subi (broadcastInDim S2048x256 ![] bcast_S_S2048x256 (constantI S_ 32 1#32) (ix2 s ch)) (IntOp.muli (broadcastInDim S2048x256 ![] bcast_S_S2048x256 (constantI S_ 32 2#32) (ix2 s ch))
      (IntOp.andi (BitVec.ofNat 32 s.val) (broadcastInDim S2048x256 ![] bcast_S_S2048x256 (constantI S_ 32 1#32) (ix2 s ch)))) = _
    rw [broadcastInDim_scalar_apply, broadcastInDim_scalar_apply]
    rfl
  rw [sitofp_apply, e]
  show (((_ : BitVec 32).toInt : ℝ) : EReal) = _
  rw [row_sign_word]
  unfold alternating
  split_ifs
  · rw [Int.cast_one]
  · rw [Int.cast_neg, Int.cast_one]

theorem middle_reduces : S2048x2048x256.Reduces [1] S2048x256 := by decide
theorem first_reduces : S2048x256.Reduces [0] S256 := by decide

theorem middle_lift (h : S2048x2048x256.Reduces [1] S2048x256) (k : Fin 2048) (ch : Fin 256) (s : Fin 2048) : h.lift (ix2 k ch) s = (ix3 k s ch : S2048x2048x256.Idx) := by
  funext a
  apply Fin.ext
  match a with
  | ⟨0, _⟩ => rfl
  | ⟨1, _⟩ => rfl
  | ⟨2, _⟩ => rfl

theorem first_lift (h : S2048x256.Reduces [0] S256) (ch : Fin 256) (s : Fin 2048) : h.lift (ix1 ch) s = (ix2 s ch : S2048x256.Idx) := by
  funext a
  apply Fin.ext
  match a with
  | ⟨0, _⟩ => rfl
  | ⟨1, _⟩ => rfl

theorem against_apply (table : FVec Ideal S2048x2048 .f32) (filter : FVec Ideal S2048x256 .f32) (k : Fin 2048) (ch : Fin 256) :
    against table filter (ix2 k ch) = ∑ s : Fin 2048, table (ix2 k s) * filter (ix2 s ch) := by
  unfold against
  rw [hostReduceAdd_apply, Ideal.hostReduceAdd_single _ middle_reduces]
  show Ideal.ofBits .f32 0x00000000#32 + _ = _
  rw [zero_word, EReal.coe_zero, zero_add]
  refine Finset.sum_congr rfl fun s _ => ?_
  refine (congrArg (mulf (broadcastInDim S2048x2048x256 ![0, 1, 2] bcast_S2048x2048x1_S2048x2048x256_0_1_2 (broadcastInDim S2048x2048x1 ![0, 1] bcast_S2048x2048_S2048x2048x1_0_1 table))
      (broadcastInDim S2048x2048x256 ![0, 1, 2] bcast_S1x2048x256_S2048x2048x256_0_1_2 (broadcastInDim S1x2048x256 ![1, 2] bcast_S2048x256_S1x2048x256_1_2 filter)))
    (middle_lift middle_reduces k ch s)).trans ?_
  show broadcastInDim S2048x2048x256 ![0, 1, 2] bcast_S2048x2048x1_S2048x2048x256_0_1_2 (broadcastInDim S2048x2048x1 ![0, 1] bcast_S2048x2048_S2048x2048x1_0_1 table) (ix3 k s ch)
    * broadcastInDim S2048x2048x256 ![0, 1, 2] bcast_S1x2048x256_S2048x2048x256_0_1_2 (broadcastInDim S1x2048x256 ![1, 2] bcast_S2048x256_S1x2048x256_1_2 filter) (ix3 k s ch) = _
  rw [broadcastInDim_apply _ bcast_S2048x2048x1_S2048x2048x256_0_1_2 _ (ix3 k s ch) (ix3 k s 0) (fun a => match a with | ⟨0, _⟩ => rfl | ⟨1, _⟩ => rfl | ⟨2, _⟩ => rfl),
    broadcastInDim_apply _ bcast_S2048x2048_S2048x2048x1_0_1 _ (ix3 k s 0) (ix2 k s) (fun a => match a with | ⟨0, _⟩ => rfl | ⟨1, _⟩ => rfl),
    broadcastInDim_apply _ bcast_S1x2048x256_S2048x2048x256_0_1_2 _ (ix3 k s ch) (ix3 0 s ch) (fun a => match a with | ⟨0, _⟩ => rfl | ⟨1, _⟩ => rfl | ⟨2, _⟩ => rfl),
    broadcastInDim_apply _ bcast_S2048x256_S1x2048x256_1_2 _ (ix3 0 s ch) (ix2 s ch) (fun a => match a with | ⟨0, _⟩ => rfl | ⟨1, _⟩ => rfl)]

/-! ## The blocks -/

theorem point_lt (t : Fin cfg0.N) : t.val < 32 := lt_of_lt_of_eq t.isLt N_0

theorem block_numbers : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-- An element of a batch row's block is an element of its array. -/
theorem row_index (t : Fin cfg0.N) {q0 q1 q2 : ℕ} (i0 : q0 = t.val) (i1 : q1 = 0) (i2 : q2 = 0) (s : Fin 2048) (ch : Fin 256)
    (i : S32x2048x256.Idx) (h0 : (i 0).val = q0 * 1 + 1 * 0) (h1 : (i 1).val = q1 * 2048 + 1 * s.val) (h2 : (i 2).val = q2 * 256 + 1 * ch.val) :
    i = ix3 ⟨t.val, point_lt t⟩ s ch := by
  subst i0 i1 i2
  funext a
  apply Fin.ext
  match a with
  | ⟨0, _⟩ => exact h0.trans (by show t.val * 1 + 1 * 0 = t.val; omega)
  | ⟨1, _⟩ => exact h1.trans (by show 0 * 2048 + 1 * s.val = s.val; omega)
  | ⟨2, _⟩ => exact h2.trans (by show 0 * 256 + 1 * ch.val = ch.val; omega)

/-- A block that is its whole array. -/
theorem whole_index {M N : ℕ} (x : (⟨2, ![M, N]⟩ : Shape).Idx) {M' N' q0 q1 : ℕ} (i0 : q0 = 0) (i1 : q1 = 0) (r : Fin M) (d : Fin N)
    (h0 : (x 0).val = q0 * M' + 1 * r.val) (h1 : (x 1).val = q1 * N' + 1 * d.val) : x = ix2 r d := by
  subst i0 i1
  funext a
  apply Fin.ext
  match a with
  | ⟨0, _⟩ => exact h0.trans (by show 0 * M' + 1 * r.val = r.val; omega)
  | ⟨1, _⟩ => exact h1.trans (by show 0 * N' + 1 * d.val = d.val; omega)

theorem input_block (t : Fin cfg0.N) (s : Fin 2048) (ch : Fin 256) : (iblk m c 0 t : Vec Ideal S1x2048x256 .bf16) (ix3 0 s ch) = input m c (ix3 ⟨t.val, point_lt t⟩ s ch) := by
  obtain ⟨⟨i0, i1, i2⟩, _⟩ := block_numbers t
  unfold iblk
  rw [View.read_apply]
  show V m c main_arg0 _ = _
  rw [V_main_arg0]
  exact congrArg (input m c) (row_index t i0 i1 i2 s ch _ rfl rfl rfl)

theorem gate_block (t : Fin cfg0.N) (s : Fin 2048) (ch : Fin 256) : (iblk m c 1 t : Vec Ideal S1x2048x256 .bf16) (ix3 0 s ch) = gate m c (ix3 ⟨t.val, point_lt t⟩ s ch) := by
  obtain ⟨_, ⟨i0, i1, i2⟩, _⟩ := block_numbers t
  unfold iblk
  rw [View.read_apply]
  show V m c main_arg1 _ = _
  rw [V_main_arg1]
  exact congrArg (gate m c) (row_index t i0 i1 i2 s ch _ rfl rfl rfl)

theorem rows_block (t : Fin cfg0.N) (r : Fin 4096) (s : Fin 2048) : (iblk m c 2 t : Vec Ideal S4096x2048 .bf16) (ix2 r s)
    = (concatenate S4096x2048 0 [⟨S2048x2048, cosTable⟩, ⟨S2048x2048, sinTable⟩] concatenates_S2048x2048_S2048x2048_S4096x2048_d0 : FVec Ideal S4096x2048 .f32) (ix2 r s) := by
  obtain ⟨_, _, ⟨i0, i1⟩, _⟩ := block_numbers t
  unfold iblk
  rw [View.read_apply]
  show V m c main_v19 _ = _
  rw [rows_array]
  exact congrArg (concatenate S4096x2048 0 [⟨S2048x2048, cosTable⟩, ⟨S2048x2048, sinTable⟩] concatenates_S2048x2048_S2048x2048_S4096x2048_d0 : FVec Ideal S4096x2048 .f32)
    (whole_index (M := 4096) (N := 2048) _ i0 i1 r s rfl rfl)

theorem row_cosine (t : Fin cfg0.N) (k s : Fin 2048) : (iblk m c 2 t : Vec Ideal S4096x2048 .bf16) (ix2 ⟨k.val, by omega⟩ s) = ((cosine k.val s.val : ℝ) : EReal) := by
  rw [rows_block, ← cosTable_apply]
  exact concatenate_apply_piece (t := S4096x2048) 0 [⟨S2048x2048, cosTable⟩, ⟨S2048x2048, sinTable⟩] concatenates_S2048x2048_S2048x2048_S4096x2048_d0
    (ix2 ⟨k.val, by omega⟩ s) 0 (by decide : 0 < 2) S2048x2048 cosTable rfl rfl 0 rfl (ix2 k s) (fun a ha => match a with | ⟨0, _⟩ => absurd rfl ha | ⟨1, _⟩ => rfl)
    (by show 0 + k.val = k.val; omega)

theorem row_sine (t : Fin cfg0.N) (k s : Fin 2048) : (iblk m c 2 t : Vec Ideal S4096x2048 .bf16) (ix2 ⟨2048 + k.val, by omega⟩ s) = ((sine k.val s.val : ℝ) : EReal) := by
  rw [rows_block, ← sinTable_apply]
  exact concatenate_apply_piece (t := S4096x2048) 0 [⟨S2048x2048, cosTable⟩, ⟨S2048x2048, sinTable⟩] concatenates_S2048x2048_S2048x2048_S4096x2048_d0
    (ix2 ⟨2048 + k.val, by omega⟩ s) 1 (by decide : 1 < 2) S2048x2048 sinTable rfl rfl 2048 rfl (ix2 k s) (fun a ha => match a with | ⟨0, _⟩ => absurd rfl ha | ⟨1, _⟩ => rfl)
    rfl

theorem columns_block (t : Fin cfg0.N) (T : Fin 2048) (j : Fin 4096) : (iblk m c 3 t : Vec Ideal S2048x4096 .bf16) (ix2 T j)
    = (concatenate S2048x4096 1 [⟨S2048x2048, cosTable⟩, ⟨S2048x2048, sinTable⟩] concatenates_S2048x2048_S2048x2048_S2048x4096_d1 : FVec Ideal S2048x4096 .f32) (ix2 T j) := by
  obtain ⟨_, _, _, ⟨i0, i1⟩, _⟩ := block_numbers t
  unfold iblk
  rw [View.read_apply]
  show V m c main_v21 _ = _
  rw [columns_array]
  exact congrArg (concatenate S2048x4096 1 [⟨S2048x2048, cosTable⟩, ⟨S2048x2048, sinTable⟩] concatenates_S2048x2048_S2048x2048_S2048x4096_d1 : FVec Ideal S2048x4096 .f32)
    (whole_index (M := 2048) (N := 4096) _ i0 i1 T j rfl rfl)

theorem column_cosine (t : Fin cfg0.N) (T k : Fin 2048) : (iblk m c 3 t : Vec Ideal S2048x4096 .bf16) (ix2 T ⟨k.val, by omega⟩) = ((cosine k.val T.val : ℝ) : EReal) := by
  rw [columns_block, cosine_comm, ← cosTable_apply]
  exact concatenate_apply_piece (t := S2048x4096) 1 [⟨S2048x2048, cosTable⟩, ⟨S2048x2048, sinTable⟩] concatenates_S2048x2048_S2048x2048_S2048x4096_d1
    (ix2 T ⟨k.val, by omega⟩) 0 (by decide : 0 < 2) S2048x2048 cosTable rfl rfl 0 rfl (ix2 T k) (fun a ha => match a with | ⟨0, _⟩ => rfl | ⟨1, _⟩ => absurd rfl ha)
    (by show 0 + k.val = k.val; omega)

theorem column_sine (t : Fin cfg0.N) (T k : Fin 2048) : (iblk m c 3 t : Vec Ideal S2048x4096 .bf16) (ix2 T ⟨2048 + k.val, by omega⟩) = ((sine k.val T.val : ℝ) : EReal) := by
  rw [columns_block, sine_comm, ← sinTable_apply]
  exact concatenate_apply_piece (t := S2048x4096) 1 [⟨S2048x2048, cosTable⟩, ⟨S2048x2048, sinTable⟩] concatenates_S2048x2048_S2048x2048_S2048x4096_d1
    (ix2 T ⟨2048 + k.val, by omega⟩) 1 (by decide : 1 < 2) S2048x2048 sinTable rfl rfl 2048 rfl (ix2 T k) (fun a ha => match a with | ⟨0, _⟩ => rfl | ⟨1, _⟩ => absurd rfl ha)
    rfl

theorem even_block (t : Fin cfg0.N) (k : Fin 2048) (ch : Fin 256) : (iblk m c 4 t : Vec Ideal S2048x256 .f32) (ix2 k ch)
    = ∑ s : Fin 2048, ((cosine k.val s.val : ℝ) : EReal) * (forward m c (ix2 s ch) + masked m c (ix2 s ch)) := by
  obtain ⟨_, _, _, _, ⟨i0, i1⟩, _⟩ := block_numbers t
  unfold iblk
  rw [View.read_apply]
  show V m c main_v44 _ = _
  rw [real_array]
  refine (congrArg (against cosTable (addf (forward m c) (masked m c))) (whole_index (M := 2048) (N := 256) _ i0 i1 k ch rfl rfl)).trans ((against_apply _ _ k ch).trans ?_)
  exact Finset.sum_congr rfl fun s _ => congrArg₂ (fun a b : EReal => a * b) (cosTable_apply k s) rfl

theorem odd_block (t : Fin cfg0.N) (k : Fin 2048) (ch : Fin 256) : (iblk m c 5 t : Vec Ideal S2048x256 .f32) (ix2 k ch)
    = ∑ s : Fin 2048, ((sine k.val s.val : ℝ) : EReal) * (forward m c (ix2 s ch) - masked m c (ix2 s ch)) := by
  obtain ⟨_, _, _, _, _, ⟨i0, i1⟩, _⟩ := block_numbers t
  unfold iblk
  rw [View.read_apply]
  show V m c main_v50 _ = _
  rw [imaginary_array]
  refine (congrArg (against sinTable (subf (forward m c) (masked m c))) (whole_index (M := 2048) (N := 256) _ i0 i1 k ch rfl rfl)).trans ((against_apply _ _ k ch).trans ?_)
  exact Finset.sum_congr rfl fun s _ => congrArg₂ (fun a b : EReal => a * b) (sinTable_apply k s) rfl

/-- The filter's alternating sum. -/
def lastSum : FVec Ideal S256 .f32 :=
  Host.reduceAdd (mulf (addf (forward m c) (masked m c)) rowSigns) (constant S_ .f32 0x00000000#32) reducesTo_S2048x256_S256_d0 h_S_

theorem lastSum_apply (ch : Fin 256) : lastSum m c (ix1 ch) = ∑ s : Fin 2048, (forward m c (ix2 s ch) + masked m c (ix2 s ch)) * ((alternating s.val : ℝ) : EReal) := by
  unfold lastSum
  rw [hostReduceAdd_apply, Ideal.hostReduceAdd_single _ first_reduces]
  show Ideal.ofBits .f32 0x00000000#32 + _ = _
  rw [zero_word, EReal.coe_zero, zero_add]
  refine Finset.sum_congr rfl fun s _ => ?_
  refine (congrArg (mulf (addf (forward m c) (masked m c)) rowSigns) (first_lift first_reduces ch s)).trans ?_
  exact congrArg (fun q : EReal => (forward m c (ix2 (s : Fin 2048) ch) + masked m c (ix2 (s : Fin 2048) ch)) * q) (rowSigns_apply s ch)

theorem spread_apply {n : ℕ} (h : S1x256.BroadcastsInDim ⟨2, ![n, 256]⟩ ![0, 1]) (x : FVec Ideal S256 .f32) (r : Fin n) (ch : Fin 256) :
    broadcastInDim ⟨2, ![n, 256]⟩ ![0, 1] h (broadcastInDim S1x256 ![1] bcast_S256_S1x256_1 x) (ix2 r ch) = x (ix1 ch) := by
  rw [broadcastInDim_apply _ h _ (ix2 r ch) (ix2 0 ch) (fun a => match a with | ⟨0, _⟩ => rfl | ⟨1, _⟩ => rfl),
    broadcastInDim_apply _ bcast_S256_S1x256_1 _ (ix2 0 ch) (ix1 ch) (fun a => match a with | ⟨0, _⟩ => rfl)]

theorem last_block (t : Fin cfg0.N) (ch : Fin 256) : (iblk m c 6 t : Vec Ideal S8x256 .f32) (ix2 0 ch) = lastSum m c (ix1 ch) := by
  obtain ⟨_, _, _, _, _, _, ⟨i0, i1⟩, _⟩ := block_numbers t
  unfold iblk
  rw [View.read_apply]
  exact (congrArg (V m c main_v38 : Vec Ideal S8x256 .f32) (whole_index (M := 8) (N := 256) (M' := 8) (N' := 256) (((cfg0.win 6).blk t).view.emb (ix2 0 ch)) i0 i1 0 ch rfl rfl)).trans
    ((congrFun (last_array m c) (ix2 0 ch)).trans (spread_apply bcast_S1x256_S8x256_0_1 (lastSum m c) 0 ch))

theorem bias_block (t : Fin cfg0.N) (ch : Fin 256) : (iblk m c 7 t : Vec Ideal S1x256 .f32) (ix2 0 ch) = bias m c (ix1 ch) := by
  obtain ⟨_, _, _, _, _, _, _, ⟨i0, i1⟩, _⟩ := block_numbers t
  unfold iblk
  rw [View.read_apply]
  show V m c main_v51 _ = _
  rw [bias_array]
  refine Eq.trans ?_ (broadcastInDim_apply _ bcast_S256_S1x256_1 (bias m c) (ix2 0 ch) (ix1 ch) (fun a => match a with | ⟨0, _⟩ => rfl))
  exact congrArg (broadcastInDim S1x256 ![1] bcast_S256_S1x256_1 (bias m c)) (whole_index (M := 1) (N := 256) (M' := 1) (N' := 256) (((cfg0.win 7).blk t).view.emb (ix2 0 ch)) i0 i1 0 ch rfl rfl)

end Cert.KernelIdeal.Hyena

end
-- ==== Proof.Hyena.Payloads.lean ====
/- The long convolution's body, over the extended reals: each array it stores, at one element, from the arrays it loads. -/
module

public import proofs.«01_k».proof.Proof.Hyena.Transform
public import proofs.«01_k».proof.Proof.InProj.Rows
public import proofs.«01_k».proof.Proof.Gen.KernelIdeal.Skeleton

@[expose] public section

noncomputable section

namespace Cert.KernelIdeal.Hyena

open Cert.KernelIdeal Cert.KernelIdeal.Gen Cert.Rows Cert.Hyena
open Idealize.ShloMosaic Idealize.ShloMosaic.TcCoe Idealize.SL.Sem Idealize.ShloMosaic.ValueIdx
open scoped BigOperators

theorem one_4096th : Ideal.ofBits .f32 0x39800000#32 = ((1 / 4096 : ℝ) : EReal) := by
  simp [Ideal.ofBits, Ideal.ieee, -EReal.coe_mul]; norm_num

theorem two_4096ths : Ideal.ofBits .f32 0x3A000000#32 = ((2 / 4096 : ℝ) : EReal) := by
  simp [Ideal.ofBits, Ideal.ieee, -EReal.coe_mul]; norm_num

/-- The test for the zeroth row. -/
theorem zeroth_row : ∀ (k : Fin k0_t1_loop.trips) (r : Fin 512),
    Scalar.cmpi .eq (Scalar.addi (Scalar.muli (Scf.iv 0#32 1#32 k) 512#32) (BitVec.ofNat 32 (0 * 512 + r.val))) 0#32
      = if 512 * k.val + r.val = 0 then 1#1 else 0#1 := by decide +kernel

/-- One less twice a place's low bit is the alternating sign. -/
theorem sign_word : ∀ t : Fin 2048, (Scalar.subi 1#32 (Scalar.muli 2#32 (Scalar.andi (BitVec.ofNat 32 (0 * 2048 + t.val)) 1#32))).toInt
    = if t.val % 2 = 0 then 1 else -1 := by decide +kernel

theorem sign_word_tile : ∀ t : Fin 512, (Scalar.subi 1#32 (Scalar.muli 2#32 (Scalar.andi (BitVec.ofNat 32 (0 * 512 + t.val)) 1#32))).toInt
    = if t.val % 2 = 0 then 1 else -1 := by decide +kernel

/-- The column of weights of a tile of 512 frequencies. -/
theorem pay6_apply (k : Fin k0_t1_loop.trips) (r : Fin 512) :
    k0_pay6 (F := Ideal) 0#32 1#32 k (ix2 r 0) = ((weight (512 * k.val + r.val) : ℝ) : EReal) := by
  unfold k0_pay6
  show Scalar.select (Scalar.cmpi .eq (Scalar.addi (Scalar.muli (Scf.iv 0#32 1#32 k) 512#32) (BitVec.ofNat 32 (0 * 512 + r.val))) 0#32)
    (Ideal.ofBits .f32 0x39800000#32) (Ideal.ofBits .f32 0x3A000000#32) = _
  rw [zeroth_row, one_4096th, two_4096ths]
  unfold weight
  by_cases h : 512 * k.val + r.val = 0
  · rw [if_pos h, if_pos h]; rfl
  · rw [if_neg h, if_neg h]; rfl

/-- The product of a tile of a table with the input block. -/
theorem pay4_apply (v1 : FVec Ideal S2048x256 .bf16) (v27 : Vec Ideal S512x2048 .bf16) (r : Fin 512) (ch : Fin 256) :
    k0_pay4 (F := Ideal) v1 v27 (ix2 r ch) = ∑ s : Fin 2048, v27 (ix2 r s) * v1 (ix2 s ch) := by
  unfold k0_pay4
  refine (product_apply (φ₁ := .bf16) (φ₂ := .bf16) _ _ r ch).trans (Finset.sum_congr rfl fun s _ => congrArg (· * v1 (ix2 s ch)) ?_)
  exact shapeCast_apply v27 shapeCasts_S512x2048_S512x2048 (ix2 r s) (ix2 r s) rfl

theorem pay5_apply (v1 : FVec Ideal S2048x256 .bf16) (v27 : Vec Ideal S512x2048 .bf16) (r : Fin 512) (ch : Fin 256) :
    k0_pay5 (F := Ideal) v1 v27 (ix2 r ch) = ∑ s : Fin 2048, v27 (ix2 r s) * v1 (ix2 s ch) := pay4_apply v1 v27 r ch

theorem pay7_apply (v : Vec Ideal S512x256 .f32) (r : Fin 512) (ch : Fin 256) : k0_pay7 (F := Ideal) v (ix2 r ch) = v (ix2 r ch) :=
  shapeCast_apply v shapeCasts_S512x256_S512x256 (ix2 r ch) (ix2 r ch) rfl

theorem column_apply (x : FVec Ideal S512x1 .f32) (r : Fin 512) (ch : Fin 256) :
    broadcastTo S512x256 x broadcasts_S512x1_S512x256 (ix2 r ch) = x (ix2 r 0) :=
  broadcastTo_apply x broadcasts_S512x1_S512x256 (ix2 r ch) (ix2 r 0) fun a => match a with
    | ⟨0, _⟩ => rfl
    | ⟨1, _⟩ => rfl

theorem row_apply (x : FVec Ideal S1x256 .f32) (r : Fin 512) (ch : Fin 256) :
    broadcastTo S512x256 x broadcasts_S1x256_S512x256 (ix2 r ch) = x (ix2 0 ch) :=
  broadcastTo_apply x broadcasts_S1x256_S512x256 (ix2 r ch) (ix2 0 ch) fun a => match a with
    | ⟨0, _⟩ => rfl
    | ⟨1, _⟩ => rfl

/-- The real part of a tile of the weighted product of spectra. -/
theorem pay9_apply (v1 : FVec Ideal S2048x256 .bf16) (k : Fin k0_t1_loop.trips) (v27 v31 : Vec Ideal S512x2048 .bf16) (v44 v47 : Vec Ideal S512x256 .f32)
    (r : Fin 512) (ch : Fin 256) :
    k0_pay9 (F := Ideal) v1 0#32 1#32 k v27 v31 v44 v47 (ix2 r ch)
      = ((∑ s : Fin 2048, v27 (ix2 r s) * v1 (ix2 s ch)) * v44 (ix2 r ch) - (∑ s : Fin 2048, v31 (ix2 r s) * v1 (ix2 s ch)) * v47 (ix2 r ch))
        * ((weight (512 * k.val + r.val) : ℝ) : EReal) := by
  unfold k0_pay9
  refine (shapeCast_apply _ shapeCasts_S512x256_S512x256 (ix2 r ch) (ix2 r ch) rfl).trans ?_
  show (k0_pay4 (F := Ideal) v1 v27 (ix2 r ch) * k0_pay7 (F := Ideal) v44 (ix2 r ch) - k0_pay5 (F := Ideal) v1 v31 (ix2 r ch) * k0_pay7 (F := Ideal) v47 (ix2 r ch) : EReal)
      * broadcastTo S512x256 (k0_pay6 (F := Ideal) 0#32 1#32 k) broadcasts_S512x1_S512x256 (ix2 r ch) = _
  rw [pay4_apply, pay5_apply, pay7_apply, pay7_apply, column_apply, pay6_apply]

/-- The imaginary part, its sign turned. -/
theorem pay10_apply (v1 : FVec Ideal S2048x256 .bf16) (k : Fin k0_t1_loop.trips) (v27 v31 : Vec Ideal S512x2048 .bf16) (v44 v47 : Vec Ideal S512x256 .f32)
    (r : Fin 512) (ch : Fin 256) :
    k0_pay2 (F := Ideal) (k0_pay10 (F := Ideal) v1 0#32 1#32 k v27 v31 v44 v47) (ix2 r ch)
      = ((∑ s : Fin 2048, v27 (ix2 r s) * v1 (ix2 s ch)) * v47 (ix2 r ch) + (∑ s : Fin 2048, v31 (ix2 r s) * v1 (ix2 s ch)) * v44 (ix2 r ch))
        * ((weight (512 * k.val + r.val) : ℝ) : EReal) := by
  unfold k0_pay2 k0_pay10
  refine (shapeCast_apply _ shapeCasts_S512x256_S512x256 (ix2 r ch) (ix2 r ch) rfl).trans ?_
  show (k0_pay4 (F := Ideal) v1 v27 (ix2 r ch) * k0_pay7 (F := Ideal) v47 (ix2 r ch) + k0_pay5 (F := Ideal) v1 v31 (ix2 r ch) * k0_pay7 (F := Ideal) v44 (ix2 r ch) : EReal)
      * broadcastTo S512x256 (k0_pay6 (F := Ideal) 0#32 1#32 k) broadcasts_S512x1_S512x256 (ix2 r ch) = _
  rw [pay4_apply, pay5_apply, pay7_apply, pay7_apply, column_apply, pay6_apply]

theorem pay1_apply (v0 : Vec Ideal S1x2048x256 .bf16) (s : Fin 2048) (ch : Fin 256) : k0_pay1 (F := Ideal) v0 (ix2 s ch) = v0 (ix3 0 s ch) :=
  shapeCast_apply v0 shapeCasts_S1x2048x256_S2048x256 (ix2 s ch) (ix3 0 s ch) (by
    rewrite [Shape.rowMajor_val_three, Shape.rowMajor_val_two]
    show (0 * 2048 + s.val) * 256 + ch.val = s.val * 256 + ch.val
    omega)

theorem tile_apply (v : Vec Ideal S1x512x256 .bf16) (s : Fin 512) (ch : Fin 256) :
    shapeCast S512x256 v shapeCasts_S1x512x256_S512x256 (ix2 s ch) = v (ix3 0 s ch) :=
  shapeCast_apply v shapeCasts_S1x512x256_S512x256 (ix2 s ch) (ix3 0 s ch) (by
    rewrite [Shape.rowMajor_val_three, Shape.rowMajor_val_two]
    show (0 * 512 + s.val) * 256 + ch.val = s.val * 256 + ch.val
    omega)

theorem sign_eq (n : ℕ) (b : BitVec 32) (h : b.toInt = if n % 2 = 0 then 1 else -1) : ((b.toInt : ℝ) : EReal) = ((alternating n : ℝ) : EReal) := by
  rw [h]
  unfold alternating
  by_cases e : n % 2 = 0
  · rw [if_pos e, if_pos e, Int.cast_one]
  · rw [if_neg e, if_neg e, Int.cast_neg, Int.cast_one]

/-- The input block against the alternating signs. -/
theorem signs_apply (v0 : Vec Ideal S1x2048x256 .bf16) (w : FVec Ideal S2048x256 .f32)
    (hw : ∀ (s : Fin 2048) (ch : Fin 256), w (ix2 s ch) = v0 (ix3 0 s ch) * ((alternating s.val : ℝ) : EReal)) (ch : Fin 256) :
    shapeCast S1x256 (multiReduction .add [0] S256 w 0x00000000#32 reduces_S2048x256_S256 (.inl rfl) rfl) shapeCasts_S256_S1x256 (ix2 0 ch)
      = ∑ s : Fin 2048, v0 (ix3 0 s ch) * ((alternating s.val : ℝ) : EReal) := by
  refine (shapeCast_apply _ shapeCasts_S256_S1x256 (ix2 0 ch) (ix1 ch) (by
    rewrite [Shape.rowMajor_val_one, Shape.rowMajor_val_two]; show ch.val = 0 * 256 + ch.val; omega)).trans ?_
  refine (Ideal.multiReduction_add_single _ _ reduces_S2048x256_S256 (.inl rfl) rfl (ix1 ch)).trans ?_
  refine Finset.sum_congr rfl fun s _ => ?_
  have e : reduces_S2048x256_S256.lift (ix1 ch) s = ix2 s ch := by
    funext a; apply Fin.ext
    match a with
    | ⟨0, _⟩ => rfl
    | ⟨1, _⟩ => rfl
  rw [e]
  exact hw s ch

/-- A tile of the result. -/
theorem pay3_apply (v0 : Vec Ideal S1x2048x256 .bf16) (v15 : Vec Ideal S1x256 .f32) (v24 : Vec Ideal S512x4096 .bf16) (v26 : Vec Ideal S4096x256 .bf16)
    (v37 v41 : Vec Ideal S1x512x256 .bf16) (v47 : Vec Ideal S1x256 .f32) (r : Fin 512) (ch : Fin 256) :
    k0_pay3 (F := Ideal) v0 v15 v24 v26 v37 v41 v47 (ix3 0 r ch)
      = v41 (ix3 0 r ch) * ((∑ j : Fin 4096, v24 (ix2 r j) * v26 (ix2 j ch)
          + (∑ s : Fin 2048, v0 (ix3 0 s ch) * ((alternating s.val : ℝ) : EReal)) * v15 (ix2 0 ch) * ((1 / 4096 : ℝ) : EReal)
            * ((alternating r.val : ℝ) : EReal))
          + v37 (ix3 0 r ch) * v47 (ix2 0 ch)) := by
  unfold k0_pay3
  refine (shapeCast_apply _ shapeCasts_S512x256_S1x512x256 (ix3 0 r ch) (ix2 r ch) (by
    rewrite [Shape.rowMajor_val_three, Shape.rowMajor_val_two]
    show r.val * 256 + ch.val = (0 * 512 + r.val) * 256 + ch.val
    omega)).trans ?_
  refine congrArg₂ (fun a b : EReal => a * b) (tile_apply v41 r ch) ?_
  refine congrArg₂ (fun a b : EReal => a + b) (congrArg₂ (fun a b : EReal => a + b) ?_ (congrArg₂ (fun a b : EReal => a * b) ?_ ?_)) ?_
  · refine (product_apply (φ₁ := .bf16) (φ₂ := .bf16) _ _ r ch).trans (Finset.sum_congr rfl fun j _ => congrArg (· * v26 (ix2 j ch)) ?_)
    exact shapeCast_apply v24 shapeCasts_S512x4096_S512x4096 (ix2 r j) (ix2 r j) rfl
  · refine (row_apply _ r ch).trans ?_
    refine congrArg₂ (fun a b : EReal => a * b) (congrArg₂ (fun a b : EReal => a * b) ?_ ?_) one_4096th
    · refine signs_apply v0 _ (fun s ch => ?_) ch
      exact congrArg₂ (fun a b : EReal => a * b) (pay1_apply v0 s ch) (sign_eq s.val _ (sign_word s))
    · exact shapeCast_apply v15 shapeCasts_S1x256_S1x256 (ix2 0 ch) (ix2 0 ch) rfl
  · exact sign_eq r.val _ (sign_word_tile r)
  · refine congrArg₂ (fun a b : EReal => a * b) (tile_apply v37 r ch) ?_
    refine (row_apply _ r ch).trans ?_
    exact shapeCast_apply v47 shapeCasts_S1x256_S1x256 (ix2 0 ch) (ix2 0 ch) rfl

end Cert.KernelIdeal.Hyena

end
-- ==== Proof.Hyena.Body.lean ====
/- What the long convolution's body leaves in its scratch array and in its result's block, at one element, over the extended reals. -/
module

public import proofs.«01_k».proof.Proof.Hyena.IdealFrame
public import proofs.«01_k».proof.Proof.Hyena.Payloads
public import Idealize.ShloMosaic.Lib.WholeRead

@[expose] public section

set_option maxRecDepth 16384

noncomputable section

namespace Cert.KernelIdeal.Hyena

open Cert.KernelIdeal Cert.KernelIdeal.Gen Cert.Rows Cert.Hyena
open Idealize.ShloMosaic Idealize.ShloMosaic.TcCoe Idealize.SL.Sem Idealize.ShloMosaic.ValueIdx
open scoped BigOperators

section Trips

variable {F : FTy → Type} [FloatOps F] (c : Dev nD) (i : grid0.Coords)
  (arg1 : Memref sig .tc .vmem S1x2048x256 .bf16) (harg1 : arg1.IsWhole)
  (arg2 : Memref sig .tc .vmem S1x2048x256 .bf16) (harg2 : arg2.IsWhole)
  (arg3 : Memref sig .tc .vmem S4096x2048 .bf16) (harg3 : arg3.IsWhole)
  (arg4 : Memref sig .tc .vmem S2048x4096 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S8x256 .f32) (harg7 : arg7.IsWhole)
  (arg8 : Memref sig .tc .vmem S1x256 .f32) (harg8 : arg8.IsWhole)
  (arg9 : Memref sig .tc .vmem S1x2048x256 .bf16) (harg9 : arg9.IsWhole)
  (arg10 : Memref sig .tc .vmem S4096x256 .bf16) (harg10 : arg10.IsWhole)

theorem whole4096 : ∀ a, (![0, 0] : Fin 2 → ℕ) a + S4096x256.size a ≤ S4096x256.size a := by decide
theorem whole1 : ∀ a, (![0, 0] : Fin 2 → ℕ) a + S1x256.size a ≤ S1x256.size a := by decide
theorem first8 : ∀ a, (![0, 0] : Fin 2 → ℕ) a + S1x256.size a ≤ S8x256.size a := by decide
theorem whole2048 : ∀ a, (![0, 0, 0] : Fin 3 → ℕ) a + S1x2048x256.size a ≤ S1x2048x256.size a := by decide

/-- The two stores of a trip of the first loop. -/
theorem first_trip (v0 : Vec F S1x2048x256 .bf16) (X3 : BufTy.Contents (Elt F) arg3.view.ty) (X5 : BufTy.Contents (Elt F) arg5.view.ty)
    (X6 : BufTy.Contents (Elt F) arg6.view.ty) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 v0 X3 X5 X6 k
      = [⟨Rect.unit (s := S4096x256) (k0_off5 k) S512x256.size (k0_off5_inb k), k0_pay2 (k0_pay10 (k0_pay1 v0) 0#32 1#32 k
        (View.readAt (Elt F) arg3.view (Rect.unit (s := S4096x2048) (k0_off1 k) S512x2048.size (k0_off1_inb k)).toLoadRect X3) (View.readAt (Elt F) arg3.view (Rect.unit (s := S4096x2048) (k0_off2 k) S512x2048.size (k0_off2_inb k)).toLoadRect X3)
        (View.readAt (Elt F) arg5.view (Rect.unit (s := S2048x256) (k0_off3 k) S512x256.size (k0_off3_inb k)).toLoadRect X5) (View.readAt (Elt F) arg6.view (Rect.unit (s := S2048x256) (k0_off3 k) S512x256.size (k0_off3_inb k)).toLoadRect X6))⟩,
      ⟨Rect.unit (s := S4096x256) (k0_off4 k) S512x256.size (k0_off4_inb k), k0_pay9 (k0_pay1 v0) 0#32 1#32 k
        (View.readAt (Elt F) arg3.view (Rect.unit (s := S4096x2048) (k0_off1 k) S512x2048.size (k0_off1_inb k)).toLoadRect X3) (View.readAt (Elt F) arg3.view (Rect.unit (s := S4096x2048) (k0_off2 k) S512x2048.size (k0_off2_inb k)).toLoadRect X3)
        (View.readAt (Elt F) arg5.view (Rect.unit (s := S2048x256) (k0_off3 k) S512x256.size (k0_off3_inb k)).toLoadRect X5) (View.readAt (Elt F) arg6.view (Rect.unit (s := S2048x256) (k0_off3 k) S512x256.size (k0_off3_inb k)).toLoadRect X6)⟩] := by
  unfold tripL_k0_t1 trip_k0_t1
  rfl

/-- The store of a trip of the second loop. -/
theorem second_trip (v0 : Vec F S1x2048x256 .bf16) (v15 : Vec F S1x256 .f32) (X1 : BufTy.Contents (Elt F) arg1.view.ty) (X2 : BufTy.Contents (Elt F) arg2.view.ty)
    (X4 : BufTy.Contents (Elt F) arg4.view.ty) (X8 : BufTy.Contents (Elt F) arg8.view.ty) (X10 : BufTy.Contents (Elt F) arg10.view.ty)
    (k : Fin k0_t2_loop.trips) :
    tripL_k0_t2 (F := F) Variants.none c none i arg1 harg1 arg2 harg2 arg3 harg3 arg4 harg4 arg5 harg5 arg6 harg6 arg7 harg7 arg8 harg8 arg9 harg9 arg10 harg10 v0 v15 X1 X2 X4 X8 X10 k
      = [⟨Rect.unit (s := S1x2048x256) (k0_off7 k) S1x512x256.size (k0_off7_inb k), k0_pay3 v0 v15
        (View.readAt (Elt F) arg4.view (Rect.unit (s := S2048x4096) (k0_off6 k) S512x4096.size (k0_off6_inb k)).toLoadRect X4)
        (View.readAt (Elt F) arg10.view (Rect.unit (s := S4096x256) ![0, 0] S4096x256.size whole4096).toLoadRect X10)
        (View.readAt (Elt F) arg1.view (Rect.unit (s := S1x2048x256) (k0_off7 k) S1x512x256.size (k0_off7_inb k)).toLoadRect X1)
        (View.readAt (Elt F) arg2.view (Rect.unit (s := S1x2048x256) (k0_off7 k) S1x512x256.size (k0_off7_inb k)).toLoadRect X2)
        (View.readAt (Elt F) arg8.view (Rect.unit (s := S1x256) ![0, 0] S1x256.size whole1).toLoadRect X8)⟩] := by
  unfold tripL_k0_t2 trip_k0_t2
  rfl

/-- The body's stores into the result's block are those of the second loop's four trips. -/
theorem body_stores (x0 x1 : Vec F S1x2048x256 .bf16) (x2 : Vec F S4096x2048 .bf16) (x3 : Vec F S2048x4096 .bf16) (x4 x5 : Vec F S2048x256 .f32)
    (x6 : Vec F S8x256 .f32) (x7 : Vec F S1x256 .f32) :
    (bodyRun (F := F) c i arg1 harg1 arg2 harg2 arg3 harg3 arg4 harg4 arg5 harg5 arg6 harg6 arg7 harg7 arg8 harg8 arg9 harg9 arg10 harg10 x0 x1 x2 x3 x4 x5 x6 x7).1
      = pb_k0_t2 (F := F) Variants.none c none i arg1 harg1 arg2 harg2 arg3 harg3 arg4 harg4 arg5 harg5 arg6 harg6 arg7 harg7 arg8 harg8 arg9 harg9 arg10 harg10
        (View.readAt (Elt F) arg1.view (Rect.unit (s := S1x2048x256) ![0, 0, 0] S1x2048x256.size whole2048).toLoadRect (harg1.unread x0))
        (View.readAt (Elt F) arg7.view (Rect.unit (s := S8x256) ![0, 0] S1x256.size first8).toLoadRect (harg7.unread x6))
        (harg1.unread x0) (harg2.unread x1) (harg4.unread x3) (harg8.unread x7)
        (arg10.view.writes (Elt F) arg10.view.junk (pb_k0_t1 (F := F) Variants.none c none i arg1 harg1 arg2 harg2 arg3 harg3 arg4 harg4 arg5 harg5 arg6 harg6 arg7 harg7 arg8 harg8 arg9 harg9 arg10 harg10
          (View.readAt (Elt F) arg1.view (Rect.unit (s := S1x2048x256) ![0, 0, 0] S1x2048x256.size whole2048).toLoadRect (harg1.unread x0))
          (harg3.unread x2) (harg5.unread x4) (harg6.unread x5) k0_t1_loop.trips))
        k0_t2_loop.trips := by
  unfold bodyRun
  rfl

end Trips

/-! ## Places of a load -/

theorem place2 {a b a' b' : ℕ} (off : Fin 2 → ℕ) (inb : ∀ d, off d + (⟨2, ![a', b']⟩ : Shape).size d ≤ (⟨2, ![a, b]⟩ : Shape).size d)
    (r : Fin a') (ch : Fin b') (r' : Fin a) (ch' : Fin b) (h0 : off 0 + r.val = r'.val) (h1 : off 1 + ch.val = ch'.val) :
    (Rect.unit (s := ⟨2, ![a, b]⟩) off (⟨2, ![a', b']⟩ : Shape).size inb).toLoadRect.idx (ix2 r ch) = ix2 r' ch' := by
  funext d
  apply Fin.ext
  match d with
  | ⟨0, _⟩ => exact Eq.trans (show _ = off 0 + 1 * r.val from rfl) (by rw [one_mul]; exact h0)
  | ⟨1, _⟩ => exact Eq.trans (show _ = off 1 + 1 * ch.val from rfl) (by rw [one_mul]; exact h1)

theorem place3 {a b g a' b' g' : ℕ} (off : Fin 3 → ℕ) (inb : ∀ d, off d + (⟨3, ![g', a', b']⟩ : Shape).size d ≤ (⟨3, ![g, a, b]⟩ : Shape).size d)
    (q : Fin g') (r : Fin a') (ch : Fin b') (q' : Fin g) (r' : Fin a) (ch' : Fin b) (h : off 0 + q.val = q'.val) (h0 : off 1 + r.val = r'.val)
    (h1 : off 2 + ch.val = ch'.val) :
    (Rect.unit (s := ⟨3, ![g, a, b]⟩) off (⟨3, ![g', a', b']⟩ : Shape).size inb).toLoadRect.idx (ix3 q r ch) = ix3 q' r' ch' := by
  funext d
  apply Fin.ext
  match d with
  | ⟨0, _⟩ => exact Eq.trans (show _ = off 0 + 1 * q.val from rfl) (by rw [one_mul]; exact h)
  | ⟨1, _⟩ => exact Eq.trans (show _ = off 1 + 1 * r.val from rfl) (by rw [one_mul]; exact h0)
  | ⟨2, _⟩ => exact Eq.trans (show _ = off 2 + 1 * ch.val from rfl) (by rw [one_mul]; exact h1)

section Values

variable (x0 x1 : Vec Ideal S1x2048x256 .bf16) (x2 : Vec Ideal S4096x2048 .bf16) (x3 : Vec Ideal S2048x4096 .bf16) (x4 x5 : Vec Ideal S2048x256 .f32)
  (x6 : Vec Ideal S8x256 .f32) (x7 : Vec Ideal S1x256 .f32)

/-- A row of the stacked tables against the input block. -/
def spectrum (r : Fin 4096) (ch : Fin 256) : EReal := ∑ s : Fin 2048, x2 (ix2 r s) * x0 (ix3 0 s ch)

def cosinePart (k : Fin 2048) (ch : Fin 256) : EReal :=
  (spectrum x0 x2 ⟨k.val, by omega⟩ ch * x4 (ix2 k ch) - spectrum x0 x2 ⟨2048 + k.val, by omega⟩ ch * x5 (ix2 k ch)) * ((weight k.val : ℝ) : EReal)

def sinePart (k : Fin 2048) (ch : Fin 256) : EReal :=
  (spectrum x0 x2 ⟨k.val, by omega⟩ ch * x5 (ix2 k ch) + spectrum x0 x2 ⟨2048 + k.val, by omega⟩ ch * x4 (ix2 k ch)) * ((weight k.val : ℝ) : EReal)

/-- The scratch array: the cosine parts of the weighted product of spectra, then its sine parts. -/
def product (j : Fin 4096) (ch : Fin 256) : EReal :=
  if h : j.val < 2048 then cosinePart x0 x2 x4 x5 ⟨j.val, h⟩ ch else sinePart x0 x2 x4 x5 ⟨j.val - 2048, by omega⟩ ch

/-- The result's block. -/
def result (T : Fin 2048) (ch : Fin 256) : EReal :=
  x1 (ix3 0 T ch) * ((∑ j : Fin 4096, x3 (ix2 T j) * product x0 x2 x4 x5 j ch
      + (∑ s : Fin 2048, x0 (ix3 0 s ch) * ((alternating s.val : ℝ) : EReal)) * x6 (ix2 0 ch) * ((1 / 4096 : ℝ) : EReal) * ((alternating T.val : ℝ) : EReal))
      + x0 (ix3 0 T ch) * x7 (ix2 0 ch))

variable (c : Dev nD) (i : grid0.Coords)
  (arg1 : Memref sig .tc .vmem S1x2048x256 .bf16) (harg1 : arg1.IsWhole)
  (arg2 : Memref sig .tc .vmem S1x2048x256 .bf16) (harg2 : arg2.IsWhole)
  (arg3 : Memref sig .tc .vmem S4096x2048 .bf16) (harg3 : arg3.IsWhole)
  (arg4 : Memref sig .tc .vmem S2048x4096 .bf16) (harg4 : arg4.IsWhole)
  (arg5 : Memref sig .tc .vmem S2048x256 .f32) (harg5 : arg5.IsWhole)
  (arg6 : Memref sig .tc .vmem S2048x256 .f32) (harg6 : arg6.IsWhole)
  (arg7 : Memref sig .tc .vmem S8x256 .f32) (harg7 : arg7.IsWhole)
  (arg8 : Memref sig .tc .vmem S1x256 .f32) (harg8 : arg8.IsWhole)
  (arg9 : Memref sig .tc .vmem S1x2048x256 .bf16) (harg9 : arg9.IsWhole)
  (arg10 : Memref sig .tc .vmem S4096x256 .bf16) (harg10 : arg10.IsWhole)

theorem first_loop_pieces (n : ℕ) (hn : n ≤ k0_t1_loop.trips) :
    ∀ p ∈ pb_k0_t1 (F := Ideal) Variants.none c none i arg1 harg1 arg2 harg2 arg3 harg3 arg4 harg4 arg5 harg5 arg6 harg6 arg7 harg7 arg8 harg8 arg9 harg9 arg10 harg10
        (View.readAt (Elt Ideal) arg1.view (Rect.unit (s := S1x2048x256) ![0, 0, 0] S1x2048x256.size whole2048).toLoadRect (harg1.unread x0))
        (harg3.unread x2) (harg5.unread x4) (harg6.unread x5) n,
      ∀ x : p.1.shape.Idx, p.2 x = product x0 x2 x4 x5 (p.1.emb x 0) (p.1.emb x 1) := by
  induction n with
  | zero => intro p hp; exact absurd hp List.not_mem_nil
  | succ n ih =>
    intro p hp
    have e := pb_k0_t1_succ (F := Ideal) Variants.none c none i arg1 harg1 arg2 harg2 arg3 harg3 arg4 harg4 arg5 harg5 arg6 harg6 arg7 harg7 arg8 harg8 arg9 harg9 arg10 harg10
        (View.readAt (Elt Ideal) arg1.view (Rect.unit (s := S1x2048x256) ![0, 0, 0] S1x2048x256.size whole2048).toLoadRect (harg1.unread x0))
        (harg3.unread x2) (harg5.unread x4) (harg6.unread x5) ⟨n, hn⟩
    rw [e, first_trip] at hp
    have hn4 : n < 4 := lt_of_lt_of_le hn k0_t1_abs.2.1
    have input (s : Fin 2048) (ch : Fin 256) : k0_pay1 (F := Ideal) (View.readAt (Elt Ideal) arg1.view (Rect.unit (s := S1x2048x256) ![0, 0, 0] S1x2048x256.size whole2048).toLoadRect (harg1.unread x0)) (ix2 s ch) = x0 (ix3 0 s ch) := by
      refine (pay1_apply _ s ch).trans ((harg1.readAt_unread x0 _ _).trans (congrArg x0 ?_))
      exact place3 _ _ 0 s ch 0 s ch (Nat.zero_add _) (Nat.zero_add _) (Nat.zero_add _)
    have table (off : Fin 2 → ℕ) (inb) (r : Fin 512) (s : Fin 2048) (R : Fin 4096) (h0 : off 0 + r.val = R.val) (h1 : off 1 = 0) :
        (View.readAt (Elt Ideal) arg3.view (Rect.unit (s := S4096x2048) off S512x2048.size inb).toLoadRect (harg3.unread x2)) (ix2 r s) = x2 (ix2 R s) :=
      (harg3.readAt_unread x2 _ _).trans (congrArg x2 (place2 off inb r s R s h0 (by rw [h1, Nat.zero_add])))
    have row (off : Fin 2 → ℕ) (inb) (r : Fin 512) (ch : Fin 256) (R : Fin 4096) (h0 : off 0 + r.val = R.val) (h1 : off 1 = 0) :
        ∑ s : Fin 2048, (View.readAt (Elt Ideal) arg3.view (Rect.unit (s := S4096x2048) off S512x2048.size inb).toLoadRect (harg3.unread x2)) (ix2 r s)
            * k0_pay1 (F := Ideal) (View.readAt (Elt Ideal) arg1.view (Rect.unit (s := S1x2048x256) ![0, 0, 0] S1x2048x256.size whole2048).toLoadRect (harg1.unread x0)) (ix2 s ch)
          = spectrum x0 x2 R ch :=
      Finset.sum_congr rfl fun s _ => congrArg₂ (fun a b : EReal => a * b) (table off inb r s R h0 h1) (input s ch)
    have real (off : Fin 2 → ℕ) (inb) (r : Fin 512) (ch : Fin 256) (R : Fin 2048) (h0 : off 0 + r.val = R.val) (h1 : off 1 = 0) :
        (View.readAt (Elt Ideal) arg5.view (Rect.unit (s := S2048x256) off S512x256.size inb).toLoadRect (harg5.unread x4)) (ix2 r ch) = x4 (ix2 R ch) :=
      (harg5.readAt_unread x4 _ _).trans (congrArg x4 (place2 off inb r ch R ch h0 (by rw [h1, Nat.zero_add])))
    have imag (off : Fin 2 → ℕ) (inb) (r : Fin 512) (ch : Fin 256) (R : Fin 2048) (h0 : off 0 + r.val = R.val) (h1 : off 1 = 0) :
        (View.readAt (Elt Ideal) arg6.view (Rect.unit (s := S2048x256) off S512x256.size inb).toLoadRect (harg6.unread x5)) (ix2 r ch) = x5 (ix2 R ch) :=
      (harg6.readAt_unread x5 _ _).trans (congrArg x5 (place2 off inb r ch R ch h0 (by rw [h1, Nat.zero_add])))
    have o1 := k0_off1_eq ⟨n, hn⟩
    have o2 := k0_off2_eq ⟨n, hn⟩
    have o3 := k0_off3_eq ⟨n, hn⟩
    have o4 := k0_off4_eq ⟨n, hn⟩
    have o5 := k0_off5_eq ⟨n, hn⟩
    rcases List.mem_append.mp hp with hp | hp
    · rcases List.mem_cons.mp hp with rfl | hp
      · intro x
        obtain ⟨r, ch, rfl⟩ : ∃ (r : Fin 512) (ch : Fin 256), x = ix2 r ch := ⟨_, _, eq_ix2 x⟩
        have place := place2 (a := 4096) (b := 256) (a' := 512) (b' := 256) (k0_off5 ⟨n, hn⟩) (k0_off5_inb ⟨n, hn⟩) r ch
          ⟨2048 + (512 * n + r.val), by omega⟩ ch (by rw [o5]; show 512 * n + 2048 + r.val = 2048 + (512 * n + r.val); omega) (by rw [o5]; exact Nat.zero_add _)
        refine (pay10_apply _ _ _ _ _ _ r ch).trans ?_
        refine Eq.trans ?_ (congrArg (fun y : S4096x256.Idx => product x0 x2 x4 x5 (y 0) (y 1)) place.symm)
        show _ = product x0 x2 x4 x5 ⟨2048 + (512 * n + r.val), by omega⟩ ch
        unfold product
        rw [dif_neg (by show ¬2048 + (512 * n + r.val) < 2048; omega)]
        have ek : (⟨(2048 + (512 * n + r.val)) - 2048, by omega⟩ : Fin 2048) = ⟨512 * n + r.val, by omega⟩ := Fin.ext (by show 2048 + (512 * n + r.val) - 2048 = 512 * n + r.val; omega)
        refine Eq.trans ?_ (congrArg (fun q : Fin 2048 => sinePart x0 x2 x4 x5 q ch) ek.symm)
        unfold sinePart
        rw [row _ _ r ch ⟨512 * n + r.val, by omega⟩ (by rw [o1]; rfl) (by rw [o1]; rfl),
          row _ _ r ch ⟨2048 + (512 * n + r.val), by omega⟩ (by rw [o2]; show 512 * n + 2048 + r.val = 2048 + (512 * n + r.val); omega) (by rw [o2]; rfl),
          real _ _ r ch ⟨512 * n + r.val, by omega⟩ (by rw [o3]; rfl) (by rw [o3]; rfl),
          imag _ _ r ch ⟨512 * n + r.val, by omega⟩ (by rw [o3]; rfl) (by rw [o3]; rfl)]
      · rcases List.mem_cons.mp hp with rfl | hp
        · intro x
          obtain ⟨r, ch, rfl⟩ : ∃ (r : Fin 512) (ch : Fin 256), x = ix2 r ch := ⟨_, _, eq_ix2 x⟩
          have place := place2 (a := 4096) (b := 256) (a' := 512) (b' := 256) (k0_off4 ⟨n, hn⟩) (k0_off4_inb ⟨n, hn⟩) r ch
            ⟨512 * n + r.val, by omega⟩ ch (by rw [o4]; rfl) (by rw [o4]; exact Nat.zero_add _)
          refine (pay9_apply _ _ _ _ _ _ r ch).trans ?_
          refine Eq.trans ?_ (congrArg (fun y : S4096x256.Idx => product x0 x2 x4 x5 (y 0) (y 1)) place.symm)
          show _ = product x0 x2 x4 x5 ⟨512 * n + r.val, by omega⟩ ch
          unfold product
          rw [dif_pos (by show 512 * n + r.val < 2048; omega)]
          unfold cosinePart
          rw [row _ _ r ch ⟨512 * n + r.val, by omega⟩ (by rw [o1]; rfl) (by rw [o1]; rfl),
            row _ _ r ch ⟨2048 + (512 * n + r.val), by omega⟩ (by rw [o2]; show 512 * n + 2048 + r.val = 2048 + (512 * n + r.val); omega) (by rw [o2]; rfl),
            real _ _ r ch ⟨512 * n + r.val, by omega⟩ (by rw [o3]; rfl) (by rw [o3]; rfl),
            imag _ _ r ch ⟨512 * n + r.val, by omega⟩ (by rw [o3]; rfl) (by rw [o3]; rfl)]
        · exact absurd hp List.not_mem_nil
    · exact ih (by omega) p hp

/-- What the second loop loads of the scratch array. -/
theorem scratch_apply (j : Fin 4096) (ch : Fin 256) :
    View.readAt (Elt Ideal) arg10.view (Rect.unit (s := S4096x256) ![0, 0] S4096x256.size whole4096).toLoadRect
        (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10
          (View.readAt (Elt Ideal) arg1.view (Rect.unit (s := S1x2048x256) ![0, 0, 0] S1x2048x256.size whole2048).toLoadRect (harg1.unread x0))
          (harg3.unread x2) (harg5.unread x4) (harg6.unread x5) k0_t1_loop.trips)) (ix2 j ch)
      = product x0 x2 x4 x5 j ch := by
  have place := place2 (a := 4096) (b := 256) (a' := 4096) (b' := 256) ![0, 0] whole4096 j ch j ch (Nat.zero_add _) (Nat.zero_add _)
  refine Eq.trans (congrArg (arg10.view.read (Elt Ideal) _) place) ?_
  refine View.read_writes_apply_of_pieces (Val := Elt Ideal) arg10.view _ (fun y : S4096x256.Idx => product x0 x2 x4 x5 (y 0) (y 1)) _ ?_ (ix2 j ch)
    (scratch_cover c i arg1 harg1 arg2 harg2 arg3 harg3 arg4 harg4 arg5 harg5 arg6 harg6 arg7 harg7 arg8 harg8 arg9 harg9 arg10 harg10 _ _ _ _ (ix2 j ch))
  exact first_loop_pieces x0 x2 x4 x5 c i arg1 harg1 arg2 harg2 arg3 harg3 arg4 harg4 arg5 harg5 arg6 harg6 arg7 harg7 arg8 harg8 arg9 harg9 arg10 harg10 _ le_rfl

theorem alternating_tile (n r : ℕ) : alternating (512 * n + r) = alternating r := by
  unfold alternating
  rw [show (512 * n + r) % 2 = r % 2 by omega]

theorem second_loop_pieces (n : ℕ) (hn : n ≤ k0_t2_loop.trips) :
    ∀ p ∈ pb_k0_t2 (F := Ideal) Variants.none c none i arg1 harg1 arg2 harg2 arg3 harg3 arg4 harg4 arg5 harg5 arg6 harg6 arg7 harg7 arg8 harg8 arg9 harg9 arg10 harg10
        (View.readAt (Elt Ideal) arg1.view (Rect.unit (s := S1x2048x256) ![0, 0, 0] S1x2048x256.size whole2048).toLoadRect (harg1.unread x0))
        (View.readAt (Elt Ideal) arg7.view (Rect.unit (s := S8x256) ![0, 0] S1x256.size first8).toLoadRect (harg7.unread x6))
        (harg1.unread x0) (harg2.unread x1) (harg4.unread x3) (harg8.unread x7)
        (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10
          (View.readAt (Elt Ideal) arg1.view (Rect.unit (s := S1x2048x256) ![0, 0, 0] S1x2048x256.size whole2048).toLoadRect (harg1.unread x0))
          (harg3.unread x2) (harg5.unread x4) (harg6.unread x5) k0_t1_loop.trips)) n,
      ∀ x : p.1.shape.Idx, p.2 x = result x0 x1 x2 x3 x4 x5 x6 x7 (p.1.emb x 1) (p.1.emb x 2) := by
  induction n with
  | zero => intro p hp; exact absurd hp List.not_mem_nil
  | succ n ih =>
    intro p hp
    have e := pb_k0_t2_succ (F := Ideal) Variants.none c none i arg1 harg1 arg2 harg2 arg3 harg3 arg4 harg4 arg5 harg5 arg6 harg6 arg7 harg7 arg8 harg8 arg9 harg9 arg10 harg10
        (View.readAt (Elt Ideal) arg1.view (Rect.unit (s := S1x2048x256) ![0, 0, 0] S1x2048x256.size whole2048).toLoadRect (harg1.unread x0))
        (View.readAt (Elt Ideal) arg7.view (Rect.unit (s := S8x256) ![0, 0] S1x256.size first8).toLoadRect (harg7.unread x6))
        (harg1.unread x0) (harg2.unread x1) (harg4.unread x3) (harg8.unread x7)
        (arg10.view.writes (Elt Ideal) arg10.view.junk (pb_k0_t1 (F := Ideal) Variants.none c none i arg1 harg1 arg2 harg2 arg3 harg3 arg4 harg4 arg5 harg5 arg6 harg6 arg7 harg7 arg8 harg8 arg9 harg9 arg10 harg10
          (View.readAt (Elt Ideal) arg1.view (Rect.unit (s := S1x2048x256) ![0, 0, 0] S1x2048x256.size whole2048).toLoadRect (harg1.unread x0))
          (harg3.unread x2) (harg5.unread x4) (harg6.unread x5) k0_t1_loop.trips)) ⟨n, hn⟩
    rw [e, second_trip] at hp
    have hn4 : n < 4 := lt_of_lt_of_le hn k0_t2_abs.2.1
    have o6 := k0_off6_eq ⟨n, hn⟩
    have o7 := k0_off7_eq ⟨n, hn⟩
    rcases List.mem_append.mp hp with hp | hp
    · rcases List.mem_cons.mp hp with rfl | hp
      · intro x
        obtain ⟨q, r, ch, rfl⟩ : ∃ (q : Fin 1) (r : Fin 512) (ch : Fin 256), x = ix3 q r ch := ⟨_, _, _, eq_ix3 x⟩
        obtain rfl : q = 0 := Subsingleton.elim _ _
        have place := place3 (g := 1) (a := 2048) (b := 256) (g' := 1) (a' := 512) (b' := 256) (k0_off7 ⟨n, hn⟩) (k0_off7_inb ⟨n, hn⟩) 0 r ch 0
          ⟨512 * n + r.val, by omega⟩ ch (by rw [o7]; rfl) (by rw [o7]; rfl) (by rw [o7]; exact Nat.zero_add _)
        have table (j : Fin 4096) : (View.readAt (Elt Ideal) arg4.view (Rect.unit (s := S2048x4096) (k0_off6 ⟨n, hn⟩) S512x4096.size (k0_off6_inb ⟨n, hn⟩)).toLoadRect (harg4.unread x3)) (ix2 r j)
            = x3 (ix2 ⟨512 * n + r.val, by omega⟩ j) :=
          (harg4.readAt_unread x3 _ _).trans (congrArg x3 (place2 _ _ r j ⟨512 * n + r.val, by omega⟩ j (by rw [o6]; rfl) (by rw [o6]; exact Nat.zero_add _)))
        have input (s : Fin 2048) : (View.readAt (Elt Ideal) arg1.view (Rect.unit (s := S1x2048x256) ![0, 0, 0] S1x2048x256.size whole2048).toLoadRect (harg1.unread x0)) (ix3 0 s ch) = x0 (ix3 0 s ch) :=
          (harg1.readAt_unread x0 _ _).trans (congrArg x0 (place3 _ _ 0 s ch 0 s ch (Nat.zero_add _) (Nat.zero_add _) (Nat.zero_add _)))
        have last : (View.readAt (Elt Ideal) arg7.view (Rect.unit (s := S8x256) ![0, 0] S1x256.size first8).toLoadRect (harg7.unread x6)) (ix2 0 ch) = x6 (ix2 0 ch) :=
          (harg7.readAt_unread x6 _ _).trans (congrArg x6 (place2 _ _ 0 ch 0 ch (Nat.zero_add _) (Nat.zero_add _)))
        have skip : (View.readAt (Elt Ideal) arg8.view (Rect.unit (s := S1x256) ![0, 0] S1x256.size whole1).toLoadRect (harg8.unread x7)) (ix2 0 ch) = x7 (ix2 0 ch) :=
          (harg8.readAt_unread x7 _ _).trans (congrArg x7 (place2 _ _ 0 ch 0 ch (Nat.zero_add _) (Nat.zero_add _)))
        have here : (View.readAt (Elt Ideal) arg1.view (Rect.unit (s := S1x2048x256) (k0_off7 ⟨n, hn⟩) S1x512x256.size (k0_off7_inb ⟨n, hn⟩)).toLoadRect (harg1.unread x0)) (ix3 0 r ch) = x0 (ix3 0 ⟨512 * n + r.val, by omega⟩ ch) :=
          (harg1.readAt_unread x0 _ _).trans (congrArg x0 place)
        have gate : (View.readAt (Elt Ideal) arg2.view (Rect.unit (s := S1x2048x256) (k0_off7 ⟨n, hn⟩) S1x512x256.size (k0_off7_inb ⟨n, hn⟩)).toLoadRect (harg2.unread x1)) (ix3 0 r ch) = x1 (ix3 0 ⟨512 * n + r.val, by omega⟩ ch) :=
          (harg2.readAt_unread x1 _ _).trans (congrArg x1 place)
        refine (pay3_apply _ _ _ _ _ _ _ r ch).trans ?_
        refine Eq.trans ?_ (congrArg (fun y : S1x2048x256.Idx => result x0 x1 x2 x3 x4 x5 x6 x7 (y 1) (y 2)) place.symm)
        show _ = result x0 x1 x2 x3 x4 x5 x6 x7 ⟨512 * n + r.val, by omega⟩ ch
        unfold result
        rw [gate, here, skip, last, alternating_tile]
        refine congrArg₂ (fun a b : EReal => a * b) rfl (congrArg₂ (fun a b : EReal => a + b) (congrArg₂ (fun a b : EReal => a + b) ?_ ?_) rfl)
        · exact Finset.sum_congr rfl fun j _ => congrArg₂ (fun a b : EReal => a * b) (table j) (scratch_apply x0 x2 x4 x5 c i arg1 harg1 arg2 harg2 arg3 harg3 arg4 harg4 arg5 harg5 arg6 harg6 arg7 harg7 arg8 harg8 arg9 harg9 arg10 harg10 j ch)
        · exact congrArg (fun a : EReal => a * x6 (ix2 0 ch) * ((1 / 4096 : ℝ) : EReal) * ((alternating r.val : ℝ) : EReal))
            (Finset.sum_congr rfl fun s _ => congrArg (fun a : EReal => a * ((alternating s.val : ℝ) : EReal)) (input s))
      · exact absurd hp List.not_mem_nil
    · exact ih (by omega) p hp

/-- The result's block, at an element. -/
theorem block_apply (T : Fin 2048) (ch : Fin 256) :
    block (F := Ideal) c i arg1 harg1 arg2 harg2 arg3 harg3 arg4 harg4 arg5 harg5 arg6 harg6 arg7 harg7 arg8 harg8 arg9 harg9 arg10 harg10 x0 x1 x2 x3 x4 x5 x6 x7 (ix3 0 T ch) = result x0 x1 x2 x3 x4 x5 x6 x7 T ch := by
  unfold block
  refine View.read_writes_apply_of_pieces (Val := Elt Ideal) _ _ (fun y : S1x2048x256.Idx => result x0 x1 x2 x3 x4 x5 x6 x7 (y 1) (y 2)) _ ?_ (ix3 0 T ch)
    (block_cover c i arg1 harg1 arg2 harg2 arg3 harg3 arg4 harg4 arg5 harg5 arg6 harg6 arg7 harg7 arg8 harg8 arg9 harg9 arg10 harg10 x0 x1 x2 x3 x4 x5 x6 x7 (ix3 0 T ch))
  rw [body_stores]
  exact second_loop_pieces x0 x1 x2 x3 x4 x5 x6 x7 c i arg1 harg1 arg2 harg2 arg3 harg3 arg4 harg4 arg5 harg5 arg6 harg6 arg7 harg7 arg8 harg8 arg9 harg9 arg10 harg10 _ le_rfl

end Values

end Cert.KernelIdeal.Hyena

end
-- ==== Proof.Hyena.Lift.lean ====
/- On real arguments the body's result is the half-spectrum transform over the reals, and so the convolution. -/
module

public import proofs.«01_k».proof.Proof.Hyena.Body

@[expose] public section

noncomputable section

namespace Cert.KernelIdeal.Hyena

open Cert.KernelIdeal Cert.KernelIdeal.Gen Cert.Rows Cert.Hyena
open Idealize.ShloMosaic Idealize.ShloMosaic.TcCoe Idealize.SL.Sem Idealize.ShloMosaic.ValueIdx
open scoped BigOperators

/-- A sum of reals, taken among the extended reals. -/
theorem sum_coe {n : ℕ} (a : ℕ → ℝ) (e : Fin n → EReal) (h : ∀ s : Fin n, e s = ((a s.val : ℝ) : EReal)) :
    ∑ s, e s = ((∑ s ∈ Finset.range n, a s : ℝ) : EReal) := by
  rw [Finset.sum_congr rfl fun s _ => h s, ← Fin.sum_univ_eq_sum_range]
  exact (map_sum (⟨⟨Real.toEReal, EReal.coe_zero⟩, EReal.coe_add⟩ : ℝ →+ EReal) (fun s : Fin n => a s.val) Finset.univ).symm

/-- A sum over 4096 places in two halves. -/
theorem sum_halves (e : Fin 4096 → EReal) :
    ∑ j, e j = ∑ k : Fin 2048, e ⟨k.val, by omega⟩ + ∑ k : Fin 2048, e ⟨2048 + k.val, by omega⟩ :=
  Fin.sum_univ_add (a := 2048) (b := 2048) e

variable (x0 x1 : Vec Ideal S1x2048x256 .bf16) (x2 : Vec Ideal S4096x2048 .bf16) (x3 : Vec Ideal S2048x4096 .bf16) (x4 x5 : Vec Ideal S2048x256 .f32)
  (x6 : Vec Ideal S8x256 .f32) (x7 : Vec Ideal S1x256 .f32) (T : Fin 2048) (ch : Fin 256) (z f g : ℕ → ℝ)

/-- What the body's arguments hold when `z` is the input's column and `f` and `g` are the filter's two halves. -/
structure Holds : Prop where
  input (s : Fin 2048) : x0 (ix3 0 s ch) = ((z s.val : ℝ) : EReal)
  rowCosine (k s : Fin 2048) : x2 (ix2 ⟨k.val, by omega⟩ s) = ((cosine k.val s.val : ℝ) : EReal)
  rowSine (k s : Fin 2048) : x2 (ix2 ⟨2048 + k.val, by omega⟩ s) = ((sine k.val s.val : ℝ) : EReal)
  columnCosine (k : Fin 2048) : x3 (ix2 T ⟨k.val, by omega⟩) = ((cosine k.val T.val : ℝ) : EReal)
  columnSine (k : Fin 2048) : x3 (ix2 T ⟨2048 + k.val, by omega⟩) = ((sine k.val T.val : ℝ) : EReal)
  even (k : Fin 2048) : x4 (ix2 k ch) = ((cosines (fun s => f s + g s) k.val : ℝ) : EReal)
  odd (k : Fin 2048) : x5 (ix2 k ch) = ((sines (fun s => f s - g s) k.val : ℝ) : EReal)
  last : x6 (ix2 0 ch) = ((signs (fun s => f s + g s) : ℝ) : EReal)

variable {x0 x2 x3 x4 x5 x6 T ch z f g} (h : Holds x0 x2 x3 x4 x5 x6 T ch z f g)

include h

theorem spectrum_cosine (k : Fin 2048) : spectrum x0 x2 ⟨k.val, by omega⟩ ch = ((cosines z k.val : ℝ) : EReal) :=
  sum_coe (fun s => cosine k.val s * z s) _ fun s => by rw [h.rowCosine, h.input, EReal.coe_mul]

theorem spectrum_sine (k : Fin 2048) : spectrum x0 x2 ⟨2048 + k.val, by omega⟩ ch = ((sines z k.val : ℝ) : EReal) :=
  sum_coe (fun s => sine k.val s * z s) _ fun s => by rw [h.rowSine, h.input, EReal.coe_mul]

theorem product_cosine (k : Fin 2048) : product x0 x2 x4 x5 ⟨k.val, by omega⟩ ch
    = (((cosines z k.val * cosines (fun s => f s + g s) k.val - sines z k.val * sines (fun s => f s - g s) k.val) * weight k.val : ℝ) : EReal) := by
  unfold product
  rw [dif_pos k.isLt]
  unfold cosinePart
  rw [spectrum_cosine h, spectrum_sine h, h.even, h.odd, ← EReal.coe_mul, ← EReal.coe_mul, ← EReal.coe_sub, ← EReal.coe_mul]

theorem product_sine (k : Fin 2048) : product x0 x2 x4 x5 ⟨2048 + k.val, by omega⟩ ch
    = (((cosines z k.val * sines (fun s => f s - g s) k.val + sines z k.val * cosines (fun s => f s + g s) k.val) * weight k.val : ℝ) : EReal) := by
  unfold product
  rw [dif_neg (by show ¬2048 + k.val < 2048; omega)]
  have e : (⟨2048 + k.val - 2048, by omega⟩ : Fin 2048) = k := Fin.ext (by show 2048 + k.val - 2048 = k.val; omega)
  refine (congrArg (fun q => sinePart x0 x2 x4 x5 q ch) e).trans ?_
  show sinePart x0 x2 x4 x5 k ch = _
  unfold sinePart
  rw [spectrum_cosine h, spectrum_sine h, h.even, h.odd, ← EReal.coe_mul, ← EReal.coe_mul, ← EReal.coe_add, ← EReal.coe_mul]

theorem convolution_eq :
    ∑ j : Fin 4096, x3 (ix2 T j) * product x0 x2 x4 x5 j ch
        + (∑ s : Fin 2048, x0 (ix3 0 s ch) * ((alternating s.val : ℝ) : EReal)) * x6 (ix2 0 ch) * ((1 / 4096 : ℝ) : EReal) * ((alternating T.val : ℝ) : EReal)
      = ((transformed z f g T.val : ℝ) : EReal) := by
  rw [sum_halves,
    sum_coe (fun k => cosine k T.val * ((cosines z k * cosines (fun s => f s + g s) k - sines z k * sines (fun s => f s - g s) k) * weight k)) _
      (fun k => by rw [h.columnCosine, product_cosine h, ← EReal.coe_mul]),
    sum_coe (fun k => sine k T.val * ((cosines z k * sines (fun s => f s - g s) k + sines z k * cosines (fun s => f s + g s) k) * weight k)) _
      (fun k => by rw [h.columnSine, product_sine h, ← EReal.coe_mul]),
    sum_coe (fun s => z s * alternating s) _ (fun s => by rw [h.input, ← EReal.coe_mul]), h.last, ← EReal.coe_mul, ← EReal.coe_mul, ← EReal.coe_mul, ← EReal.coe_add,
    ← EReal.coe_add, ← Finset.sum_add_distrib]
  rfl

/-- The body's result is the gated convolution plus the direct term. -/
theorem result_eq (hg : g 0 = 0) :
    result x0 x1 x2 x3 x4 x5 x6 x7 T ch
      = x1 (ix3 0 T ch) * (((∑ s ∈ Finset.range 2048, z s * (if s ≤ T.val then f (T.val - s) else g (s - T.val)) : ℝ) : EReal) + x0 (ix3 0 T ch) * x7 (ix2 0 ch)) := by
  unfold result
  rw [convolution_eq h, transformed_eq z f g hg T.val T.isLt]

end Cert.KernelIdeal.Hyena

end
-- ==== Proof.Hyena.Reference.lean ====
/- The long convolution as the layer states it: the two-sided filter laid out along a circle of 4096 places, each output
   place `t` reading the filter at `t - s` modulo 4096 for every input place `s`. -/
module

public import proofs.«01_k».proof.Proof.Gen.ReferenceIdeal.Read
public import proofs.«01_k».proof.Proof.InProj.Rows
public import Idealize.ShloMosaic.Lib.Affine

@[expose] public section

noncomputable section

namespace Cert.ReferenceIdeal.Hyena

open Cert.ReferenceIdeal Cert.ReferenceIdeal.Gen Cert.ReferenceIdeal.Read
open Idealize.ShloMosaic Idealize.ShloMosaic.TcCoe Idealize.SL.Sem Idealize.ShloMosaic.ValueIdx
open scoped BigOperators

/-- The remainder modulo 4096 that takes its sign from the divisor, on words. -/
def wrap (d : BitVec 32) : BitVec 32 :=
  Scalar.select (IntOp.andi (IntOp.cmpi .ne (IntOp.cmpi .slt (IntOp.remsi .host d 4096#32) 0#32) 0#1) (IntOp.cmpi .ne (IntOp.remsi .host d 4096#32) 0#32))
    (IntOp.addi (IntOp.remsi .host d 4096#32) 4096#32) (IntOp.remsi .host d 4096#32)

theorem wrap_toInt (d : BitVec 32) (h : -2048 < d.toInt) (h' : d.toInt < 2048) : (wrap d).toInt = if d.toInt < 0 then d.toInt + 4096 else d.toInt := by
  have e : IntOp.remsi .host d 4096#32 = d := by
    rw [IntOp.remsi_of_pos .host (by decide)]
    apply BitVec.eq_of_toInt_eq
    rw [BitVec.toInt_srem]
    show d.toInt.tmod 4096 = d.toInt
    rcases le_or_gt 0 d.toInt with hp | hn
    · exact Int.tmod_eq_of_lt hp (by omega)
    · have := Int.tmod_eq_of_lt (a := -d.toInt) (b := 4096) (by omega) (by omega)
      rw [Int.neg_tmod] at this
      omega
  unfold wrap
  rw [e]
  by_cases hn : d.toInt < 0
  · have a : IntOp.cmpi .slt d 0#32 = 1#1 := by
      show BitVec.ofBool (d.slt 0#32) = 1#1
      rw [show d.slt 0#32 = true from decide_eq_true (by simpa using hn)]
      rfl
    have b : IntOp.cmpi .ne d 0#32 = 1#1 := by
      have : d ≠ 0#32 := by rintro rfl; exact absurd hn (by decide)
      show BitVec.ofBool (d != 0#32) = 1#1
      rw [bne_iff_ne.mpr this]
      rfl
    rw [a, b, if_pos hn]
    show (d + 4096#32).toInt = _
    rw [BitVec.toInt_add]
    show (d.toInt + 4096).bmod (2 ^ 32) = _
    exact Int.bmod_eq_of_le (by omega) (by omega)
  · have a : IntOp.cmpi .slt d 0#32 = 0#1 := by
      show BitVec.ofBool (d.slt 0#32) = 0#1
      rw [show d.slt 0#32 = false from decide_eq_false (by simpa using hn)]
      rfl
    rw [a, if_neg hn]
    have z : IntOp.andi (IntOp.cmpi .ne (0#1) (0#1)) (IntOp.cmpi .ne d 0#32) = 0#1 := by
      show (0#1 : BitVec 1) &&& _ = 0#1
      exact BitVec.zero_and
    rw [z]
    rfl

theorem index_word (t s : Fin 2048) : val_main_v12 (F := Ideal) (ix2 t s) = wrap (BitVec.ofNat 32 t.val - BitVec.ofNat 32 s.val) := by
  simp only [val_main_v12_apply, val_main_call0_v12_apply, val_main_call0_v14_apply, val_main_call0_v4_apply, val_main_call0_v11_apply, val_main_call0_v6_apply,
    val_main_call0_v8_apply, val_main_call0_v10_apply, val_main_call0_v9_apply, val_main_call0_v13_apply, val_main_call0_v3_apply, val_main_call0_v2_apply,
    val_main_call0_v1_apply, val_main_call0_v0_apply, val_main_call0_c_apply, val_main_call0_c_0_apply, val_main_call0_c_1_apply, val_main_call0_c_2_apply,
    val_main_call0_c_3_apply, val_main_call0_v5_apply, val_main_call0_v7_apply, val_main_c_apply, val_main_v11_apply, val_main_v10_apply, val_main_v9_apply,
    val_main_v8_apply, val_main_v7_apply, val_main_v6_apply]
  rfl

theorem difference_toInt (t s : Fin 2048) : (BitVec.ofNat 32 t.val - BitVec.ofNat 32 s.val).toInt = (t.val : ℤ) - s.val := by
  have ht := t.isLt
  have hs := s.isLt
  rw [BitVec.toInt_sub, BitVec.toInt_ofNat', BitVec.toInt_ofNat', Int.bmod_eq_of_le (n := (t.val : ℤ)) (by omega) (by omega),
    Int.bmod_eq_of_le (n := (s.val : ℤ)) (by omega) (by omega)]
  exact Int.bmod_eq_of_le (by omega) (by omega)

/-- The place on the circle that output place `t` reads for input place `s`. -/
theorem index_toInt (t s : Fin 2048) : (val_main_v12 (F := Ideal) (ix2 t s)).toInt.toNat = if s.val ≤ t.val then t.val - s.val else t.val + 4096 - s.val := by
  have ht := t.isLt
  have hs := s.isLt
  rw [index_word, wrap_toInt _ (by rw [difference_toInt]; omega) (by rw [difference_toInt]; omega), difference_toInt]
  split_ifs <;> omega

variable (x0 x1 : FVec Ideal S32x2048x256 .bf16) (x2 x3 : FVec Ideal S2048x256 .f32) (x4 : FVec Ideal S256 .f32)

/-- The filter along the circle: forward, one zero, then backward from its end. -/
theorem circle_forward (i : Fin 4096) (ch : Fin 256) (h : i.val < 2048) : val_main_v5 (F := Ideal) x2 x3 (ix2 i ch) = x2 (ix2 ⟨i.val, h⟩ ch) := by
  unfold val_main_v5
  exact concatenate_apply_piece (t := S4096x256) 0 [⟨S2048x256, x2⟩, ⟨S1x256, val_main_v2 (F := Ideal)⟩, ⟨S2047x256, val_main_v4 (F := Ideal) x3⟩]
    concatenates_S2048x256_S1x256_S2047x256_S4096x256_d0 (ix2 i ch) 0 (by decide : 0 < 3) S2048x256 x2 rfl rfl 0 rfl
    (ix2 ⟨i.val, h⟩ ch) (fun a ha => match a with | ⟨0, _⟩ => absurd rfl ha | ⟨1, _⟩ => rfl) (by show 0 + i.val = i.val; omega)

theorem circle_backward (i : Fin 4096) (ch : Fin 256) (h : 2048 < i.val) : val_main_v5 (F := Ideal) x2 x3 (ix2 i ch) = x3 (ix2 ⟨4096 - i.val, by omega⟩ ch) := by
  unfold val_main_v5
  refine (concatenate_apply_piece (t := S4096x256) 0 [⟨S2048x256, x2⟩, ⟨S1x256, val_main_v2 (F := Ideal)⟩, ⟨S2047x256, val_main_v4 (F := Ideal) x3⟩]
    concatenates_S2048x256_S1x256_S2047x256_S4096x256_d0 (ix2 i ch) 2 (by decide : 2 < 3) S2047x256 _ rfl rfl 2049 rfl
    (ix2 ⟨i.val - 2049, by omega⟩ ch) (fun a ha => match a with | ⟨0, _⟩ => absurd rfl ha | ⟨1, _⟩ => rfl) (by show 2049 + (i.val - 2049) = i.val; omega)).trans ?_
  unfold val_main_v4
  refine (congrArg (val_main_v3 (F := Ideal) x3) (?_ : _ = (ix2 ⟨2046 - (i.val - 2049), by omega⟩ ch : S2047x256.Idx))).trans ?_
  · funext a
    apply Fin.ext
    match a with
    | ⟨0, _⟩ => show 2047 - (i.val - 2049 + 1) = 2046 - (i.val - 2049); omega
    | ⟨1, _⟩ => rfl
  · rw [val_main_v3_apply]
    refine congrArg x3 ?_
    funext a
    apply Fin.ext
    match a with
    | ⟨0, _⟩ => show 1 + (2046 - (i.val - 2049)) = 4096 - i.val; omega
    | ⟨1, _⟩ => rfl

theorem gather_apply (x : FVec Ideal S4096x256 .f32) (idx : IVec S2048x2048x1 32) (t s : Fin 2048) (ch : Fin 256) (n : ℕ) (hn : n < 4096) (h : (idx (ix3 t s 0)).toInt.toNat = n) :
    Host.gather gather_S4096x256_S2048x2048x1_S2048x2048x256_2_0_n_n_0_2_1256 x idx (ix3 t s ch) = x (ix2 ⟨n, hn⟩ ch) := by
  unfold Host.gather
  refine congrArg x ?_
  funext a
  apply Fin.ext
  show (gather_S4096x256_S2048x2048x1_S2048x2048x256_2_0_n_n_0_2_1256).start (ix3 t s ch) idx a + (gather_S4096x256_S2048x2048x1_S2048x2048x256_2_0_n_n_0_2_1256).batchCoord (ix3 t s ch) a
      + (gather_S4096x256_S2048x2048x1_S2048x2048x256_2_0_n_n_0_2_1256).offCoord (ix3 t s ch) a = _
  rw [GatherDims.batchCoord_eq_zero _ _ _ List.not_mem_nil]
  have two : a = (0 : Fin 2) ∨ a = (1 : Fin 2) := by
    match a with
    | ⟨0, _⟩ => exact Or.inl rfl
    | ⟨1, _⟩ => exact Or.inr rfl
  rcases two with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S4096x256_S2048x2048x1_S2048x2048x256_2_0_n_n_0_2_1256).startIndexMap from List.mem_singleton.mpr rfl)]
    have e : (gather_S4096x256_S2048x2048x1_S2048x2048x256_2_0_n_n_0_2_1256).siIdx (ix3 t s ch) ⟨List.idxOf (0 : Fin 2) (gather_S4096x256_S2048x2048x1_S2048x2048x256_2_0_n_n_0_2_1256).startIndexMap,
        List.idxOf_lt_length_iff.2 (List.mem_singleton.mpr rfl)⟩ = (ix3 t s 0 : S2048x2048x1.Idx) := by
      funext b
      apply Fin.ext
      match b with
      | ⟨0, _⟩ => rfl
      | ⟨1, _⟩ => rfl
      | ⟨2, _⟩ => rfl
    rw [e]
    show min (idx (ix3 t s 0)).toInt.toNat (4096 - 1) + 0 + 0 = n
    omega
  · unfold GatherDims.start
    rw [dif_neg (show ¬(1 : Fin 2) ∈ (gather_S4096x256_S2048x2048x1_S2048x2048x256_2_0_n_n_0_2_1256).startIndexMap by decide)]
    unfold GatherDims.offCoord
    rw [dif_pos (show (1 : Fin 2) ∈ (gather_S4096x256_S2048x2048x1_S2048x2048x256_2_0_n_n_0_2_1256).sKept by decide)]
    show 0 + 0 + ch.val = ch.val
    omega

/-- What output place `t` reads of the filter for input place `s`: forward behind it, backward ahead of it. -/
def lag (t s : Fin 2048) (ch : Fin 256) : EReal :=
  if s.val ≤ t.val then x2 (ix2 ⟨t.val - s.val, by omega⟩ ch) else x3 (ix2 ⟨s.val - t.val, by omega⟩ ch)

theorem lag_apply (t s : Fin 2048) (ch : Fin 256) : val_main_v13 (F := Ideal) x2 x3 (ix3 t s ch) = lag x2 x3 t s ch := by
  unfold val_main_v13
  have ht := t.isLt
  have hs := s.isLt
  have w : (val_main_call1_v0 (F := Ideal) (ix3 t s 0)).toInt.toNat = if s.val ≤ t.val then t.val - s.val else t.val + 4096 - s.val := by
    rw [val_main_call1_v0_apply]
    exact index_toInt t s
  unfold lag
  split_ifs with h
  · rw [if_pos h] at w
    exact (gather_apply _ _ t s ch _ (by omega) w).trans (circle_forward x2 x3 _ ch (by show t.val - s.val < 2048; omega))
  · rw [if_neg h] at w
    refine (gather_apply _ _ t s ch _ (by omega) w).trans ((circle_backward x2 x3 _ ch (by show 2048 < t.val + 4096 - s.val; omega)).trans ?_)
    exact congrArg (fun q => x3 (ix2 q ch)) (Fin.ext (by show 4096 - (t.val + 4096 - s.val) = s.val - t.val; omega))

/-- The reference's result at an element. -/
theorem result_apply (b : Fin 32) (t : Fin 2048) (ch : Fin 256) :
    val_main_v22 (F := Ideal) x0 x1 x2 x3 x4 (ix3 b t ch)
      = x1 (ix3 b t ch) * ((∑ s : Fin 2048, x0 (ix3 b s ch) * lag x2 x3 t s ch) + x0 (ix3 b t ch) * x4 (ix1 ch)) := by
  rw [val_main_v22_apply, val_main_v21_apply, val_main_v20_apply, val_main_v19_apply, val_main_v18_apply, val_main_v17_apply, val_main_v16_apply,
    val_main_v15_apply, val_main_v14_apply, val_main_v0_apply]
  refine congrArg₂ (fun p q : EReal => p * q) rfl (congrArg₂ (fun p q : EReal => p + q) ?_ (congrArg₂ (fun p q : EReal => p * q) rfl ?_))
  · refine Finset.sum_congr rfl fun s _ => congrArg₂ (fun p q : EReal => p * q) ?_ ?_
    · rw [val_main_v0_apply]
      refine congrArg x0 ?_
      funext a
      match a with
      | ⟨0, _⟩ => rfl
      | ⟨1, _⟩ => rfl
      | ⟨2, _⟩ => rfl
    · rw [← lag_apply]
      refine congrArg (val_main_v13 (F := Ideal) x2 x3) ?_
      funext a
      match a with
      | ⟨0, _⟩ => rfl
      | ⟨1, _⟩ => rfl
      | ⟨2, _⟩ => rfl
  · refine congrArg x4 ?_
    funext a
    match a with
    | ⟨0, _⟩ => rfl

end Cert.ReferenceIdeal.Hyena

end
-- ==== Proof.OutProj.Finite.lean ====
/- Extended reals that are real numbers. Sums and products of them are real, and so is a row's reciprocal root mean square,
   whose radicand is at least the layer's epsilon. -/
module

public import proofs.«01_k».proof.Proof.InProj.Rows

@[expose] public section

noncomputable section

namespace Cert.OutProj

open Cert.Rows
open Idealize.ShloMosaic
open scoped BigOperators

/-- A real number. -/
def Finite (a : EReal) : Prop := ∃ r : ℝ, a = (r : EReal)

theorem Finite.add {a b : EReal} : Finite a → Finite b → Finite (a + b)
  | ⟨r, hr⟩, ⟨s, hs⟩ => ⟨r + s, by rw [hr, hs, EReal.coe_add]⟩

theorem Finite.mul {a b : EReal} : Finite a → Finite b → Finite (a * b)
  | ⟨r, hr⟩, ⟨s, hs⟩ => ⟨r * s, by rw [hr, hs, EReal.coe_mul]⟩

theorem Finite.sub_self {a : EReal} : Finite a → a - a = 0
  | ⟨r, hr⟩ => by rw [hr, ← EReal.coe_sub, _root_.sub_self, EReal.coe_zero]

theorem Finite.sum {n : ℕ} {f : Fin n → EReal} (h : ∀ k, Finite (f k)) : Finite (∑ k, f k) := by
  choose r hr using h
  refine ⟨∑ k, r k, ?_⟩
  rw [Finset.sum_congr rfl fun k _ => hr k]
  exact (map_sum (⟨⟨Real.toEReal, EReal.coe_zero⟩, EReal.coe_add⟩ : ℝ →+ EReal) r Finset.univ).symm

/-- A sum of squares of real numbers is a real number that is not negative. -/
theorem squares {x : Fin 1024 → EReal} (h : ∀ k, Finite (x k)) : ∃ r : ℝ, 0 ≤ r ∧ ∑ k, x k * x k = (r : EReal) := by
  choose r hr using h
  refine ⟨∑ k, r k * r k, Finset.sum_nonneg fun k _ => mul_self_nonneg _, ?_⟩
  rw [Finset.sum_congr rfl fun k _ => (by rw [hr k, EReal.coe_mul] : x k * x k = ((r k * r k : ℝ) : EReal))]
  exact (map_sum (⟨⟨Real.toEReal, EReal.coe_zero⟩, EReal.coe_add⟩ : ℝ →+ EReal) (fun k => r k * r k) Finset.univ).symm

theorem width_eq : Ideal.ofBits .f32 0x44800000#32 = ((1024 : ℝ) : EReal) := by
  simp [Ideal.ofBits, Ideal.ieee, -EReal.coe_mul]; norm_num

theorem epsilon_eq : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem scale_finite {x : Fin 1024 → EReal} (h : ∀ k, Finite (x k)) : Finite (scale x) := by
  obtain ⟨s, h0, hs⟩ := squares h
  obtain ⟨e, he, hε⟩ := epsilon_eq
  unfold scale
  rw [hs, width_eq, hε, Ideal.div_coe (by norm_num), ← EReal.coe_mul, ← EReal.coe_add]
  have hp : 0 < s * (1 / 1024) + e := by positivity
  rw [Ideal.rsqrt_coe, if_neg (not_lt.mpr hp.le), if_neg hp.ne']
  exact ⟨_, rfl⟩

/-- A row of real numbers normalised is a row of real numbers. -/
theorem rms_finite {x w : Fin 1024 → EReal} (hx : ∀ k, Finite (x k)) (hw : ∀ k, Finite (w k)) (k : Fin 1024) : Finite (rms x w k) :=
  ((hx k).mul (scale_finite hx)).mul (hw k)

/-- What lies between the infinities in absolute value is real. -/
theorem finite_of_abs {a : EReal} (h : max a (-a) < ⊤) : Finite a := by
  induction a with
  | bot => simp at h
  | top => simp at h
  | coe r => exact ⟨r, rfl⟩

end Cert.OutProj

end
-- ==== Proof.Hyena.Equal.lean ====
/- The long convolution's value claim: on a real input and filter, the kernel's product of half-spectra is the reference's
   convolution, element by element. That the arguments are real is read off the claim's precondition. -/
module

public import proofs.«01_k».proof.Defs
public import proofs.«01_k».proof.Proof.Hyena.Value
public import proofs.«01_k».proof.Proof.Hyena.Blocks
public import proofs.«01_k».proof.Proof.Hyena.Lift
public import proofs.«01_k».proof.Proof.Hyena.Reference
public import proofs.«01_k».proof.Proof.OutProj.Finite
public import proofs.«01_k».proof.Proof.Gen.ReferenceIdeal.Run
public import proofs.«01_k».proof.Proof.Gen.Pre_finite
public import Idealize.ShloMosaic.Lib.ReduceAll

@[expose] public section

noncomputable section

namespace Cert.Proof.Hyena

open Idealize.ShloMosaic Idealize.ShloMosaic.TcCoe Idealize.SL.Sem Idealize.ShloMosaic.ValueIdx
open Cert.KernelIdeal Cert.KernelIdeal.Gen Cert.KernelIdeal.Hyena Cert.Hyena Cert.OutProj
open scoped BigOperators

variable (m : (ℓ : Loc nD τ sig) → Buf (Elt Ideal) ℓ) (c : Dev nD)

theorem infinity_word : Ideal.ofBits .f32 0x7F800000#32 = ⊤ := by
  simp [Ideal.ofBits, Ideal.ieee]

instance : Subsingleton Cert.Pre_finite.S_.Idx := ⟨fun _ _ => funext fun a => a.elim0⟩

/-- An array every one of whose elements compares below infinity in absolute value is real. -/
theorem real_of_all {s : Shape} {axes : List (Fin s.rank)} (a : FVec Ideal s .f32) (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi (cmpf .olt (Host.absf a) (broadcastInDim s ![] hb (constant Cert.Pre_finite.S_ .f32 0x7F800000#32)))
      (constantI Cert.Pre_finite.S_ 1 1#1) hr hu j = 1#1) (i : s.Idx) : Finite (a i) := by
  have e := Host.reduce_andi_all _ _ hr hu j h i
  rw [cmpf_apply, broadcastInDim_apply _ hb _ i (fun a => a.elim0) (fun a => a.elim0), constant_apply] at e
  refine finite_of_abs ?_
  rw [← infinity_word]
  by_contra hn
  have z : FloatOps.cmpf (F := Ideal) .olt (Host.absf a i) (Ideal.ofBits .f32 0x7F800000#32) = 0#1 := by
    show BitVec.ofBool (decide (max (a i) (-(a i)) < Ideal.ofBits .f32 0x7F800000#32)) = 0#1
    rw [decide_eq_false hn]
    rfl
  exact absurd (z.symm.trans e) (by decide)

/-- The precondition's reading: the input and the filter's two halves are real. -/
theorem allFinite (h : Pre_KernelIdeal_finite m) :
    (∀ i, Finite (input m c i)) ∧ (∀ i, Finite (forward m c i)) ∧ ∀ i, Finite (backward m c i) := by
  have hc := congrFun (h c) (fun a => a.elim0)
  obtain ⟨ha, h2⟩ := IntOp.andi_eq_one.1 hc
  obtain ⟨h0, h1⟩ := IntOp.andi_eq_one.1 ha
  exact ⟨real_of_all (s := S32x2048x256) (input m c) _ _ _ _ h0, real_of_all (forward m c) _ _ _ _ h1, real_of_all (backward m c) _ _ _ _ h2⟩

/-- A column of reals, from its elements. -/
theorem column {a : Fin 2048 → EReal} (h : ∀ s, Finite (a s)) : ∃ r : ℕ → ℝ, ∀ s : Fin 2048, a s = ((r s.val : ℝ) : EReal) := by
  choose r hr using h
  refine ⟨fun n => if hn : n < 2048 then r ⟨n, hn⟩ else 0, fun s => ?_⟩
  show a s = ((if hn : s.val < 2048 then r ⟨s.val, hn⟩ else 0 : ℝ) : EReal)
  rw [hr s, dif_pos s.isLt]

variable (t : Fin cfg0.N) (T : Fin 2048) (ch : Fin 256)

/-- The body's arguments at a grid point, for real columns. The backward half counts from its second row. -/
theorem holds {z f g : ℕ → ℝ} (hz : ∀ s : Fin 2048, input m c (ix3 ⟨t.val, point_lt t⟩ s ch) = ((z s.val : ℝ) : EReal))
    (hf : ∀ s : Fin 2048, forward m c (ix2 s ch) = ((f s.val : ℝ) : EReal)) (hg : ∀ s : Fin 2048, masked m c (ix2 s ch) = ((g s.val : ℝ) : EReal)) :
    Holds (iblk m c 0 t : Vec Ideal S1x2048x256 .bf16) (iblk m c 2 t : Vec Ideal S4096x2048 .bf16) (iblk m c 3 t : Vec Ideal S2048x4096 .bf16)
      (iblk m c 4 t : Vec Ideal S2048x256 .f32) (iblk m c 5 t : Vec Ideal S2048x256 .f32) (iblk m c 6 t : Vec Ideal S8x256 .f32) T ch z f g where
  input s := (input_block m c t s ch).trans (hz s)
  rowCosine k s := row_cosine m c t k s
  rowSine k s := row_sine m c t k s
  columnCosine k := column_cosine m c t T k
  columnSine k := column_sine m c t T k
  even k := (even_block m c t k ch).trans (sum_coe (fun s => cosine k.val s * (f s + g s)) _ fun s => by rw [hf, hg, EReal.coe_mul, EReal.coe_add])
  odd k := (odd_block m c t k ch).trans (sum_coe (fun s => sine k.val s * (f s - g s)) _ fun s => by rw [hf, hg, EReal.coe_mul, EReal.coe_sub])
  last := (last_block m c t ch).trans ((lastSum_apply m c ch).trans (sum_coe (fun s => (f s + g s) * alternating s) _ fun s => by rw [hf, hg, EReal.coe_mul, EReal.coe_add]))

/-- The kernel's result at an element, as the reference states it. -/
theorem result_element (hfin : (∀ i, Finite (input m c i)) ∧ (∀ i, Finite (forward m c i)) ∧ ∀ i, Finite (backward m c i)) :
    result (iblk m c 0 t : Vec Ideal S1x2048x256 .bf16) (iblk m c 1 t : Vec Ideal S1x2048x256 .bf16) (iblk m c 2 t : Vec Ideal S4096x2048 .bf16)
        (iblk m c 3 t : Vec Ideal S2048x4096 .bf16) (iblk m c 4 t : Vec Ideal S2048x256 .f32) (iblk m c 5 t : Vec Ideal S2048x256 .f32)
        (iblk m c 6 t : Vec Ideal S8x256 .f32) (iblk m c 7 t : Vec Ideal S1x256 .f32) T ch
      = gate m c (ix3 ⟨t.val, point_lt t⟩ T ch)
          * ((∑ s : Fin 2048, input m c (ix3 ⟨t.val, point_lt t⟩ s ch) * ReferenceIdeal.Hyena.lag (forward m c) (backward m c) T s ch)
            + input m c (ix3 ⟨t.val, point_lt t⟩ T ch) * bias m c (ix1 ch)) := by
  obtain ⟨z, hz⟩ := column fun s => hfin.1 (ix3 ⟨t.val, point_lt t⟩ s ch)
  obtain ⟨f, hf⟩ := column fun s => hfin.2.1 (ix2 s ch)
  obtain ⟨b, hb⟩ := column fun s => hfin.2.2 (ix2 s ch)
  have hg (s : Fin 2048) : masked m c (ix2 s ch) = (((fun n => if n = 0 then 0 else b n : ℕ → ℝ) s.val : ℝ) : EReal) := by
    rw [masked_apply]
    by_cases h : s.val = 0
    · rw [if_pos h]
      show (0 : EReal) = ((if s.val = 0 then 0 else b s.val : ℝ) : EReal)
      rw [if_pos h, EReal.coe_zero]
    · rw [if_neg h, hb]
      show _ = ((if s.val = 0 then 0 else b s.val : ℝ) : EReal)
      rw [if_neg h]
  rw [result_eq (x1 := (iblk m c 1 t : Vec Ideal S1x2048x256 .bf16)) (x7 := (iblk m c 7 t : Vec Ideal S1x256 .f32)) (h := holds m c t T ch (g := fun n => if n = 0 then 0 else b n) hz hf hg) (hg := if_pos rfl),
    gate_block, input_block, bias_block]
  refine congrArg (fun q : EReal => gate m c (ix3 ⟨t.val, point_lt t⟩ T ch) * (q + input m c (ix3 ⟨t.val, point_lt t⟩ T ch) * bias m c (ix1 ch))) ?_
  refine (sum_coe (fun s => z s * (if s ≤ T.val then f (T.val - s) else if s - T.val = 0 then 0 else b (s - T.val))) _ fun s => ?_).symm
  rw [hz s, EReal.coe_mul]
  refine congrArg (fun q : EReal => ((z s.val : ℝ) : EReal) * q) ?_
  unfold ReferenceIdeal.Hyena.lag
  by_cases h : s.val ≤ T.val
  · rw [if_pos h, if_pos h]
    exact hf ⟨T.val - s.val, by omega⟩
  · rw [if_neg h, if_neg h, if_neg (by omega)]
    exact hb ⟨s.val - T.val, by omega⟩

/-- The result array's element. -/
theorem array_element (hfin : (∀ i, Finite (input m c i)) ∧ (∀ i, Finite (forward m c i)) ∧ ∀ i, Finite (backward m c i)) (b : Fin 32) :
    ((dats m 0 c).arrAt 8 cfg0.N : Vec Ideal S32x2048x256 .bf16) (ix3 b T ch)
      = gate m c (ix3 b T ch) * ((∑ s : Fin 2048, input m c (ix3 b s ch) * ReferenceIdeal.Hyena.lag (forward m c) (backward m c) T s ch)
          + input m c (ix3 b T ch) * bias m c (ix1 ch)) := by
  have ht : b.val < cfg0.N := lt_of_lt_of_eq b.isLt N_0.symm
  obtain ⟨_, _, _, _, _, _, _, _, ⟨i0, i1, i2⟩⟩ := block_numbers ⟨b.val, ht⟩
  have h := congrFun ((blocks8 m c ⟨b.val, ht⟩).trans (flushed8 m c ⟨b.val, ht⟩)) (ix3 0 T ch)
  rw [View.read_apply] at h
  have e : ((cfg0.win 8).blk ⟨b.val, ht⟩).view.emb (ix3 0 T ch) = ix3 b T ch := row_index ⟨b.val, ht⟩ i0 i1 i2 T ch _ rfl rfl rfl
  rw [e] at h
  refine h.trans ((block_apply _ _ _ _ _ _ _ _ _ _ _ _ _ _ _ _ _ _ _ _ _ _ _ _ _ _ _ _ _ _ T ch).trans ?_)
  exact result_element m c ⟨b.val, ht⟩ T ch hfin

/-- An array of three axes, element by element. -/
theorem ext3 {a b d : ℕ} {α : Type} {p q : (⟨3, ![a, b, d]⟩ : Shape).Idx → α} (h : ∀ i j k, p (ix3 i j k) = q (ix3 i j k)) : p = q := by
  funext y
  obtain ⟨i, j, k, rfl⟩ : ∃ (i : Fin a) (j : Fin b) (k : Fin d), y = ix3 i j k := ⟨y 0, y 1, y 2, eq_ix3 y⟩
  exact h i j k

theorem array_eq (h : Pre_KernelIdeal_finite m) :
    ReferenceIdeal.Read.val_main_v22 (F := Ideal) (input m c) (gate m c) (forward m c) (backward m c) (bias m c) = (dats m 0 c).arrAt 8 cfg0.N :=
  ext3 fun b T ch => (ReferenceIdeal.Hyena.result_apply _ _ _ _ _ b T ch).trans (array_element m c T ch (allFinite m c h) b).symm

/-- The claim. -/
theorem algebraic : algebraic_KernelIdeal_ReferenceIdeal_pre_finite := by
  intro m ρ m' ρ' hpre hagree
  refine ⟨_, run_blocks (F := Ideal) m ρ, ?_⟩
  refine (θ_run Cert.ReferenceIdeal.defs _ _).mono (fun _ h c => ?_) (Cert.ReferenceIdeal.Value.run (F := Ideal) m' ρ')
  obtain ⟨r0, ha⟩ := h c
  obtain ⟨a0, a1, a2, a3, a4⟩ := hagree c
  refine ⟨r0.trans ((ReferenceIdeal.Read.val_main_v22_eq _ _ _ _ _).trans ?_), ha⟩
  rw [a0, a1, a2, a3, a4]
  exact array_eq m c hpre

end Cert.Proof.Hyena

end
-- ==== Proof.Experts.Held.lean ====
/- What the experts' kernel holds after each grid point. The grid runs over the experts, and within an expert over the
   eight groups of four batch rows. The first group of an expert stores the expert's three weight matrices into three
   scratch buffers; the other seven only read them. So after every point the scratch holds the weights of the point's
   own expert, and the output block is one fixed function of the point's input blocks (`held`). -/
module

public import proofs.«01_k».proof.Proof.Gen.Kernel2Ideal.Frame
public import Idealize.ShloMosaic.Lib.Pipeline.Value
public import Idealize.ShloMosaic.Lib.ValueIdx
public import Idealize.ShloMosaic.Lib.Tactic

@[expose] public section

noncomputable section

namespace Cert.Kernel2Ideal.Experts

open Cert.Kernel2Ideal Cert.Kernel2Ideal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

theorem zeros2 : (![0, 0] : Fin 2 → Nat) = fun _ => 0 := funext fun a => by fin_cases a <;> rfl
theorem zeros4 : (![0, 0, 0, 0] : Fin 4 → Nat) = fun _ => 0 := funext fun a => by fin_cases a <;> rfl

section Body

variable (c : Dev nD) (i : grid0.Coords)
  (a2 : Memref sig .tc .vmem S4x1x256x1024 .bf16) (h2 : a2.IsWhole)
  (a3 : Memref sig .tc .vmem S1x1x1024x1024 .f32) (h3 : a3.IsWhole)
  (a4 : Memref sig .tc .vmem S1x1x1024x1024 .f32) (h4 : a4.IsWhole)
  (a5 : Memref sig .tc .vmem S1x1x1024x1024 .f32) (h5 : a5.IsWhole)
  (a6 : Memref sig .tc .vmem S4x1x256x1024 .bf16) (h6 : a6.IsWhole)
  (a7 : Memref sig .tc .vmem S1024x1024 .bf16) (h7 : a7.IsWhole)
  (a8 : Memref sig .tc .vmem S1024x1024 .bf16) (h8 : a8.IsWhole)
  (a9 : Memref sig .tc .vmem S1024x1024 .bf16) (h9 : a9.IsWhole)
  (x0 : Vec F S4x1x256x1024 .bf16) (x1 x2 x3 : Vec F S1x1x1024x1024 .f32) (s0 s1 s2 : Vec F S1024x1024 .bf16)

/-- A point that is not an expert's first: the output block, from the tokens' block and the scratch as found. -/
theorem out_later (hc : ¬cond0_0 i) :
    out0_B_4 c i a2 h2 a3 h3 a4 h4 a5 h5 a6 h6 a7 h7 a8 h8 a9 h9 hc x0 x1 x2 x3 s0 s1 s2 = k0_pay4 x0 s0 s1 s2 := by
  unfold out0_B_4
  rw [View.read_writes_eq_canon _ _ _ (cover0_B_4 c i a2 h2 a3 h3 a4 h4 a5 h5 a6 h6 a7 h7 a8 h8 a9 h9 hc x0 x1 x2 x3 s0 s1 s2)]
  unfold kernelRun0_B
  dsimp only
  rw [View.canon_unit_zero zeros4]
  simp only [View.readAt_eq_ld, h2.read_unread, h7.read_unread, h8.read_unread, h9.read_unread,
    View.ld_unit_zero (S := S4x1x256x1024) zeros4, View.ld_unit_zero (S := S1024x1024) zeros2]

/-- An expert's first point: the output block, from the tokens' block and the three weight blocks. -/
theorem out_first (hc : cond0_0 i) :
    out0_A_4 c i a2 h2 a3 h3 a4 h4 a5 h5 a6 h6 a7 h7 a8 h8 a9 h9 hc x0 x1 x2 x3
      = k0_pay4 x0 (k0_pay1 x1) (k0_pay2 x2) (k0_pay3 x3) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_unit_zero zeros4]
  simp only [View.readCov_unit_zero (S := S1024x1024) _ zeros2, View.readAt_eq_ld, h2.read_unread, h3.read_unread,
    h4.read_unread, h5.read_unread, View.ld_unit_zero (S := S4x1x256x1024) zeros4,
    View.ld_unit_zero (S := S1x1x1024x1024) zeros4]

/-- An expert's first point leaves the gate's weights in the first scratch, -/
theorem gate_first (hc : cond0_0 i) :
    sout0_A_0 c i a2 h2 a3 h3 a4 h4 a5 h5 a6 h6 a7 h7 a8 h8 a9 h9 hc x0 x1 x2 x3 = k0_pay1 x1 := by
  unfold sout0_A_0
  rw [View.read_writes_eq_canon _ _ _ (scover0_A_0 c i a2 h2 a3 h3 a4 h4 a5 h5 a6 h6 a7 h7 a8 h8 a9 h9 hc x0 x1 x2 x3)]
  unfold kernelRun0_A
  dsimp only
  sl_unfold_words
  rw [View.canon_unit_zero zeros2]
  simp only [View.readAt_eq_ld, h3.read_unread, View.ld_unit_zero (S := S1x1x1024x1024) zeros4]

/-- the up projection's in the second, -/
theorem up_first (hc : cond0_0 i) :
    sout0_A_1 c i a2 h2 a3 h3 a4 h4 a5 h5 a6 h6 a7 h7 a8 h8 a9 h9 hc x0 x1 x2 x3 = k0_pay2 x2 := by
  unfold sout0_A_1
  rw [View.read_writes_eq_canon _ _ _ (scover0_A_1 c i a2 h2 a3 h3 a4 h4 a5 h5 a6 h6 a7 h7 a8 h8 a9 h9 hc x0 x1 x2 x3)]
  unfold kernelRun0_A
  dsimp only
  sl_unfold_words
  rw [View.canon_unit_zero zeros2]
  simp only [View.readAt_eq_ld, h4.read_unread, View.ld_unit_zero (S := S1x1x1024x1024) zeros4]

/-- and the down projection's in the third. -/
theorem down_first (hc : cond0_0 i) :
    sout0_A_2 c i a2 h2 a3 h3 a4 h4 a5 h5 a6 h6 a7 h7 a8 h8 a9 h9 hc x0 x1 x2 x3 = k0_pay3 x3 := by
  unfold sout0_A_2
  rw [View.read_writes_eq_canon _ _ _ (scover0_A_2 c i a2 h2 a3 h3 a4 h4 a5 h5 a6 h6 a7 h7 a8 h8 a9 h9 hc x0 x1 x2 x3)]
  unfold kernelRun0_A
  dsimp only
  sl_unfold_words
  rw [View.canon_unit_zero zeros2]
  simp only [View.readAt_eq_ld, h5.read_unread, View.ld_unit_zero (S := S1x1x1024x1024) zeros4]

end Body

/-! ## The input blocks read off the arrays -/

/-- The block numbers of the four inputs and of the output at point `t`: expert `t / 8`, batch group `t % 8`. -/
theorem block_numbers : ∀ t : Fin cfg0.N,
    (win0_0.index t (0 : Fin 4) = t.val % 8 ∧ win0_0.index t (1 : Fin 4) = t.val / 8 ∧ win0_0.index t (2 : Fin 4) = 0 ∧ win0_0.index t (3 : Fin 4) = 0)
    ∧ (win0_1.index t (0 : Fin 4) = 0 ∧ win0_1.index t (1 : Fin 4) = t.val / 8 ∧ win0_1.index t (2 : Fin 4) = 0 ∧ win0_1.index t (3 : Fin 4) = 0)
    ∧ (win0_2.index t (0 : Fin 4) = 0 ∧ win0_2.index t (1 : Fin 4) = t.val / 8 ∧ win0_2.index t (2 : Fin 4) = 0 ∧ win0_2.index t (3 : Fin 4) = 0)
    ∧ (win0_3.index t (0 : Fin 4) = 0 ∧ win0_3.index t (1 : Fin 4) = t.val / 8 ∧ win0_3.index t (2 : Fin 4) = 0 ∧ win0_3.index t (3 : Fin 4) = 0) :=
  (by decide +kernel : ∀ t : Fin grid0.N, _)

theorem point_lt (t : Fin cfg0.N) : t.val < 128 := lt_of_lt_of_eq t.isLt N_0

/-- The tokens' block at point `t`: rows `4 (t % 8)` to `4 (t % 8) + 3` of expert `t / 8`. -/
theorem tokens_block (c : Dev nD) (t : Fin cfg0.N) (b : Fin 4) (e : Fin 1) (s : Fin 256) (d : Fin 1024) :
    (iblk m c 0 t : Vec F S4x1x256x1024 .bf16) (ix4 b e s d)
      = (m ((c : Thread nD τ).loc main_arg0) : Vec F S32x16x256x1024 .bf16)
          (ix4 ⟨4 * (t.val % 8) + b.val, by omega⟩ ⟨t.val / 8, by have := point_lt t; omega⟩ s d) := by
  obtain ⟨⟨i0, i1, i2, i3⟩, _⟩ := block_numbers t
  unfold iblk
  rw [View.read_apply]
  show m _ _ = m _ _
  congr 1
  funext a
  apply Fin.ext
  match a with
  | ⟨0, _⟩ => show win0_0.index t 0 * 4 + 1 * b.val = 4 * (t.val % 8) + b.val; rw [i0]; omega
  | ⟨1, _⟩ => show win0_0.index t 1 * 1 + 1 * e.val = t.val / 8; rw [i1]; omega
  | ⟨2, _⟩ => show win0_0.index t 2 * 256 + 1 * s.val = s.val; rw [i2]; omega
  | ⟨3, _⟩ => show win0_0.index t 3 * 1024 + 1 * d.val = d.val; rw [i3]; omega

/-- The gate's weight block at point `t` is expert `t / 8`'s matrix of the layer. -/
theorem gate_block (c : Dev nD) (t : Fin cfg0.N) (u v : Fin 1) (k n : Fin 1024) :
    (iblk m c 1 t : Vec F S1x1x1024x1024 .f32) (ix4 u v k n)
      = (m ((c : Thread nD τ).loc main_arg1) : Vec F S2x16x1024x1024 .f32)
          (ix4 0 ⟨t.val / 8, by have := point_lt t; omega⟩ k n) := by
  obtain ⟨_, ⟨i0, i1, i2, i3⟩, _⟩ := block_numbers t
  unfold iblk
  rw [View.read_apply]
  show m _ _ = m _ _
  congr 1
  funext a
  apply Fin.ext
  match a with
  | ⟨0, _⟩ => show win0_1.index t 0 * 1 + 1 * u.val = 0; rw [i0]; omega
  | ⟨1, _⟩ => show win0_1.index t 1 * 1 + 1 * v.val = t.val / 8; rw [i1]; omega
  | ⟨2, _⟩ => show win0_1.index t 2 * 1024 + 1 * k.val = k.val; rw [i2]; omega
  | ⟨3, _⟩ => show win0_1.index t 3 * 1024 + 1 * n.val = n.val; rw [i3]; omega

/-- The up projection's weight block at point `t`. -/
theorem up_block (c : Dev nD) (t : Fin cfg0.N) (u v : Fin 1) (k n : Fin 1024) :
    (iblk m c 2 t : Vec F S1x1x1024x1024 .f32) (ix4 u v k n)
      = (m ((c : Thread nD τ).loc main_arg2) : Vec F S2x16x1024x1024 .f32)
          (ix4 0 ⟨t.val / 8, by have := point_lt t; omega⟩ k n) := by
  obtain ⟨_, _, ⟨i0, i1, i2, i3⟩, _⟩ := block_numbers t
  unfold iblk
  rw [View.read_apply]
  show m _ _ = m _ _
  congr 1
  funext a
  apply Fin.ext
  match a with
  | ⟨0, _⟩ => show win0_2.index t 0 * 1 + 1 * u.val = 0; rw [i0]; omega
  | ⟨1, _⟩ => show win0_2.index t 1 * 1 + 1 * v.val = t.val / 8; rw [i1]; omega
  | ⟨2, _⟩ => show win0_2.index t 2 * 1024 + 1 * k.val = k.val; rw [i2]; omega
  | ⟨3, _⟩ => show win0_2.index t 3 * 1024 + 1 * n.val = n.val; rw [i3]; omega

/-- The down projection's weight block at point `t`. -/
theorem down_block (c : Dev nD) (t : Fin cfg0.N) (u v : Fin 1) (k n : Fin 1024) :
    (iblk m c 3 t : Vec F S1x1x1024x1024 .f32) (ix4 u v k n)
      = (m ((c : Thread nD τ).loc main_arg3) : Vec F S2x16x1024x1024 .f32)
          (ix4 0 ⟨t.val / 8, by have := point_lt t; omega⟩ k n) := by
  obtain ⟨_, _, _, i0, i1, i2, i3⟩ := block_numbers t
  unfold iblk
  rw [View.read_apply]
  show m _ _ = m _ _
  congr 1
  funext a
  apply Fin.ext
  match a with
  | ⟨0, _⟩ => show win0_3.index t 0 * 1 + 1 * u.val = 0; rw [i0]; omega
  | ⟨1, _⟩ => show win0_3.index t 1 * 1 + 1 * v.val = t.val / 8; rw [i1]; omega
  | ⟨2, _⟩ => show win0_3.index t 2 * 1024 + 1 * k.val = k.val; rw [i2]; omega
  | ⟨3, _⟩ => show win0_3.index t 3 * 1024 + 1 * n.val = n.val; rw [i3]; omega

/-- Two weight blocks are equal where they agree at every place. -/
theorem weights_ext {x y : Vec F S1x1x1024x1024 .f32} (h : ∀ u v k n, x (ix4 u v k n) = y (ix4 u v k n)) : x = y :=
  funext fun j => by rw [eq_ix4 j]; exact h _ _ _ _

/-- Two points of the same expert see the same three weight blocks. -/
theorem weights_same (c : Dev nD) (t t' : Fin cfg0.N) (h : t.val / 8 = t'.val / 8) :
    (iblk m c 1 t : Vec F S1x1x1024x1024 .f32) = iblk m c 1 t'
    ∧ (iblk m c 2 t : Vec F S1x1x1024x1024 .f32) = iblk m c 2 t'
    ∧ (iblk m c 3 t : Vec F S1x1x1024x1024 .f32) = iblk m c 3 t' :=
  ⟨weights_ext fun u v k n => (gate_block m c t u v k n).trans (Eq.trans (by simp only [h]) (gate_block m c t' u v k n).symm),
    weights_ext fun u v k n => (up_block m c t u v k n).trans (Eq.trans (by simp only [h]) (up_block m c t' u v k n).symm),
    weights_ext fun u v k n => (down_block m c t u v k n).trans (Eq.trans (by simp only [h]) (down_block m c t' u v k n).symm)⟩

/-- What the kernel holds after point `t`, as one function of the point's input blocks. -/
abbrev heldAt (c : Dev nD) (t : Fin cfg0.N) :
    Vec F S4x1x256x1024 .bf16 × Vec F S1024x1024 .bf16 × Vec F S1024x1024 .bf16 × Vec F S1024x1024 .bf16 :=
  (k0_pay4 (iblk m c 0 t) (k0_pay1 (iblk m c 1 t)) (k0_pay2 (iblk m c 2 t)) (k0_pay3 (iblk m c 3 t)),
    k0_pay1 (iblk m c 1 t), k0_pay2 (iblk m c 2 t), k0_pay3 (iblk m c 3 t))

theorem held (c : Dev nD) : ∀ (n : ℕ) (hn : n < cfg0.N), outsAt0 m c n hn = heldAt m c ⟨n, hn⟩ := by
  intro n
  induction n with
  | zero =>
    intro hn
    rw [outsAt0_A m c ⟨0, hn⟩ (Nat.zero_mod 8), out_first, gate_first, up_first, down_first]
  | succ n ih =>
    intro hn
    by_cases h0 : (⟨n + 1, hn⟩ : Fin cfg0.N).val % 8 = 0
    · rw [outsAt0_A m c ⟨n + 1, hn⟩ h0, out_first, gate_first, up_first, down_first]
    · have hp : n < cfg0.N := Nat.lt_of_succ_lt hn
      have e := ih hp
      have hw := weights_same m c ⟨n, hp⟩ ⟨n + 1, hn⟩ (by dsimp only at h0 ⊢; omega)
      have e' : outsAt0 m c ((⟨n + 1, hn⟩ : Fin cfg0.N).val - 1) (Nat.lt_of_le_of_lt (Nat.sub_le _ _) hn) = heldAt m c ⟨n, hp⟩ := e
      rw [outsAt0_B m c ⟨n + 1, hn⟩ h0, out_later, e']
      unfold sout0_B_0 sout0_B_1 sout0_B_2
      dsimp only [heldAt]
      rw [hw.1, hw.2.1, hw.2.2]

end Cert.Kernel2Ideal.Experts

end
-- ==== Proof.Experts.Value.lean ====
/- The experts' feed-forward network read at one element, over the extended reals. The kernel's output block is opened
   to the gated hidden layer and its projection down (`block_apply`); the reference's chain of batched products is
   opened at the same element, its products having the weights on the left (`reference_apply`); the two are one sum. -/
module

public import proofs.«01_k».proof.Proof.Experts.Held
public import proofs.«01_k».proof.Proof.Gen.Kernel2Ideal.Value
public import proofs.«01_k».proof.Proof.Gen.Reference2Ideal.Read
public import Idealize.ShloMosaic.Lib.MatmulPlain
public import Idealize.ShloMosaic.Lib.IdealHost

@[expose] public section

noncomputable section

namespace Cert.Kernel2Ideal.Experts

open Cert.Kernel2Ideal Cert.Kernel2Ideal.Gen
open Idealize.ShloMosaic Idealize.ShloMosaic.TcCoe Idealize.SL.Sem Idealize.ShloMosaic.ValueIdx

/-- One token `x` through one expert with weights `g`, `u`, `w`, its output feature `n`: the gated hidden layer
    projected down. -/
def token (x : Fin 1024 → EReal) (g u w : Fin 1024 → Fin 1024 → EReal) (n : Fin 1024) : EReal :=
  ∑ f : Fin 1024, (∑ k : Fin 1024, x k * g k f) * Ideal.logistic (∑ k : Fin 1024, x k * g k f) * (∑ k : Fin 1024, x k * u k f) * w f n

/-- A weight block stored into its scratch: the matrix of the block. -/
theorem weight_apply (x : Vec Ideal S1x1x1024x1024 .f32) (k n : Fin 1024) :
    k0_pay1 x (ix2 k n) = x (ix4 0 0 k n) ∧ k0_pay2 x (ix2 k n) = x (ix4 0 0 k n) ∧ k0_pay3 x (ix2 k n) = x (ix4 0 0 k n) := by
  have e : shapeCast S1024x1024 x shapeCasts_S1x1x1024x1024_S1024x1024 (ix2 k n) = x (ix4 0 0 k n) :=
    shapeCast_apply x _ _ _ (by
      rewrite [Shape.rowMajor_val_four, Shape.rowMajor_val_two]
      show ((0 * 1 + 0) * 1024 + k.val) * 1024 + n.val = k.val * 1024 + n.val
      omega)
  unfold k0_pay1 k0_pay2 k0_pay3
  simp only [shapeCast_self]
  exact ⟨e, e, e⟩

/-- A product into a zero accumulator, at an element. -/
theorem product_apply (a b : FVec Ideal S1024x1024 .bf16) (r n : Fin 1024) :
    matmul dot_S1024x1024_S1024x1024_S1024x1024_1_0_0_1_n_n none a b (constant S1024x1024 .f32 0x00000000#32) (ix2 r n)
      = ∑ k : Fin 1024, a (ix2 r k) * b (ix2 k n) := by
  refine (Ideal.matmul_plain_apply none a b _ r n).trans ?_
  rw [constant_apply, show Ideal.ofBits .f32 0x00000000#32 = 0 from Ideal.ofBits_zero_f32, zero_add]

/-- The logistic at an element. -/
theorem logistic_at (y : FVec Ideal S1024x1024 .f32) (i : S1024x1024.Idx) : logistic y i = Ideal.logistic (y i) := rfl

/-- The output block at an element is the token at that place through the expert. -/
theorem block_apply (x : Vec Ideal S4x1x256x1024 .bf16) (g u w : Vec Ideal S1024x1024 .bf16) (b : Fin 4) (s : Fin 256) (n : Fin 1024) :
    k0_pay4 x g u w (ix4 b 0 s n)
      = token (fun k => x (ix4 b 0 s k)) (fun k f => g (ix2 k f)) (fun k f => u (ix2 k f)) (fun f n => w (ix2 f n)) n := by
  have hr : b.val * 256 + s.val < 1024 := by omega
  have ein (k : Fin 1024) : shapeCast S1024x1024 x shapeCasts_S4x1x256x1024_S1024x1024 (ix2 ⟨b.val * 256 + s.val, hr⟩ k) = x (ix4 b 0 s k) :=
    shapeCast_apply x _ _ _ (by
      rewrite [Shape.rowMajor_val_four, Shape.rowMajor_val_two]
      show ((b.val * 1 + 0) * 256 + s.val) * 1024 + k.val = (b.val * 256 + s.val) * 1024 + k.val
      omega)
  have eout (y : FVec Ideal S1024x1024 .bf16) : shapeCast S4x1x256x1024 y shapeCasts_S1024x1024_S4x1x256x1024 (ix4 b 0 s n) = y (ix2 ⟨b.val * 256 + s.val, hr⟩ n) :=
    shapeCast_apply y _ _ _ (by
      rewrite [Shape.rowMajor_val_four, Shape.rowMajor_val_two]
      show (b.val * 256 + s.val) * 1024 + n.val = ((b.val * 1 + 0) * 256 + s.val) * 1024 + n.val
      omega)
  unfold k0_pay4
  rw [eout, truncf_apply, product_apply]
  unfold token
  refine Finset.sum_congr rfl fun f _ => ?_
  rw [truncf_apply, mulf_apply, mulf_apply, logistic_at, product_apply, product_apply]
  simp only [ein]

/-- The kernel's result at an element. -/
theorem result_apply (m : (ℓ : Loc nD τ sig) → Buf (Elt Ideal) ℓ) (c : Dev nD) (b : Fin 32) (e : Fin 16) (s : Fin 256) (n : Fin 1024) :
    (Value.G4 m c : Vec Ideal S32x16x256x1024 .bf16) (ix4 b e s n)
      = token (fun k => (m ((c : Thread nD τ).loc main_arg0) : Vec Ideal S32x16x256x1024 .bf16) (ix4 b e s k))
          (fun k f => (m ((c : Thread nD τ).loc main_arg1) : Vec Ideal S2x16x1024x1024 .f32) (ix4 0 e k f))
          (fun k f => (m ((c : Thread nD τ).loc main_arg2) : Vec Ideal S2x16x1024x1024 .f32) (ix4 0 e k f))
          (fun f n => (m ((c : Thread nD τ).loc main_arg3) : Vec Ideal S2x16x1024x1024 .f32) (ix4 0 e f n)) n := by
  have hb := b.isLt
  have he := e.isLt
  have hs := s.isLt
  have hn := n.isLt
  have hp : Value.pt4Of (ix4 b e s n) = b.val / 4 + 8 * e.val := by
    show 1 * (b.val / 4 - 0) + 8 * (e.val / 1 - 0) + 128 * (s.val / 256 - 0) + 128 * (n.val / 1024 - 0) = _
    omega
  have hlt : Value.pt4Of (ix4 b e s n) < cfg0.N := lt_of_lt_of_eq (by rw [hp]; omega : Value.pt4Of (ix4 b e s n) < 128) N_0.symm
  have hloc : Value.loc4Of (ix4 b e s n) = ix4 ⟨b.val % 4, by omega⟩ 0 s n := by
    funext a
    apply Fin.ext
    match a with
    | ⟨0, _⟩ => show b.val % 4 = b.val % 4; rfl
    | ⟨1, _⟩ => show e.val % 1 = 0; omega
    | ⟨2, _⟩ => show s.val % 256 = s.val; omega
    | ⟨3, _⟩ => show n.val % 1024 = n.val; omega
  have h1 : (⟨Value.pt4Of (ix4 b e s n) / 8, by omega⟩ : Fin 16) = e := Fin.ext (by show Value.pt4Of (ix4 b e s n) / 8 = e.val; rw [hp]; omega)
  have h0 : (⟨4 * (Value.pt4Of (ix4 b e s n) % 8) + b.val % 4, by omega⟩ : Fin 32) = b := Fin.ext (by
    show 4 * (Value.pt4Of (ix4 b e s n) % 8) + b.val % 4 = b.val; rw [hp]; omega)
  unfold Value.G4
  rw [dif_pos hlt, ← Value.outsAt0_sweep m c _ hlt, held, hloc]
  refine (block_apply _ _ _ _ _ _ _).trans ?_
  congr 1
  · funext k
    exact (tokens_block m c ⟨_, hlt⟩ _ _ _ _).trans (by simp only [h0, h1])
  · funext k f
    exact ((weight_apply _ _ _).1.trans (gate_block m c ⟨_, hlt⟩ _ _ _ _)).trans (by simp only [h1])
  · funext k f
    exact ((weight_apply _ _ _).2.1.trans (up_block m c ⟨_, hlt⟩ _ _ _ _)).trans (by simp only [h1])
  · funext k f
    exact ((weight_apply _ _ _).2.2.trans (down_block m c ⟨_, hlt⟩ _ _ _ _)).trans (by simp only [h1])

end Cert.Kernel2Ideal.Experts

namespace Cert.Reference2Ideal.Experts

open Cert.Reference2Ideal Cert.Reference2Ideal.Gen Cert.Reference2Ideal.Read
open Idealize.ShloMosaic Idealize.ShloMosaic.TcCoe Idealize.SL.Sem Idealize.ShloMosaic.ValueIdx
open Cert.Kernel2Ideal.Experts (token)

variable (x : Vec Ideal S32x16x256x1024 .bf16) (g u w : Vec Ideal S2x16x1024x1024 .f32)

/-- One expert's matrix of the layer, as the reference takes it out of the parameter. -/
theorem matrix_apply (e : Fin 16) (k f : Fin 1024) :
    val_main_v2 (F := Ideal) g (ix3 e k f) = g (ix4 0 e k f) ∧ val_main_v4 (F := Ideal) g (ix3 e k f) = g (ix4 0 e k f)
      ∧ val_main_v6 (F := Ideal) g (ix3 e k f) = g (ix4 0 e k f) := by
  have hi : idx_main_v1 (idx_main_v2 (ix3 e k f)) = ix4 0 e k f := by
    funext a
    apply Fin.ext
    have he := e.isLt
    have hk := k.isLt
    have hf := f.isLt
    match a with
    | ⟨0, _⟩ => rfl
    | ⟨1, _⟩ => show ((e.val * 1024 + k.val) * 1024 + f.val) / 1048576 % 16 = e.val; omega
    | ⟨2, _⟩ => show ((e.val * 1024 + k.val) * 1024 + f.val) / 1024 % 1024 = k.val; omega
    | ⟨3, _⟩ => show ((e.val * 1024 + k.val) * 1024 + f.val) % 1024 = f.val; omega
  refine ⟨?_, ?_, ?_⟩
  · rw [val_main_v2_apply, val_main_v1_apply]; exact congrArg g hi
  · rw [val_main_v4_apply, val_main_v3_apply]; exact congrArg g hi
  · rw [val_main_v6_apply, val_main_v5_apply]; exact congrArg g hi

/-- The batched product's places: into the stacked matrices, and into the tokens. -/
theorem places (b : Fin 32) (e : Fin 16) (s : Fin 256) (f k : Fin 1024) :
    lidx_main_v7 (idx_main_v8 (ix4 b e s f)) k = ix3 e k f ∧ ridx_main_v7 (idx_main_v8 (ix4 b e s f)) k = ix4 b e s k := by
  constructor <;> funext a <;> apply Fin.ext
  · match a with | ⟨0, _⟩ => rfl | ⟨1, _⟩ => rfl | ⟨2, _⟩ => rfl
  · match a with | ⟨0, _⟩ => rfl | ⟨1, _⟩ => rfl | ⟨2, _⟩ => rfl | ⟨3, _⟩ => rfl

/-- The gate's product at a token and hidden feature, -/
theorem gate_apply (b : Fin 32) (e : Fin 16) (s : Fin 256) (f : Fin 1024) :
    val_main_v8 (F := Ideal) x g (ix4 b e s f) = ∑ k : Fin 1024, x (ix4 b e s k) * g (ix4 0 e k f) := by
  rw [val_main_v8_apply, val_main_v7_apply]
  refine Finset.sum_congr rfl fun k _ => ?_
  rw [(places b e s f k).1, (places b e s f k).2, (matrix_apply g e k f).1, mul_comm]
  rfl

/-- the up projection's, -/
theorem up_apply (b : Fin 32) (e : Fin 16) (s : Fin 256) (f : Fin 1024) :
    val_main_v11 (F := Ideal) x u (ix4 b e s f) = ∑ k : Fin 1024, x (ix4 b e s k) * u (ix4 0 e k f) := by
  rw [val_main_v11_apply, val_main_v10_apply]
  refine Finset.sum_congr rfl fun k _ => ?_
  rw [show lidx_main_v10 (idx_main_v11 (ix4 b e s f)) k = ix3 e k f from (places b e s f k).1,
    show ridx_main_v10 (idx_main_v11 (ix4 b e s f)) k = ix4 b e s k from (places b e s f k).2, (matrix_apply u e k f).2.1, mul_comm]
  rfl

/-- the gated hidden layer, -/
theorem hidden_apply (b : Fin 32) (e : Fin 16) (s : Fin 256) (f : Fin 1024) :
    val_main_v12 (F := Ideal) x g u (ix4 b e s f)
      = (∑ k : Fin 1024, x (ix4 b e s k) * g (ix4 0 e k f)) * Ideal.logistic (∑ k : Fin 1024, x (ix4 b e s k) * g (ix4 0 e k f))
        * (∑ k : Fin 1024, x (ix4 b e s k) * u (ix4 0 e k f)) := by
  have one : FloatOps.ofBits (F := Ideal) .f32 0x3F800000#32 = 1 := Ideal.ofBits_one_f32
  rw [val_main_v12_apply, up_apply, val_main_v9_apply, val_main_call0_v5_apply, val_main_call0_v4_apply,
    val_main_call0_cst_0_apply, val_main_call0_v3_apply, val_main_call0_v2_apply, val_main_call0_cst_apply,
    val_main_call0_v1_apply, val_main_call0_v0_apply, gate_apply, one]
  rfl

/-- and the reference's result: the token at that place through the expert. -/
theorem reference_apply (b : Fin 32) (e : Fin 16) (s : Fin 256) (n : Fin 1024) :
    val_main_v15 (F := Ideal) x g u w (ix4 b e s n)
      = token (fun k => x (ix4 b e s k)) (fun k f => g (ix4 0 e k f)) (fun k f => u (ix4 0 e k f)) (fun f n => w (ix4 0 e f n)) n := by
  rw [val_main_v15_apply, val_main_v14_apply, val_main_v13_apply]
  show ∑ k : Fin 1024, _ = _
  unfold token
  refine Finset.sum_congr rfl fun f _ => ?_
  rw [show lidx_main_v13 (idx_main_v14 (ix4 b e s n)) f = ix3 e f n from (places b e s n f).1,
    show ridx_main_v13 (idx_main_v14 (ix4 b e s n)) f = ix4 b e s f from (places b e s n f).2, (matrix_apply w e f n).2.2, hidden_apply, mul_comm]

end Cert.Reference2Ideal.Experts

namespace Cert.Kernel2Ideal.Experts

open Idealize.ShloMosaic Idealize.ShloMosaic.TcCoe Idealize.ShloMosaic.ValueIdx

/-- The kernel's result array is the reference's stage of the same arguments. -/
theorem result_eq (m : (ℓ : Loc nD τ sig) → Buf (Elt Ideal) ℓ) (c : Dev nD) :
    (Value.G4 m c : Vec Ideal S32x16x256x1024 .bf16)
      = Reference2Ideal.Read.val_main_v15 (F := Ideal) (m ((c : Thread nD τ).loc main_arg0)) (m ((c : Thread nD τ).loc main_arg1))
          (m ((c : Thread nD τ).loc main_arg2)) (m ((c : Thread nD τ).loc main_arg3)) := by
  funext i
  obtain ⟨b, e, s, n, rfl⟩ : ∃ (b : Fin 32) (e : Fin 16) (s : Fin 256) (n : Fin 1024), i = ix4 b e s n := ⟨i 0, i 1, i 2, i 3, eq_ix4 i⟩
  exact (result_apply m c b e s n).trans (Reference2Ideal.Experts.reference_apply _ _ _ _ _ _ _ _).symm

end Cert.Kernel2Ideal.Experts

end
-- ==== Proof.InProj.Body.lean ====
/- The input projection's body read at one element, over the extended reals: what a grid point stores into each of its
   seven output blocks, from its input blocks. Every row is normalised and multiplied with a slice of the weights; the
   first 768 columns then go through a centred convolution over three rows, whose outer rows come from the two halo
   blocks, or are zero at a sequence's ends. -/
module

public import proofs.«01_k».proof.Proof.InProj.Rows
public import proofs.«01_k».proof.Proof.Gen.Kernel3Ideal.Frame

@[expose] public section

noncomputable section

namespace Cert.Kernel3Ideal.InProj

open Cert.Kernel3Ideal Cert.Kernel3Ideal.Gen Cert.Rows
open Idealize.ShloMosaic Idealize.ShloMosaic.TcCoe Idealize.SL.Sem Idealize.ShloMosaic.ValueIdx
open scoped BigOperators

/-- The half of its sequence a grid point works on, as the body computes it from the point's number. -/
def half (i : grid0.Coords) : BitVec 32 :=
  Scalar.select (Scalar.andi (Scalar.xori (Scalar.cmpi .slt (Scalar.remsi (BitVec.ofNat 32 (i 0).val) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (BitVec.ofNat 32 (i 0).val) (Scalar.select (Scalar.cmpi .eq 2#32 0#32) 1#32 2#32)) 0#32))
    (Scalar.addi (Scalar.remsi (BitVec.ofNat 32 (i 0).val) (Scalar.select (Scalar.cmpi .eq 2#32 0#32) 1#32 2#32)) (Scalar.select (Scalar.cmpi .eq 2#32 0#32) 1#32 2#32))
    (Scalar.remsi (BitVec.ofNat 32 (i 0).val) (Scalar.select (Scalar.cmpi .eq 2#32 0#32) 1#32 2#32))

/-- At point `t` it is `t` modulo 2. -/
theorem half_eq : ∀ t : Fin cfg0.N, (Scalar.cmpi .eq (half (grid0.coords t)) 0#32 = if t.val % 2 = 0 then 1#1 else 0#1)
    ∧ (Scalar.cmpi .eq (half (grid0.coords t)) 1#32 = if t.val % 2 = 1 then 1#1 else 0#1) :=
  (by decide +kernel : ∀ t : Fin grid0.N, _)

section Blocks

variable (i : grid0.Coords) (x0 : Vec Ideal S1024x1024 .f32) (x1 x2 : Vec Ideal S16x1024 .f32) (x3 : Vec Ideal S1x1024 .f32)
  (x4 : Vec Ideal S1024x3584 .bf16) (x5 : Vec Ideal S8x1024 .bf16) (x6 : Vec Ideal S3x768 .f32)

/-- The weight of the norm. -/
def gain (k : Fin 1024) : EReal := x3 (ix2 0 k)

/-- The normalised tile, at an element. -/
theorem tile_apply (r : Fin 1024) (k : Fin 1024) :
    k0_pay24 (F := Ideal) i x0 x1 x2 x3 x4 x5 x6 (ix2 r k) = rms (fun j => x0 (ix2 r j)) (gain x3) k := by
  unfold k0_pay24 k0_pay3
  rw [View.ld_unit_zero (S := S1024x1024) zeros2, View.ld_unit_zero (S := S1x1024) zeros2]
  simp only [shapeCast_self]
  rw [truncf_apply]
  exact rms_rows x0 x3 _ _ _ _ _ _ r k

/-- The row above the tile and the row below it, as the body takes them: zero past a sequence's ends. -/
def above (k : Fin 1024) : EReal := if Scalar.cmpi .eq (half i) 0#32 = 1#1 then 0 else rms (fun j => x1 (ix2 15 j)) (gain x3) k
def below (k : Fin 1024) : EReal := if Scalar.cmpi .eq (half i) 1#32 = 1#1 then 0 else rms (fun j => x2 (ix2 0 j)) (gain x3) k

/-- The rows the convolution meets, counted from the row above the tile. -/
def row (e : ℕ) (k : Fin 1024) : EReal :=
  if e = 0 then above i x1 x3 k else if h : e - 1 < 1024 then rms (fun j => x0 (ix2 ⟨e - 1, h⟩ j)) (gain x3) k else below i x2 x3 k

/-- A choice between two blocks by a scalar condition, at an element. -/
theorem select_apply' {ι β : Type} (c : BitVec 1) (a b : ι → β) (j : ι) : Scalar.select c a b j = Scalar.select c (a j) (b j) := by
  unfold Scalar.select
  split <;> rfl

theorem zero_bf16 (j : S16x1024.Idx) : k0_pay4 (F := Ideal) j = 0 := by
  unfold k0_pay4
  show Ideal.ofBits .bf16 0x0000#16 = 0
  exact Ideal.ofBits_zero_bf16

/-- A load of a block of columns from column `o` on, at an element. -/
theorem columns_apply {N : ℕ} (o : ℕ) (inb : ∀ a, (![0, o] : Fin 2 → ℕ) a + (![1024, N] : Fin 2 → ℕ) a ≤ S1024x3584.size a) (k : Fin 1024) (n : Fin N) (h : o + n.val < 3584) :
    View.ld x4 (Rect.unit (s := S1024x3584) ![0, o] ![1024, N] inb) (ix2 k n) = x4 (ix2 k ⟨o + n.val, h⟩) := by
  show x4 _ = x4 _
  congr 1
  funext a
  apply Fin.ext
  match a with
  | ⟨0, _⟩ => show 0 + 1 * k.val = k.val; omega
  | ⟨1, _⟩ => show o + 1 * n.val = o + n.val; omega

/-- The tile between its two halo blocks, at the row `15 + e`. -/
theorem stacked_apply (e : ℕ) (he : e < 1026) (k : Fin 1024) (a b : FVec Ideal S16x1024 .bf16) (t : FVec Ideal S1024x1024 .bf16) :
    concatenate S1056x1024 0 [⟨S16x1024, a⟩, ⟨S1024x1024, t⟩, ⟨S16x1024, b⟩] concatenates_S16x1024_S1024x1024_S16x1024_S1056x1024_d0 (ix2 ⟨15 + e, by omega⟩ k)
      = if e = 0 then a (ix2 15 k) else if h : e - 1 < 1024 then t (ix2 ⟨e - 1, h⟩ k) else b (ix2 0 k) := by
  split
  · subst e
    refine concatenate_apply_piece (t := S1056x1024) 0 [⟨S16x1024, a⟩, ⟨S1024x1024, t⟩, ⟨S16x1024, b⟩]
          concatenates_S16x1024_S1024x1024_S16x1024_S1056x1024_d0 (ix2 ⟨15 + 0, by omega⟩ k) 0 (by decide : 0 < 3) S16x1024 _ rfl rfl 0 rfl (ix2 15 k) (fun b hb => ?_) rfl
    match b with
    | ⟨0, _⟩ => exact absurd rfl hb
    | ⟨1, _⟩ => rfl
  · split
    · rename_i h0 h
      refine concatenate_apply_piece (t := S1056x1024) 0 [⟨S16x1024, a⟩, ⟨S1024x1024, t⟩, ⟨S16x1024, b⟩]
          concatenates_S16x1024_S1024x1024_S16x1024_S1056x1024_d0 (ix2 ⟨15 + e, by omega⟩ k) 1 (by decide : 1 < 3) S1024x1024 _ rfl rfl 16 rfl (ix2 ⟨e - 1, h⟩ k) (fun b hb => ?_) ?_
      · match b with
        | ⟨0, _⟩ => exact absurd rfl hb
        | ⟨1, _⟩ => rfl
      · show 16 + (e - 1) = 15 + e; omega
    · rename_i h0 h
      refine concatenate_apply_piece (t := S1056x1024) 0 [⟨S16x1024, a⟩, ⟨S1024x1024, t⟩, ⟨S16x1024, b⟩]
          concatenates_S16x1024_S1024x1024_S16x1024_S1056x1024_d0 (ix2 ⟨15 + e, by omega⟩ k) 2 (by decide : 2 < 3) S16x1024 _ rfl rfl 1040 rfl (ix2 0 k) (fun b hb => ?_) ?_
      · match b with
        | ⟨0, _⟩ => exact absurd rfl hb
        | ⟨1, _⟩ => rfl
      · show 1040 + 0 = 15 + e; omega

/-- The product of the tile between its two halo blocks with the first 768 columns: row `15 + e`. -/
theorem product_rows (e : ℕ) (he : e < 1026) (n : Fin 768) :
    k0_pay28 (F := Ideal) i x0 x1 x2 x3 x4 x5 x6 (ix2 ⟨15 + e, by omega⟩ n)
      = ∑ k : Fin 1024, row i x0 x1 x2 x3 e k * x4 (ix2 k ⟨0 + n.val, by omega⟩) := by
  unfold k0_pay28 k0_pay7 k0_pay25 k0_pay26 k0_pay27
  refine (product_apply (φ₁ := .bf16) (φ₂ := .bf16) _ _ _ _).trans ?_
  refine Finset.sum_congr rfl fun k _ => ?_
  refine congrArg₂ (· * ·) ((stacked_apply e he k _ _ _).trans ?_) ?_
  · unfold row
    split
    · unfold k0_pay6 k0_pay5
      rw [View.ld_unit_zero (S := S16x1024) zeros2, View.ld_unit_zero (S := S1x1024) zeros2]
      simp only [shapeCast_self]
      rw [select_apply', zero_bf16, truncf_apply]
      refine (congrArg _ (rms_rows x1 x3 _ _ _ _ _ _ 15 k)).trans ?_
      rfl
    · split
      · exact tile_apply i x0 x1 x2 x3 x4 x5 x6 _ k
      · rw [View.ld_unit_zero (S := S16x1024) zeros2, View.ld_unit_zero (S := S1x1024) zeros2]
        simp only [shapeCast_self]
        rw [select_apply', zero_bf16, truncf_apply]
        refine (congrArg _ (rms_rows x2 x3 _ _ _ _ _ _ 0 k)).trans ?_
        rfl
  · rw [shapeCast_self]
    exact columns_apply x4 0 _ k n _

/-- A product row under the convolution. -/
def projected (e : ℕ) (n : Fin 768) : EReal := ∑ k : Fin 1024, row i x0 x1 x2 x3 e k * x4 (ix2 k ⟨0 + n.val, by omega⟩)

/-- The tile's rows of the product rolled by one row: the rows one above. -/
theorem up_apply (y : FVec Ideal S1056x768 .f32) (r : Fin 1024) (n : Fin 768) :
    extractStridedSlice S1024x768 ![16, 0] (dynamicRotate 0 1#32 none y rotates_S1056x768_d0) slices_S1056x768_o16_0_S1024x768 (ix2 r n)
      = y (ix2 ⟨15 + r.val, by omega⟩ n) := by
  refine (extractStridedSlice_apply _ _ _ (ix2 r n) (ix2 ⟨16 + r.val, by omega⟩ n) fun a => match a with
    | ⟨0, _⟩ => rfl
    | ⟨1, _⟩ => (Nat.zero_add _).symm).trans ?_
  refine dynamicRotate_apply _ _ _ _ _ _ fun a => match a with
    | ⟨0, _⟩ => by show 15 + r.val = (16 + r.val + 1056 - 1) % 1056; omega
    | ⟨1, _⟩ => rfl

/-- The tile's rows of the product. -/
theorem mid_apply (y : FVec Ideal S1056x768 .f32) (r : Fin 1024) (n : Fin 768) :
    extractStridedSlice S1024x768 ![16, 0] y slices_S1056x768_o16_0_S1024x768 (ix2 r n) = y (ix2 ⟨15 + (r.val + 1), by omega⟩ n) :=
  extractStridedSlice_apply _ _ _ (ix2 r n) (ix2 ⟨15 + (r.val + 1), by omega⟩ n) fun a => match a with
    | ⟨0, _⟩ => by show 15 + (r.val + 1) = 16 + r.val; omega
    | ⟨1, _⟩ => (Nat.zero_add _).symm

/-- The tile's rows of the product rolled by 1055 rows: the rows one below. -/
theorem down_apply (y : FVec Ideal S1056x768 .f32) (r : Fin 1024) (n : Fin 768) :
    extractStridedSlice S1024x768 ![16, 0] (dynamicRotate 0 1055#32 none y rotates_S1056x768_d0) slices_S1056x768_o16_0_S1024x768 (ix2 r n)
      = y (ix2 ⟨15 + (r.val + 2), by omega⟩ n) := by
  refine (extractStridedSlice_apply _ _ _ (ix2 r n) (ix2 ⟨16 + r.val, by omega⟩ n) fun a => match a with
    | ⟨0, _⟩ => rfl
    | ⟨1, _⟩ => (Nat.zero_add _).symm).trans ?_
  refine dynamicRotate_apply _ _ _ _ _ _ fun a => match a with
    | ⟨0, _⟩ => by show 15 + (r.val + 2) = (16 + r.val + 1056 - 1055) % 1056; omega
    | ⟨1, _⟩ => rfl

/-- A row of the convolution's weights over the tile, at an element. -/
theorem tap_apply (o : Fin 3) (inb : ∀ a, (![o.val, 0] : Fin 2 → ℕ) a + (![1, 768] : Fin 2 → ℕ) a ≤ S3x768.size a) (r : Fin 1024) (n : Fin 768) :
    broadcastTo (s := S1x768) S1024x768 (View.ld x6 (Rect.unit (s := S3x768) ![o.val, 0] ![1, 768] inb)) broadcasts_S1x768_S1024x768 (ix2 r n) = x6 (ix2 o n) := by
  refine (broadcastTo_apply (s := S1x768) _ _ (ix2 r n) (ix2 0 n) fun a => match a with
    | ⟨0, _⟩ => rfl
    | ⟨1, _⟩ => rfl).trans ?_
  show x6 _ = x6 _
  congr 1
  funext a
  apply Fin.ext
  match a with
  | ⟨0, _⟩ => show o.val + 1 * 0 = o.val; omega
  | ⟨1, _⟩ => show 0 + 1 * n.val = n.val; omega

/-- The convolution's result, at an element. -/
def mixed (r : Fin 1024) (n : Fin 768) : EReal :=
  projected i x0 x1 x2 x3 x4 r.val n * x6 (ix2 0 n) + projected i x0 x1 x2 x3 x4 (r.val + 1) n * x6 (ix2 1 n)
    + projected i x0 x1 x2 x3 x4 (r.val + 2) n * x6 (ix2 2 n)

theorem mixed_apply (r : Fin 1024) (n : Fin 768) :
    k0_pay9 (k0_pay28 i x0 x1 x2 x3 x4 x5 x6) (k0_pay29 i x0 x1 x2 x3 x4 x5 x6) 1055#32 (View.ld x6 r0_6) (ix2 r n)
      = mixed i x0 x1 x2 x3 x4 x6 r n := by
  unfold k0_pay9 k0_pay29 k0_pay8
  show extractStridedSlice S1024x768 ![16, 0] (dynamicRotate 0 1#32 none (k0_pay28 i x0 x1 x2 x3 x4 x5 x6) rotates_S1056x768_d0) slices_S1056x768_o16_0_S1024x768 (ix2 r n)
        * broadcastTo (s := S1x768) S1024x768 (View.ld x6 r0_4) broadcasts_S1x768_S1024x768 (ix2 r n)
      + extractStridedSlice S1024x768 ![16, 0] (k0_pay28 i x0 x1 x2 x3 x4 x5 x6) slices_S1056x768_o16_0_S1024x768 (ix2 r n)
        * broadcastTo (s := S1x768) S1024x768 (View.ld x6 r0_5) broadcasts_S1x768_S1024x768 (ix2 r n)
      + extractStridedSlice S1024x768 ![16, 0] (dynamicRotate 0 1055#32 none (k0_pay28 i x0 x1 x2 x3 x4 x5 x6) rotates_S1056x768_d0) slices_S1056x768_o16_0_S1024x768 (ix2 r n)
        * broadcastTo (s := S1x768) S1024x768 (View.ld x6 r0_6) broadcasts_S1x768_S1024x768 (ix2 r n) = _
  rw [up_apply, mid_apply, down_apply, product_rows i x0 x1 x2 x3 x4 x5 x6 r.val (by omega), product_rows i x0 x1 x2 x3 x4 x5 x6 (r.val + 1) (by omega),
    product_rows i x0 x1 x2 x3 x4 x5 x6 (r.val + 2) (by omega)]
  exact congrArg₂ (· + ·) (congrArg₂ (· + ·) (congrArg _ (tap_apply x6 0 _ r n)) (congrArg _ (tap_apply x6 1 _ r n))) (congrArg _ (tap_apply x6 2 _ r n))

/-- Hyena's gated input, in output block 7: the value's columns times the first gate's. -/
theorem gated_apply (r : Fin 1024) (n : Fin 256) :
    out0_7 (F := Ideal) i x0 x1 x2 x3 x4 x5 x6 (ix2 r n)
      = mixed i x0 x1 x2 x3 x4 x6 r ⟨512 + n.val, by omega⟩ * mixed i x0 x1 x2 x3 x4 x6 r ⟨256 + n.val, by omega⟩ := by
  unfold out0_7
  rw [View.canon_unit_zero zeros2]
  unfold k0_pay11
  rw [truncf_apply, mulf_apply, extractStridedSlice_apply _ _ _ (ix2 r n) (ix2 r ⟨512 + n.val, by omega⟩) (fun a => match a with
      | ⟨0, _⟩ => (Nat.zero_add _).symm
      | ⟨1, _⟩ => rfl),
    extractStridedSlice_apply _ _ _ (ix2 r n) (ix2 r ⟨256 + n.val, by omega⟩) (fun a => match a with
      | ⟨0, _⟩ => (Nat.zero_add _).symm
      | ⟨1, _⟩ => rfl), mixed_apply, mixed_apply]

/-- Hyena's second gate, in output block 8. -/
theorem gate_apply (r : Fin 1024) (n : Fin 256) :
    out0_8 (F := Ideal) i x0 x1 x2 x3 x4 x5 x6 (ix2 r n) = mixed i x0 x1 x2 x3 x4 x6 r ⟨n.val, by omega⟩ := by
  unfold out0_8
  rw [View.canon_unit_zero zeros2]
  unfold k0_pay10
  rw [truncf_apply, extractStridedSlice_apply _ _ _ (ix2 r n) (ix2 r ⟨n.val, by omega⟩) (fun a => match a with
      | ⟨0, _⟩ => (Nat.zero_add _).symm
      | ⟨1, _⟩ => (Nat.zero_add _).symm), mixed_apply]

/-- The tile times a block of columns, at an element. -/
def plain (r : Fin 1024) (j : Fin 3584) : EReal := ∑ k : Fin 1024, rms (fun d => x0 (ix2 r d)) (gain x3) k * x4 (ix2 k j)

theorem plain_apply {N : ℕ} (o : ℕ) (inb : ∀ a, (![0, o] : Fin 2 → ℕ) a + (![1024, N] : Fin 2 → ℕ) a ≤ S1024x3584.size a) (r : Fin 1024) (n : Fin N) (h : o + n.val < 3584) :
    FloatOps.matmul (φ₁ := .bf16) (φ₂ := .bf16) (DotDims.plain 1024 1024 N) none (k0_pay24 (F := Ideal) i x0 x1 x2 x3 x4 x5 x6)
        (View.ld x4 (Rect.unit (s := S1024x3584) ![0, o] ![1024, N] inb) : FVec Ideal ⟨2, ![1024, N]⟩ .bf16) (constant ⟨2, ![1024, N]⟩ .f32 0x00000000#32) (ix2 r n)
      = plain x0 x3 x4 r ⟨o + n.val, h⟩ :=
  (product_apply (φ₁ := .bf16) (φ₂ := .bf16) _ _ r n).trans (Finset.sum_congr rfl fun k _ => congrArg₂ (· * ·) (tile_apply i x0 x1 x2 x3 x4 x5 x6 r k) (columns_apply x4 o inb k n h))

theorem mz_apply (r : Fin 1024) (n : Fin 256) :
    out0_9 (F := Ideal) i x0 x1 x2 x3 x4 x5 x6 (ix2 r n) = plain x0 x3 x4 r ⟨768 + n.val, by omega⟩ := by
  unfold out0_9
  rw [View.canon_unit_zero zeros2]
  unfold k0_pay12
  rw [shapeCast_self]
  exact plain_apply i x0 x1 x2 x3 x4 x5 x6 768 _ r n _

theorem mx_apply (r : Fin 1024) (n : Fin 512) :
    out0_10 (F := Ideal) i x0 x1 x2 x3 x4 x5 x6 (ix2 r n) = plain x0 x3 x4 r ⟨1024 + n.val, by omega⟩ := by
  unfold out0_10
  rw [View.canon_unit_zero zeros2]
  unfold k0_pay13
  rw [shapeCast_self]
  exact plain_apply i x0 x1 x2 x3 x4 x5 x6 1024 _ r n _

theorem at_apply (r : Fin 1024) (n : Fin 768) :
    out0_11 (F := Ideal) i x0 x1 x2 x3 x4 x5 x6 (ix2 r n) = plain x0 x3 x4 r ⟨1536 + n.val, by omega⟩ := by
  unfold out0_11
  rw [View.canon_unit_zero zeros2]
  unfold k0_pay14
  rw [shapeCast_self]
  exact plain_apply i x0 x1 x2 x3 x4 x5 x6 1536 _ r n _

theorem hg_apply (r : Fin 1024) (n : Fin 1280) :
    out0_12 (F := Ideal) i x0 x1 x2 x3 x4 x5 x6 (ix2 r n) = plain x0 x3 x4 r ⟨2304 + n.val, by omega⟩ := by
  unfold out0_12
  rw [View.canon_unit_zero zeros2]
  unfold k0_pay16 k0_pay15
  rw [shapeCast_self]
  exact plain_apply i x0 x1 x2 x3 x4 x5 x6 2304 _ r n _

/-- The step sizes, in output block 13: eight chunks of 128 rows, the rows along the lanes. -/
def steps (b h : Fin 8) (j : Fin 128) : EReal :=
  ∑ k : Fin 1024, x5 (ix2 h k) * rms (fun d => x0 (ix2 ⟨128 * b.val + j.val, by omega⟩ d)) (gain x3) k

theorem chunk_apply (b h : Fin 8) (j : Fin 128) (hs : S8x1024.Slices ![0, 128 * b.val] S8x128) :
    shapeCast S1x8x128 (extractStridedSlice S8x128 ![0, 128 * b.val] (k0_pay17 (F := Ideal) (k0_pay24 i x0 x1 x2 x3 x4 x5 x6) (View.ld x5 r0_15)) hs) shapeCasts_S8x128_S1x8x128 (ix3 0 h j)
      = steps x0 x3 x5 b h j := by
  refine (shapeCast_apply _ _ (ix3 0 h j) (ix2 h j) (by
    rewrite [Shape.rowMajor_val_three, Shape.rowMajor_val_two]
    show h.val * 128 + j.val = (0 * 8 + h.val) * 128 + j.val
    omega)).trans ?_
  refine (extractStridedSlice_apply _ _ _ (ix2 h j) (ix2 h ⟨128 * b.val + j.val, by omega⟩) (fun a => match a with
      | ⟨0, _⟩ => (Nat.zero_add _).symm
      | ⟨1, _⟩ => rfl)).trans ?_
  unfold k0_pay17
  rw [shapeCast_self, View.ld_unit_zero (S := S8x1024) zeros2]
  refine (product_transposed_apply (φ₁ := .bf16) (φ₂ := .bf16) _ _ _ _).trans ?_
  exact Finset.sum_congr rfl fun k _ => congrArg _ (tile_apply i x0 x1 x2 x3 x4 x5 x6 _ k)

/-- The element of the eight chunks at any place of the block. -/
def stepsAt (y : S8x8x128.Idx) : EReal := steps x0 x3 x5 (y 0) (y 1) (y 2)

/-- A chunk as stored agrees with it. -/
theorem stored_apply (b : Fin 8) (inb : ∀ a, (![b.val, 0, 0] : Fin 3 → ℕ) a + (![1, 8, 128] : Fin 3 → ℕ) a ≤ S8x8x128.size a) (hs : S8x1024.Slices ![0, 128 * b.val] S8x128)
    (x : S1x8x128.Idx) :
    shapeCast S1x8x128 (extractStridedSlice S8x128 ![0, 128 * b.val] (k0_pay17 (F := Ideal) (k0_pay24 i x0 x1 x2 x3 x4 x5 x6) (View.ld x5 r0_15)) hs) shapeCasts_S8x128_S1x8x128 x
      = stepsAt x0 x3 x5 ((Rect.unit (s := S8x8x128) ![b.val, 0, 0] ![1, 8, 128] inb).emb x) := by
  obtain ⟨z, h, j, rfl⟩ : ∃ (z : Fin 1) (h : Fin 8) (j : Fin 128), x = ix3 z h j := ⟨x 0, x 1, x 2, eq_ix3 x⟩
  obtain rfl : z = 0 := Subsingleton.elim _ _
  refine (chunk_apply i x0 x1 x2 x3 x4 x5 x6 b h j hs).trans ?_
  unfold stepsAt
  have e0 : (Rect.unit (s := S8x8x128) ![b.val, 0, 0] ![1, 8, 128] inb).emb (ix3 0 h j) 0 = b := Fin.ext (by show b.val + 1 * 0 = b.val; omega)
  have e1 : (Rect.unit (s := S8x8x128) ![b.val, 0, 0] ![1, 8, 128] inb).emb (ix3 0 h j) 1 = h := Fin.ext (by show 0 + 1 * h.val = h.val; omega)
  have e2 : (Rect.unit (s := S8x8x128) ![b.val, 0, 0] ![1, 8, 128] inb).emb (ix3 0 h j) 2 = j := Fin.ext (by show 0 + 1 * j.val = j.val; omega)
  exact (congrArg₂ (fun a p => steps x0 x3 x5 a p.1 p.2) e0 (Prod.ext e1 e2 : (_, _) = (h, j))).symm

theorem dt_apply (b h : Fin 8) (j : Fin 128) :
    out0_13 (F := Ideal) i x0 x1 x2 x3 x4 x5 x6 (ix3 b h j) = steps x0 x3 x5 b h j := by
  unfold out0_13
  refine View.canon_apply_of_pieces (Val := Elt Ideal) (S := S8x8x128) (e := .f32) (stepsAt x0 x3 x5) _ ?_ (ix3 b h j) (cover0_13 _ _ _ _ _ _ _ _ _)
  intro p hp
  simp only [List.mem_cons, List.not_mem_nil, or_false] at hp
  rcases hp with rfl | rfl | rfl | rfl | rfl | rfl | rfl | rfl
  · exact fun x => stored_apply i x0 x1 x2 x3 x4 x5 x6 7 inb_S8x8x128_S1x8x128_7_0_0 slices_S8x1024_o0_896_S8x128 x
  · exact fun x => stored_apply i x0 x1 x2 x3 x4 x5 x6 6 inb_S8x8x128_S1x8x128_6_0_0 slices_S8x1024_o0_768_S8x128 x
  · exact fun x => stored_apply i x0 x1 x2 x3 x4 x5 x6 5 inb_S8x8x128_S1x8x128_5_0_0 slices_S8x1024_o0_640_S8x128 x
  · exact fun x => stored_apply i x0 x1 x2 x3 x4 x5 x6 4 inb_S8x8x128_S1x8x128_4_0_0 slices_S8x1024_o0_512_S8x128 x
  · exact fun x => stored_apply i x0 x1 x2 x3 x4 x5 x6 3 inb_S8x8x128_S1x8x128_3_0_0 slices_S8x1024_o0_384_S8x128 x
  · exact fun x => stored_apply i x0 x1 x2 x3 x4 x5 x6 2 inb_S8x8x128_S1x8x128_2_0_0 slices_S8x1024_o0_256_S8x128 x
  · exact fun x => stored_apply i x0 x1 x2 x3 x4 x5 x6 1 inb_S8x8x128_S1x8x128_1_0_0 slices_S8x1024_o0_128_S8x128 x
  · exact fun x => stored_apply i x0 x1 x2 x3 x4 x5 x6 0 inb_S8x8x128_S1x8x128_0_0_0 slices_S8x1024_o0_0_S8x128 x

end Blocks

end Cert.Kernel3Ideal.InProj

end
-- ==== Proof.InProj.Layer.lean ====
/- The input projection's mathematics at one token, over the extended reals: the token normalised and multiplied into a
   column of the weights (`projection`), and the depthwise convolution of three taps over neighbouring tokens of one
   sequence (`convolution`). The 32 sequences of 2048 tokens are numbered through, 65536 tokens in all. -/
module

public import proofs.«01_k».proof.Proof.InProj.Rows

@[expose] public section

noncomputable section

namespace Cert.InProj

open Cert.Rows
open Idealize.ShloMosaic Idealize.ShloMosaic.ValueIdx
open scoped BigOperators

variable (x : Vec Ideal ⟨3, ![32, 2048, 1024]⟩ .f32) (g : Vec Ideal ⟨1, ![1024]⟩ .f32)
  (w : Vec Ideal ⟨2, ![1024, 3592]⟩ .f32) (u : Vec Ideal ⟨2, ![3, 768]⟩ .f32)

/-- Token `T`, its feature `d`. -/
def token (T : ℕ) (d : Fin 1024) : EReal := x (ix3 ⟨T / 2048 % 32, by omega⟩ ⟨T % 2048, by omega⟩ d)

/-- The normalised token's product with the weights' column `j`. -/
def projection (T : ℕ) (j : Fin 3592) : EReal := ∑ k : Fin 1024, rms (token x T) (fun d => g (ix1 d)) k * w (ix2 k j)

/-- The token before and the token after, zero past the sequence's ends. -/
def before (T : ℕ) (j : Fin 3592) : EReal := if T % 2048 = 0 then 0 else projection x g w (T - 1) j
def after (T : ℕ) (j : Fin 3592) : EReal := if T % 2048 = 2047 then 0 else projection x g w (T + 1) j

/-- The three taps at token `T` and channel `n`. -/
def convolution (T : ℕ) (n : Fin 768) : EReal :=
  before x g w T ⟨n.val, by omega⟩ * u (ix2 0 n) + projection x g w T ⟨n.val, by omega⟩ * u (ix2 1 n) + after x g w T ⟨n.val, by omega⟩ * u (ix2 2 n)

end Cert.InProj

end
-- ==== Proof.InProj.Blocks.lean ====
/- The input projection's input blocks, read off the layer's arguments. The token array is reshaped to one row per token;
   a point's tile is 1024 of its rows, and its two halo blocks hold the rows next to the tile. The weights are the input
   projection's columns in the order the kernel takes them, and the step sizes' columns transposed. -/
module

public import proofs.«01_k».proof.Proof.InProj.Body
public import proofs.«01_k».proof.Proof.InProj.Layer
public import Idealize.ShloMosaic.Lib.Tactic
public import Idealize.ShloMosaic.Lib.Claim
public import Idealize.ShloMosaic.Lib.StableHlo.RunRead

@[expose] public section

noncomputable section

namespace Cert.Kernel3Ideal.InProj

open Cert.Kernel3Ideal Cert.Kernel3Ideal.Gen Cert.Rows
open Cert.InProj (token)
open Idealize.ShloMosaic Idealize.ShloMosaic.TcCoe Idealize.SL.Sem Idealize.ShloMosaic.ValueIdx

variable (m : (ℓ : Loc nD τ sig) → Buf (Elt Ideal) ℓ) (c : Dev nD)

/-- The arguments: the tokens, the norm's weight, the projection's weights and the convolution's. -/
def tokens : Vec Ideal S32x2048x1024 .f32 := m ((c : Thread nD τ).loc main_arg0)
def weight : Vec Ideal S1024 .f32 := m ((c : Thread nD τ).loc main_arg1)
def matrix : Vec Ideal S1024x3592 .f32 := m ((c : Thread nD τ).loc main_arg2)
def taps : Vec Ideal S3x768 .f32 := m ((c : Thread nD τ).loc main_arg3)

theorem point_lt (t : Fin cfg0.N) : t.val < 64 := lt_of_lt_of_eq t.isLt N_0

/-! ## The arrays the region finds -/

theorem tokens_array : (V m c main_v10 : Vec Ideal S65536x1024 .f32) = shapeCast S65536x1024 (tokens m c) shapeCasts_S32x2048x1024_S65536x1024 := by
  entry_read
  rfl

theorem weight_array : (V m c main_v11 : Vec Ideal S1x1024 .f32) = broadcastInDim S1x1024 ![1] bcast_S1024_S1x1024_1 (weight m c) := by
  entry_read
  rfl

/-- The contents when the five pieces of the kernel's weights have been cut out. -/
abbrev cut : Valuation τ sig (Elt Ideal) := StableHlo.upto hostOps0 (fun b => m (c, b)) 5

theorem matrix_array : (V m c main_v6 : Vec Ideal S1024x3584 .bf16)
    = truncf .bf16 (concatenate S1024x3584 1 [⟨S1024x768, (cut m c (Proc.devRef .tc main_v0) : Vec Ideal S1024x768 .f32)⟩,
        ⟨S1024x256, (cut m c (Proc.devRef .tc main_v1) : Vec Ideal S1024x256 .f32)⟩,
        ⟨S1024x512, (cut m c (Proc.devRef .tc main_v2) : Vec Ideal S1024x512 .f32)⟩,
        ⟨S1024x768, (cut m c (Proc.devRef .tc main_v3) : Vec Ideal S1024x768 .f32)⟩,
        ⟨S1024x1280, (cut m c (Proc.devRef .tc main_v4) : Vec Ideal S1024x1280 .f32)⟩]
        concatenates_S1024x768_S1024x256_S1024x512_S1024x768_S1024x1280_S1024x3584_d1 : FVec Ideal S1024x3584 .f32) bitsLt_bf16_f32 := by
  refine (StableHlo.after_last_write (ops := hostOps0) (i := 6) [main_v7, main_v8, main_v9, main_v10, main_v11] rfl rfl (by decide) (fun b => m (c, b))).trans ?_
  refine (StableHlo.unary_result' ..).trans ?_
  congr 1

theorem cut_0 : (cut m c (Proc.devRef .tc main_v0) : Vec Ideal S1024x768 .f32) = extractStridedSlice S1024x768 ![0, 0] (matrix m c) slices_S1024x3592_S1024x768_0_0 := by
  unfold cut
  after_reads_simp
  rfl

theorem cut_1 : (cut m c (Proc.devRef .tc main_v1) : Vec Ideal S1024x256 .f32) = extractStridedSlice S1024x256 ![0, 768] (matrix m c) slices_S1024x3592_S1024x256_0_768 := by
  unfold cut
  after_reads_simp
  rfl

theorem cut_2 : (cut m c (Proc.devRef .tc main_v2) : Vec Ideal S1024x512 .f32) = extractStridedSlice S1024x512 ![0, 1024] (matrix m c) slices_S1024x3592_S1024x512_0_1024 := by
  unfold cut
  after_reads_simp
  rfl

theorem cut_3 : (cut m c (Proc.devRef .tc main_v3) : Vec Ideal S1024x768 .f32) = extractStridedSlice S1024x768 ![0, 1544] (matrix m c) slices_S1024x3592_S1024x768_0_1544 := by
  unfold cut
  after_reads_simp
  rfl

theorem cut_4 : (cut m c (Proc.devRef .tc main_v4) : Vec Ideal S1024x1280 .f32) = extractStridedSlice S1024x1280 ![0, 2312] (matrix m c) slices_S1024x3592_S1024x1280_0_2312 := by
  unfold cut
  after_reads_simp
  rfl

theorem steps_array : (V m c main_v9 : Vec Ideal S8x1024 .bf16)
    = truncf .bf16 (transpose S8x1024 [1, 0] (extractStridedSlice S1024x8 ![0, 1536] (matrix m c) slices_S1024x3592_S1024x8_0_1536) transposes_S1024x8_S8x1024_1_0 : FVec Ideal S8x1024 .f32) bitsLt_bf16_f32 := by
  entry_read
  rfl

/-! ## The blocks -/

theorem block_numbers : ∀ t : Fin cfg0.N,
    (win0_0.index t (0 : Fin 2) = t.val ∧ win0_0.index t (1 : Fin 2) = 0)
    ∧ (win0_1.index t (0 : Fin 2) = 64 * t.val - 1 ∧ win0_1.index t (1 : Fin 2) = 0)
    ∧ (win0_2.index t (0 : Fin 2) = min (64 * t.val + 64) 4095 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem flat_apply (x : Vec Ideal S32x2048x1024 .f32) (T : Fin 65536) (d : Fin 1024) :
    shapeCast S65536x1024 x shapeCasts_S32x2048x1024_S65536x1024 (ix2 T d) = token x T.val d :=
  shapeCast_apply _ _ (ix2 T d) (ix3 ⟨T.val / 2048 % 32, by omega⟩ ⟨T.val % 2048, by omega⟩ d) (by
    rewrite [Shape.rowMajor_val_three, Shape.rowMajor_val_two]
    show (T.val / 2048 % 32 * 2048 + T.val % 2048) * 1024 + d.val = T.val * 1024 + d.val
    omega)

theorem tile_block (t : Fin cfg0.N) (r : Fin 1024) (d : Fin 1024) :
    (iblk m c 0 t : Vec Ideal S1024x1024 .f32) (ix2 r d) = token (tokens m c) (1024 * t.val + r.val) d := by
  obtain ⟨⟨i0, i1⟩, _⟩ := block_numbers t
  have ht := point_lt t
  unfold iblk
  rw [View.read_apply]
  refine Eq.trans ?_ (flat_apply (tokens m c) ⟨1024 * t.val + r.val, by omega⟩ d)
  rw [← tokens_array]
  show V m c main_v10 _ = V m c main_v10 _
  congr 1
  funext a
  apply Fin.ext
  match a with
  | ⟨0, _⟩ => show win0_0.index t 0 * 1024 + 1 * r.val = 1024 * t.val + r.val; rw [i0]; omega
  | ⟨1, _⟩ => show win0_0.index t 1 * 1024 + 1 * d.val = d.val; rw [i1]; omega

theorem above_block (t : Fin cfg0.N) (h : 0 < t.val) (d : Fin 1024) :
    (iblk m c 1 t : Vec Ideal S16x1024 .f32) (ix2 15 d) = token (tokens m c) (1024 * t.val - 1) d := by
  obtain ⟨_, ⟨i0, i1⟩, _⟩ := block_numbers t
  have ht := point_lt t
  unfold iblk
  rw [View.read_apply]
  refine Eq.trans ?_ (flat_apply (tokens m c) ⟨1024 * t.val - 1, by omega⟩ d)
  rw [← tokens_array]
  show V m c main_v10 _ = V m c main_v10 _
  congr 1
  funext a
  apply Fin.ext
  match a with
  | ⟨0, _⟩ => show win0_1.index t 0 * 16 + 1 * 15 = 1024 * t.val - 1; rw [i0]; omega
  | ⟨1, _⟩ => show win0_1.index t 1 * 1024 + 1 * d.val = d.val; rw [i1]; omega

theorem below_block (t : Fin cfg0.N) (h : t.val < 63) (d : Fin 1024) :
    (iblk m c 2 t : Vec Ideal S16x1024 .f32) (ix2 0 d) = token (tokens m c) (1024 * t.val + 1024) d := by
  obtain ⟨_, _, ⟨i0, i1⟩, _⟩ := block_numbers t
  unfold iblk
  rw [View.read_apply]
  refine Eq.trans ?_ (flat_apply (tokens m c) ⟨1024 * t.val + 1024, by omega⟩ d)
  rw [← tokens_array]
  show V m c main_v10 _ = V m c main_v10 _
  congr 1
  funext a
  apply Fin.ext
  match a with
  | ⟨0, _⟩ => show win0_2.index t 0 * 16 + 1 * 0 = 1024 * t.val + 1024; rw [i0]; omega
  | ⟨1, _⟩ => show win0_2.index t 1 * 1024 + 1 * d.val = d.val; rw [i1]; omega

theorem weight_block (t : Fin cfg0.N) (d : Fin 1024) :
    (iblk m c 3 t : Vec Ideal S1x1024 .f32) (ix2 0 d) = weight m c (ix1 d) := by
  obtain ⟨_, _, _, ⟨i0, i1⟩, _⟩ := block_numbers t
  unfold iblk
  rw [View.read_apply]
  refine Eq.trans ?_ (broadcastInDim_apply _ bcast_S1024_S1x1024_1 (weight m c) (ix2 0 d) (ix1 d) fun a => match a with
    | ⟨0, _⟩ => rfl)
  rw [← weight_array]
  show V m c main_v11 _ = V m c main_v11 _
  congr 1
  funext a
  apply Fin.ext
  match a with
  | ⟨0, _⟩ => show win0_3.index t 0 * 1 + 1 * 0 = 0; rw [i0]
  | ⟨1, _⟩ => show win0_3.index t 1 * 1024 + 1 * d.val = d.val; rw [i1]; omega

/-- The projection's column under the kernel's column `j`: the eight step-size columns are left out. -/
def column (j : Fin 3584) : Fin 3592 := if j.val < 1536 then ⟨j.val, by omega⟩ else ⟨j.val + 8, by omega⟩

/-- A piece of the kernel's weights: `N` columns from `o` on. -/
theorem piece_apply (x : Vec Ideal S1024x3592 .f32) {N : ℕ} (o : ℕ) (hs : S1024x3592.Slices ![0, o] ⟨2, ![1024, N]⟩) (k : Fin 1024) (n : Fin N)
    (h : o + n.val < 3592) : extractStridedSlice ⟨2, ![1024, N]⟩ ![0, o] x hs (ix2 k n) = x (ix2 k ⟨o + n.val, h⟩) :=
  extractStridedSlice_apply _ _ _ (ix2 k n) (ix2 k ⟨o + n.val, h⟩) fun a => match a with
    | ⟨0, _⟩ => (Nat.zero_add _).symm
    | ⟨1, _⟩ => rfl

/-- Five matrices side by side, at a column. -/
theorem five_apply (p0 : Vec Ideal S1024x768 .f32) (p1 : Vec Ideal S1024x256 .f32) (p2 : Vec Ideal S1024x512 .f32) (p3 : Vec Ideal S1024x768 .f32)
    (p4 : Vec Ideal S1024x1280 .f32) (k : Fin 1024) (j : Fin 3584) :
    concatenate S1024x3584 1 [⟨S1024x768, p0⟩, ⟨S1024x256, p1⟩, ⟨S1024x512, p2⟩, ⟨S1024x768, p3⟩, ⟨S1024x1280, p4⟩]
        concatenates_S1024x768_S1024x256_S1024x512_S1024x768_S1024x1280_S1024x3584_d1 (ix2 k j)
      = if h0 : j.val < 768 then p0 (ix2 k ⟨j.val, h0⟩)
        else if h1 : j.val < 1024 then p1 (ix2 k ⟨j.val - 768, by omega⟩)
        else if h2 : j.val < 1536 then p2 (ix2 k ⟨j.val - 1024, by omega⟩)
        else if h3 : j.val < 2304 then p3 (ix2 k ⟨j.val - 1536, by omega⟩)
        else p4 (ix2 k ⟨j.val - 2304, by omega⟩) := by
  split_ifs with h0 h1 h2 h3
  · exact concatenate_apply_piece (t := S1024x3584) 1 [⟨S1024x768, p0⟩, ⟨S1024x256, p1⟩, ⟨S1024x512, p2⟩, ⟨S1024x768, p3⟩, ⟨S1024x1280, p4⟩]
      concatenates_S1024x768_S1024x256_S1024x512_S1024x768_S1024x1280_S1024x3584_d1 (ix2 k j) 0 (by decide : 0 < 5) S1024x768 p0 rfl rfl 0 rfl
      (ix2 k ⟨j.val, h0⟩) (fun a ha => match a with | ⟨0, _⟩ => rfl | ⟨1, _⟩ => absurd rfl ha) (by show 0 + j.val = j.val; omega)
  · exact concatenate_apply_piece (t := S1024x3584) 1 [⟨S1024x768, p0⟩, ⟨S1024x256, p1⟩, ⟨S1024x512, p2⟩, ⟨S1024x768, p3⟩, ⟨S1024x1280, p4⟩]
      concatenates_S1024x768_S1024x256_S1024x512_S1024x768_S1024x1280_S1024x3584_d1 (ix2 k j) 1 (by decide : 1 < 5) S1024x256 p1 rfl rfl 768 rfl
      (ix2 k ⟨j.val - 768, by omega⟩) (fun a ha => match a with | ⟨0, _⟩ => rfl | ⟨1, _⟩ => absurd rfl ha) (by show 768 + (j.val - 768) = j.val; omega)
  · exact concatenate_apply_piece (t := S1024x3584) 1 [⟨S1024x768, p0⟩, ⟨S1024x256, p1⟩, ⟨S1024x512, p2⟩, ⟨S1024x768, p3⟩, ⟨S1024x1280, p4⟩]
      concatenates_S1024x768_S1024x256_S1024x512_S1024x768_S1024x1280_S1024x3584_d1 (ix2 k j) 2 (by decide : 2 < 5) S1024x512 p2 rfl rfl 1024 rfl
      (ix2 k ⟨j.val - 1024, by omega⟩) (fun a ha => match a with | ⟨0, _⟩ => rfl | ⟨1, _⟩ => absurd rfl ha) (by show 1024 + (j.val - 1024) = j.val; omega)
  · exact concatenate_apply_piece (t := S1024x3584) 1 [⟨S1024x768, p0⟩, ⟨S1024x256, p1⟩, ⟨S1024x512, p2⟩, ⟨S1024x768, p3⟩, ⟨S1024x1280, p4⟩]
      concatenates_S1024x768_S1024x256_S1024x512_S1024x768_S1024x1280_S1024x3584_d1 (ix2 k j) 3 (by decide : 3 < 5) S1024x768 p3 rfl rfl 1536 rfl
      (ix2 k ⟨j.val - 1536, by omega⟩) (fun a ha => match a with | ⟨0, _⟩ => rfl | ⟨1, _⟩ => absurd rfl ha) (by show 1536 + (j.val - 1536) = j.val; omega)
  · exact concatenate_apply_piece (t := S1024x3584) 1 [⟨S1024x768, p0⟩, ⟨S1024x256, p1⟩, ⟨S1024x512, p2⟩, ⟨S1024x768, p3⟩, ⟨S1024x1280, p4⟩]
      concatenates_S1024x768_S1024x256_S1024x512_S1024x768_S1024x1280_S1024x3584_d1 (ix2 k j) 4 (by decide : 4 < 5) S1024x1280 p4 rfl rfl 2304 rfl
      (ix2 k ⟨j.val - 2304, by omega⟩) (fun a ha => match a with | ⟨0, _⟩ => rfl | ⟨1, _⟩ => absurd rfl ha) (by show 2304 + (j.val - 2304) = j.val; omega)

/-- The kernel's weights at a column, as the layer's. -/
theorem matrix_apply (k : Fin 1024) (j : Fin 3584) : (V m c main_v6 : Vec Ideal S1024x3584 .bf16) (ix2 k j) = matrix m c (ix2 k (column j)) := by
  refine (congrFun (matrix_array m c) (ix2 k j)).trans ((five_apply _ _ _ _ _ k j).trans ?_)
  have hj := j.isLt
  unfold column
  split_ifs with h0 h1 h2 h3 <;> try omega
  · refine (congrFun (cut_0 m c) _).trans ((piece_apply (matrix m c) 0 _ k _ (by show 0 + j.val < 3592; omega)).trans ?_)
    exact congrArg (fun q => matrix m c (ix2 k q)) (Fin.ext (by show 0 + j.val = j.val; omega))
  · refine (congrFun (cut_1 m c) _).trans ((piece_apply (matrix m c) 768 _ k _ (by show 768 + (j.val - 768) < 3592; omega)).trans ?_)
    exact congrArg (fun q => matrix m c (ix2 k q)) (Fin.ext (by show 768 + (j.val - 768) = j.val; omega))
  · refine (congrFun (cut_2 m c) _).trans ((piece_apply (matrix m c) 1024 _ k _ (by show 1024 + (j.val - 1024) < 3592; omega)).trans ?_)
    exact congrArg (fun q => matrix m c (ix2 k q)) (Fin.ext (by show 1024 + (j.val - 1024) = j.val; omega))
  · refine (congrFun (cut_3 m c) _).trans ((piece_apply (matrix m c) 1544 _ k _ (by show 1544 + (j.val - 1536) < 3592; omega)).trans ?_)
    exact congrArg (fun q => matrix m c (ix2 k q)) (Fin.ext (by show 1544 + (j.val - 1536) = j.val + 8; omega))
  · refine (congrFun (cut_4 m c) _).trans ((piece_apply (matrix m c) 2312 _ k _ (by show 2312 + (j.val - 2304) < 3592; omega)).trans ?_)
    exact congrArg (fun q => matrix m c (ix2 k q)) (Fin.ext (by show 2312 + (j.val - 2304) = j.val + 8; omega))

theorem steps_block (t : Fin cfg0.N) (h : Fin 8) (k : Fin 1024) :
    (iblk m c 5 t : Vec Ideal S8x1024 .bf16) (ix2 h k) = matrix m c (ix2 k ⟨1536 + h.val, by omega⟩) := by
  obtain ⟨_, _, _, _, _, ⟨i0, i1⟩, _⟩ := block_numbers t
  unfold iblk
  rw [View.read_apply]
  refine Eq.trans ?_ ((transpose_apply [1, 0] (extractStridedSlice S1024x8 ![0, 1536] (matrix m c) slices_S1024x3592_S1024x8_0_1536) transposes_S1024x8_S8x1024_1_0 (ix2 h k) (ix2 k h) (fun a => match a with
    | ⟨0, _⟩ => rfl
    | ⟨1, _⟩ => rfl)).trans (piece_apply (matrix m c) 1536 _ k h (by omega)))
  refine Eq.trans ?_ (congrFun (steps_array m c) (ix2 h k))
  show V m c main_v9 _ = V m c main_v9 _
  congr 1
  funext a
  apply Fin.ext
  match a with
  | ⟨0, _⟩ => show win0_5.index t 0 * 8 + 1 * h.val = h.val; rw [i0]; omega
  | ⟨1, _⟩ => show win0_5.index t 1 * 1024 + 1 * k.val = k.val; rw [i1]; omega

theorem matrix_block (t : Fin cfg0.N) (k : Fin 1024) (j : Fin 3584) :
    (iblk m c 4 t : Vec Ideal S1024x3584 .bf16) (ix2 k j) = matrix m c (ix2 k (column j)) := by
  obtain ⟨_, _, _, _, ⟨i0, i1⟩, _⟩ := block_numbers t
  unfold iblk
  rw [View.read_apply]
  refine Eq.trans ?_ (matrix_apply m c k j)
  show V m c main_v6 _ = V m c main_v6 _
  congr 1
  funext a
  apply Fin.ext
  match a with
  | ⟨0, _⟩ => show win0_4.index t 0 * 1024 + 1 * k.val = k.val; rw [i0]; omega
  | ⟨1, _⟩ => show win0_4.index t 1 * 3584 + 1 * j.val = j.val; rw [i1]; omega

theorem taps_block (t : Fin cfg0.N) (a : Fin 3) (n : Fin 768) :
    (iblk m c 6 t : Vec Ideal S3x768 .f32) (ix2 a n) = taps m c (ix2 a n) := by
  obtain ⟨_, _, _, _, _, _, ⟨i0, i1⟩⟩ := block_numbers t
  unfold iblk
  rw [View.read_apply]
  show V m c main_arg3 _ = _
  rw [V_main_arg3]
  show m _ _ = m _ _
  congr 1
  funext b
  apply Fin.ext
  match b with
  | ⟨0, _⟩ => show win0_6.index t 0 * 3 + 1 * a.val = a.val; rw [i0]; omega
  | ⟨1, _⟩ => show win0_6.index t 1 * 768 + 1 * n.val = n.val; rw [i1]; omega

end Cert.Kernel3Ideal.InProj

end
-- ==== Proof.InProj.Result.lean ====
/- The input projection's seven results at one element. Each grid point writes back its tile of every result, so an
   element is what the point holding its token computed (`at_point_…`); the convolution's halo rows are the neighbouring
   tokens' rows, and zero where a tile begins or ends a sequence (`projected_eq`). -/
module

public import proofs.«01_k».proof.Proof.InProj.Blocks
public import proofs.«01_k».proof.Proof.Gen.Kernel3Ideal.Value

@[expose] public section

noncomputable section

namespace Cert.Kernel3Ideal.InProj

open Cert.Kernel3Ideal Cert.Kernel3Ideal.Gen Cert.Rows Cert.InProj
open Idealize.ShloMosaic Idealize.ShloMosaic.TcCoe Idealize.SL.Sem Idealize.ShloMosaic.ValueIdx
open scoped BigOperators

variable (m : (ℓ : Loc nD τ sig) → Buf (Elt Ideal) ℓ) (c : Dev nD) (t : Fin cfg0.N)

/-- The weight's row as the block holds it. -/
theorem gain_eq : gain (iblk m c 3 t : Vec Ideal S1x1024 .f32) = fun d => weight m c (ix1 d) := funext fun d => weight_block m c t d

/-- A row of the tile, multiplied out. -/
theorem plain_eq (r : Fin 1024) (j : Fin 3584) :
    plain (iblk m c 0 t : Vec Ideal S1024x1024 .f32) (iblk m c 3 t : Vec Ideal S1x1024 .f32) (iblk m c 4 t : Vec Ideal S1024x3584 .bf16) r j
      = projection (tokens m c) (weight m c) (matrix m c) (1024 * t.val + r.val) (column j) := by
  unfold plain projection
  rw [gain_eq]
  have e : (fun d => (iblk m c 0 t : Vec Ideal S1024x1024 .f32) (ix2 r d)) = token (tokens m c) (1024 * t.val + r.val) := funext fun d => tile_block m c t r d
  rw [e]
  exact Finset.sum_congr rfl fun k _ => congrArg _ (matrix_block m c t k j)

/-- The same row into a step size's column. -/
theorem steps_eq (b h : Fin 8) (j : Fin 128) :
    steps (iblk m c 0 t : Vec Ideal S1024x1024 .f32) (iblk m c 3 t : Vec Ideal S1x1024 .f32) (iblk m c 5 t : Vec Ideal S8x1024 .bf16) b h j
      = projection (tokens m c) (weight m c) (matrix m c) (1024 * t.val + (128 * b.val + j.val)) ⟨1536 + h.val, by omega⟩ := by
  unfold steps projection
  rw [gain_eq]
  have e : (fun d => (iblk m c 0 t : Vec Ideal S1024x1024 .f32) (ix2 ⟨128 * b.val + j.val, by omega⟩ d)) = token (tokens m c) (1024 * t.val + (128 * b.val + j.val)) :=
    funext fun d => tile_block m c t ⟨128 * b.val + j.val, by omega⟩ d
  rw [e]
  exact Finset.sum_congr rfl fun k _ => (mul_comm _ _).trans (congrArg _ (steps_block m c t h k))

/-- The product row `e` under the convolution: the tile's rows are rows 1 to 1024. -/
theorem projected_eq (e : ℕ) (n : Fin 768) :
    projected (grid0.coords t) (iblk m c 0 t : Vec Ideal S1024x1024 .f32) (iblk m c 1 t : Vec Ideal S16x1024 .f32) (iblk m c 2 t : Vec Ideal S16x1024 .f32)
        (iblk m c 3 t : Vec Ideal S1x1024 .f32) (iblk m c 4 t : Vec Ideal S1024x3584 .bf16) e n
      = if e = 0 ∧ t.val % 2 = 0 ∨ 1024 < e ∧ t.val % 2 = 1 then 0
        else projection (tokens m c) (weight m c) (matrix m c) (1024 * t.val + min e 1025 - 1) ⟨n.val, by omega⟩ := by
  have ht := point_lt t
  have hw (k : Fin 1024) : (iblk m c 4 t : Vec Ideal S1024x3584 .bf16) (ix2 k ⟨0 + n.val, by omega⟩) = matrix m c (ix2 k ⟨n.val, by omega⟩) := by
    refine (matrix_block m c t k _).trans (congrArg (fun q => matrix m c (ix2 k q)) ?_)
    unfold column
    rw [if_pos (by show 0 + n.val < 1536; omega)]
    exact Fin.ext (Nat.zero_add _)
  have hrow (z : Prop) [Decidable z] (f : Fin 1024 → EReal) (T : ℕ)
      (h : ∀ k, row (grid0.coords t) (iblk m c 0 t : Vec Ideal S1024x1024 .f32) (iblk m c 1 t : Vec Ideal S16x1024 .f32) (iblk m c 2 t : Vec Ideal S16x1024 .f32)
        (iblk m c 3 t : Vec Ideal S1x1024 .f32) e k = if z then 0 else rms f (gain (iblk m c 3 t : Vec Ideal S1x1024 .f32)) k)
      (hf : ¬z → f = token (tokens m c) T) :
      projected (grid0.coords t) (iblk m c 0 t : Vec Ideal S1024x1024 .f32) (iblk m c 1 t : Vec Ideal S16x1024 .f32) (iblk m c 2 t : Vec Ideal S16x1024 .f32)
        (iblk m c 3 t : Vec Ideal S1x1024 .f32) (iblk m c 4 t : Vec Ideal S1024x3584 .bf16) e n
      = if z then 0 else projection (tokens m c) (weight m c) (matrix m c) T ⟨n.val, by omega⟩ := by
    unfold projected projection
    simp only [h, hw]
    split_ifs with hz
    · exact Finset.sum_eq_zero fun k _ => zero_mul _
    · rw [hf hz, gain_eq]
  obtain ⟨h0, h1⟩ := half_eq t
  by_cases e0 : e = 0
  · subst e0
    refine (hrow (t.val % 2 = 0) _ (1024 * t.val - 1) (fun k => ?_) (fun hz => funext fun d => above_block m c t (by omega) d)).trans ?_
    · unfold row above
      rw [if_pos rfl, h0]
      by_cases hp : t.val % 2 = 0
      · rw [if_pos hp, if_pos hp, if_pos rfl]
      · rw [if_neg hp, if_neg hp, if_neg (by decide)]
    · exact if_congr (by omega) rfl (congrArg (fun T => projection _ _ _ T _) (by omega))
  · by_cases e1 : e - 1 < 1024
    · refine (hrow False _ (1024 * t.val + (e - 1)) (fun k => ?_) (fun _ => funext fun d => tile_block m c t ⟨e - 1, e1⟩ d)).trans ?_
      · unfold row
        rw [if_neg e0, dif_pos e1, if_neg id]
      · rw [if_neg id, if_neg (by omega)]
        exact congrArg (fun T => projection _ _ _ T _) (by omega)
    · refine (hrow (t.val % 2 = 1) _ (1024 * t.val + 1024) (fun k => ?_) (fun hz => funext fun d => below_block m c t (by omega) d)).trans ?_
      · unfold row below
        rw [if_neg e0, dif_neg e1, h1]
        by_cases hp : t.val % 2 = 1
        · rw [if_pos hp, if_pos hp, if_pos rfl]
        · rw [if_neg hp, if_neg hp, if_neg (by decide)]
      · exact if_congr (by omega) rfl (congrArg (fun T => projection _ _ _ T _) (by omega))

/-- The convolution at a row of the tile. -/
theorem mixed_eq (r : Fin 1024) (n : Fin 768) :
    mixed (grid0.coords t) (iblk m c 0 t : Vec Ideal S1024x1024 .f32) (iblk m c 1 t : Vec Ideal S16x1024 .f32) (iblk m c 2 t : Vec Ideal S16x1024 .f32)
        (iblk m c 3 t : Vec Ideal S1x1024 .f32) (iblk m c 4 t : Vec Ideal S1024x3584 .bf16) (iblk m c 6 t : Vec Ideal S3x768 .f32) r n
      = convolution (tokens m c) (weight m c) (matrix m c) (taps m c) (1024 * t.val + r.val) n := by
  have hr := r.isLt
  unfold mixed convolution before after
  rw [projected_eq, projected_eq, projected_eq, taps_block, taps_block, taps_block]
  refine congrArg₂ (· + ·) (congrArg₂ (· + ·) (congrArg (· * _) ?_) (congrArg (· * _) ?_)) (congrArg (· * _) ?_)
  · exact if_congr (by omega) rfl (congrArg (fun T => projection _ _ _ T _) (by omega))
  · rw [if_neg (by omega)]
    exact congrArg (fun T => projection _ _ _ T _) (by omega)
  · exact if_congr (by omega) rfl (congrArg (fun T => projection _ _ _ T _) (by omega))

/-! ## Where an element of a result was written -/

/-- Every output block is its point's own, and is written back. -/
theorem out_numbers : ∀ t : Fin cfg0.N,
    (win0_7.index t (0 : Fin 2) = t.val ∧ win0_7.index t (1 : Fin 2) = 0 ∧ (cfg0.win 7).flush t = true)
    ∧ (win0_8.index t (0 : Fin 2) = t.val ∧ win0_8.index t (1 : Fin 2) = 0 ∧ (cfg0.win 8).flush t = true)
    ∧ (win0_9.index t (0 : Fin 2) = t.val ∧ win0_9.index t (1 : Fin 2) = 0 ∧ (cfg0.win 9).flush t = true)
    ∧ (win0_10.index t (0 : Fin 2) = t.val ∧ win0_10.index t (1 : Fin 2) = 0 ∧ (cfg0.win 10).flush t = true)
    ∧ (win0_11.index t (0 : Fin 2) = t.val ∧ win0_11.index t (1 : Fin 2) = 0 ∧ (cfg0.win 11).flush t = true)
    ∧ (win0_12.index t (0 : Fin 2) = t.val ∧ win0_12.index t (1 : Fin 2) = 0 ∧ (cfg0.win 12).flush t = true)
    ∧ (win0_13.index t (0 : Fin 3) = t.val ∧ win0_13.index t (1 : Fin 3) = 0 ∧ win0_13.index t (2 : Fin 3) = 0 ∧ (cfg0.win 13).flush t = true) :=
  (by decide +kernel : ∀ t : Fin grid0.N, _)

/-- The point that holds token `T`. -/
def point (T : Fin 65536) : Fin cfg0.N := ⟨T.val / 1024, lt_of_lt_of_eq (by omega : T.val / 1024 < 64) N_0.symm⟩

/-- The row of its tile. -/
def place (T : Fin 65536) : Fin 1024 := ⟨T.val % 1024, by omega⟩

theorem token_eq (T : Fin 65536) : 1024 * (point T).val + (place T).val = T.val := by
  show 1024 * (T.val / 1024) + T.val % 1024 = T.val
  omega

theorem position_eq (T : Fin 65536) {q : ℕ} (h : q = (point T).val) : q * 1024 + 1 * (place T).val = T.val := by
  have := token_eq T
  rw [h]
  omega

/-- The gated sequence, -/
theorem gated_result (T : Fin 65536) (n : Fin 256) :
    ((dats m 0 c).arrAt 7 cfg0.N : Vec Ideal S65536x256 .bf16) (ix2 T n)
      = convolution (tokens m c) (weight m c) (matrix m c) (taps m c) T.val ⟨512 + n.val, by omega⟩
        * convolution (tokens m c) (weight m c) (matrix m c) (taps m c) T.val ⟨256 + n.val, by omega⟩ := by
  obtain ⟨⟨i0, i1, hf⟩, _⟩ := out_numbers (point T)
  have h := congrFun ((Value.blocks7 m c (point T) hf).trans (Value.flushed7 m c (point T))) (ix2 (place T) n)
  rw [View.read_apply] at h
  have e : ((cfg0.win 7).blk (point T)).view.emb (ix2 (place T) n) = ix2 T n := by
    funext a
    apply Fin.ext
    match a with
    | ⟨0, _⟩ => exact position_eq T i0
    | ⟨1, _⟩ => show win0_7.index (point T) 1 * 256 + 1 * n.val = n.val; rw [i1]; omega
  rw [e] at h
  refine h.trans ((gated_apply (grid0.coords (point T)) _ _ _ _ _ _ _ (place T) n).trans ?_)
  rw [mixed_eq, mixed_eq, token_eq]

/-- its last gate, -/
theorem gate_result (T : Fin 65536) (n : Fin 256) :
    ((dats m 0 c).arrAt 8 cfg0.N : Vec Ideal S65536x256 .bf16) (ix2 T n)
      = convolution (tokens m c) (weight m c) (matrix m c) (taps m c) T.val ⟨n.val, by omega⟩ := by
  obtain ⟨_, ⟨i0, i1, hf⟩, _⟩ := out_numbers (point T)
  have h := congrFun ((Value.blocks8 m c (point T) hf).trans (Value.flushed8 m c (point T))) (ix2 (place T) n)
  rw [View.read_apply] at h
  have e : ((cfg0.win 8).blk (point T)).view.emb (ix2 (place T) n) = ix2 T n := by
    funext a
    apply Fin.ext
    match a with
    | ⟨0, _⟩ => exact position_eq T i0
    | ⟨1, _⟩ => show win0_8.index (point T) 1 * 256 + 1 * n.val = n.val; rw [i1]; omega
  rw [e] at h
  refine h.trans ((gate_apply (grid0.coords (point T)) _ _ _ _ _ _ _ (place T) n).trans ?_)
  rw [mixed_eq, token_eq]

/-- and the plain column ranges. -/
theorem mz_result (T : Fin 65536) (n : Fin 256) :
    ((dats m 0 c).arrAt 9 cfg0.N : Vec Ideal S65536x256 .bf16) (ix2 T n)
      = projection (tokens m c) (weight m c) (matrix m c) T.val ⟨768 + n.val, by omega⟩ := by
  obtain ⟨_, _, ⟨i0, i1, hf⟩, _⟩ := out_numbers (point T)
  have h := congrFun ((Value.blocks9 m c (point T) hf).trans (Value.flushed9 m c (point T))) (ix2 (place T) n)
  rw [View.read_apply] at h
  have e : ((cfg0.win 9).blk (point T)).view.emb (ix2 (place T) n) = ix2 T n := by
    funext a
    apply Fin.ext
    match a with
    | ⟨0, _⟩ => exact position_eq T i0
    | ⟨1, _⟩ => show win0_9.index (point T) 1 * 256 + 1 * n.val = n.val; rw [i1]; omega
  rw [e] at h
  refine h.trans ((mz_apply (grid0.coords (point T)) _ _ _ _ _ _ _ (place T) n).trans ?_)
  rw [plain_eq, token_eq]
  refine congrArg (projection _ _ _ _) ?_
  unfold column
  rw [if_pos (by show 768 + n.val < 1536; omega)]

theorem mx_result (T : Fin 65536) (n : Fin 512) :
    ((dats m 0 c).arrAt 10 cfg0.N : Vec Ideal S65536x512 .bf16) (ix2 T n)
      = projection (tokens m c) (weight m c) (matrix m c) T.val ⟨1024 + n.val, by omega⟩ := by
  obtain ⟨_, _, _, ⟨i0, i1, hf⟩, _⟩ := out_numbers (point T)
  have h := congrFun ((Value.blocks10 m c (point T) hf).trans (Value.flushed10 m c (point T))) (ix2 (place T) n)
  rw [View.read_apply] at h
  have e : ((cfg0.win 10).blk (point T)).view.emb (ix2 (place T) n) = ix2 T n := by
    funext a
    apply Fin.ext
    match a with
    | ⟨0, _⟩ => exact position_eq T i0
    | ⟨1, _⟩ => show win0_10.index (point T) 1 * 512 + 1 * n.val = n.val; rw [i1]; omega
  rw [e] at h
  refine h.trans ((mx_apply (grid0.coords (point T)) _ _ _ _ _ _ _ (place T) n).trans ?_)
  rw [plain_eq, token_eq]
  refine congrArg (projection _ _ _ _) ?_
  unfold column
  rw [if_pos (by show 1024 + n.val < 1536; omega)]

theorem at_result (T : Fin 65536) (n : Fin 768) :
    ((dats m 0 c).arrAt 11 cfg0.N : Vec Ideal S65536x768 .bf16) (ix2 T n)
      = projection (tokens m c) (weight m c) (matrix m c) T.val ⟨1544 + n.val, by omega⟩ := by
  obtain ⟨_, _, _, _, ⟨i0, i1, hf⟩, _⟩ := out_numbers (point T)
  have h := congrFun ((Value.blocks11 m c (point T) hf).trans (Value.flushed11 m c (point T))) (ix2 (place T) n)
  rw [View.read_apply] at h
  have e : ((cfg0.win 11).blk (point T)).view.emb (ix2 (place T) n) = ix2 T n := by
    funext a
    apply Fin.ext
    match a with
    | ⟨0, _⟩ => exact position_eq T i0
    | ⟨1, _⟩ => show win0_11.index (point T) 1 * 768 + 1 * n.val = n.val; rw [i1]; omega
  rw [e] at h
  refine h.trans ((at_apply (grid0.coords (point T)) _ _ _ _ _ _ _ (place T) n).trans ?_)
  rw [plain_eq, token_eq]
  refine congrArg (projection _ _ _ _) ?_
  unfold column
  rw [if_neg (by show ¬1536 + n.val < 1536; omega)]
  exact Fin.ext (by show 1536 + n.val + 8 = 1544 + n.val; omega)

theorem hg_result (T : Fin 65536) (n : Fin 1280) :
    ((dats m 0 c).arrAt 12 cfg0.N : Vec Ideal S65536x1280 .bf16) (ix2 T n)
      = projection (tokens m c) (weight m c) (matrix m c) T.val ⟨2312 + n.val, by omega⟩ := by
  obtain ⟨_, _, _, _, _, ⟨i0, i1, hf⟩, _⟩ := out_numbers (point T)
  have h := congrFun ((Value.blocks12 m c (point T) hf).trans (Value.flushed12 m c (point T))) (ix2 (place T) n)
  rw [View.read_apply] at h
  have e : ((cfg0.win 12).blk (point T)).view.emb (ix2 (place T) n) = ix2 T n := by
    funext a
    apply Fin.ext
    match a with
    | ⟨0, _⟩ => exact position_eq T i0
    | ⟨1, _⟩ => show win0_12.index (point T) 1 * 1280 + 1 * n.val = n.val; rw [i1]; omega
  rw [e] at h
  refine h.trans ((hg_apply (grid0.coords (point T)) _ _ _ _ _ _ _ (place T) n).trans ?_)
  rw [plain_eq, token_eq]
  refine congrArg (projection _ _ _ _) ?_
  unfold column
  rw [if_neg (by show ¬2304 + n.val < 1536; omega)]
  exact Fin.ext (by show 2304 + n.val + 8 = 2312 + n.val; omega)

/-- The step sizes, the rows along the lanes. -/
theorem dt_result (q : Fin 512) (h : Fin 8) (j : Fin 128) :
    ((dats m 0 c).arrAt 13 cfg0.N : Vec Ideal S512x8x128 .f32) (ix3 q h j)
      = projection (tokens m c) (weight m c) (matrix m c) (128 * q.val + j.val) ⟨1536 + h.val, by omega⟩ := by
  have hq : q.val / 8 < cfg0.N := lt_of_lt_of_eq (by omega : q.val / 8 < 64) N_0.symm
  obtain ⟨_, _, _, _, _, _, ⟨i0, i1, i2, hf⟩⟩ := out_numbers ⟨q.val / 8, hq⟩
  have hb := congrFun ((Value.blocks13 m c ⟨q.val / 8, hq⟩ hf).trans (Value.flushed13 m c ⟨q.val / 8, hq⟩)) (ix3 ⟨q.val % 8, by omega⟩ h j)
  rw [View.read_apply] at hb
  have e : ((cfg0.win 13).blk ⟨q.val / 8, hq⟩).view.emb (ix3 ⟨q.val % 8, by omega⟩ h j) = ix3 q h j := by
    funext a
    apply Fin.ext
    match a with
    | ⟨0, _⟩ => show win0_13.index ⟨q.val / 8, hq⟩ 0 * 8 + 1 * (q.val % 8) = q.val; rw [i0]; show q.val / 8 * 8 + 1 * (q.val % 8) = q.val; omega
    | ⟨1, _⟩ => show win0_13.index ⟨q.val / 8, hq⟩ 1 * 8 + 1 * h.val = h.val; rw [i1]; omega
    | ⟨2, _⟩ => show win0_13.index ⟨q.val / 8, hq⟩ 2 * 128 + 1 * j.val = j.val; rw [i2]; omega
  rw [e] at hb
  refine hb.trans ((dt_apply (grid0.coords ⟨q.val / 8, hq⟩) _ _ _ _ _ _ _ ⟨q.val % 8, by omega⟩ h j).trans ?_)
  rw [steps_eq]
  refine congrArg (fun T => projection _ _ _ T _) ?_
  show 1024 * (q.val / 8) + (128 * (q.val % 8) + j.val) = 128 * q.val + j.val
  omega

end Cert.Kernel3Ideal.InProj

end
-- ==== Proof.InProj.Reference.lean ====
/- The reference's seven results at one element: its normalisation, its one product with all the weights' columns, its
   three shifted products for the convolution, and the column ranges it cuts out and flattens. -/
module

public import proofs.«01_k».proof.Proof.InProj.Layer
public import proofs.«01_k».proof.Proof.Gen.Reference3Ideal.Read

@[expose] public section

noncomputable section

namespace Cert.Reference3Ideal.InProj

open Cert.Reference3Ideal Cert.Reference3Ideal.Gen Cert.Reference3Ideal.Read Cert.Rows Cert.InProj
open Idealize.ShloMosaic Idealize.ShloMosaic.TcCoe Idealize.SL.Sem Idealize.ShloMosaic.ValueIdx
open scoped BigOperators

variable (x : Vec Ideal S32x2048x1024 .f32) (g : Vec Ideal S1024 .f32) (w : Vec Ideal S1024x3592 .f32) (u : Vec Ideal S3x768 .f32)

/-- An index of three axes, by its coordinates' values. -/
theorem eq_of_vals {a b c : ℕ} (i : (⟨3, ![a, b, c]⟩ : Shape).Idx) (p : Fin a) (q : Fin b) (r : Fin c)
    (h0 : (i 0).val = p.val) (h1 : (i 1).val = q.val) (h2 : (i 2).val = r.val) : i = ix3 p q r := by
  funext e
  match e with
  | ⟨0, _⟩ => exact Fin.ext h0
  | ⟨1, _⟩ => exact Fin.ext h1
  | ⟨2, _⟩ => exact Fin.ext h2

/-- A token normalised. -/
theorem norm_apply (b : Fin 32) (s : Fin 2048) (k : Fin 1024) :
    val_main_v12 (F := Ideal) x g (ix3 b s k) = rms (fun d => x (ix3 b s d)) (fun d => g (ix1 d)) k := by
  rw [val_main_v12_apply, val_main_v9_apply, val_main_v8_apply, val_main_v7_apply, val_main_v6_apply, val_main_v4_apply, val_main_v2_apply,
    val_main_v1_apply, val_main_cst_apply, val_main_v3_apply, val_main_cst_0_apply, val_main_v5_apply, val_main_cst_1_apply,
    val_main_v11_apply, val_main_v10_apply]
  have zero : FloatOps.ofBits (F := Ideal) .f32 0x00000000#32 = 0 := Ideal.ofBits_zero_f32
  have hs : ∑ d : Fin 1024, val_main_v0 (F := Ideal) x (idx_main_v1 (idx_main_v2 (idx_main_v8 (ix3 b s k))) d) = ∑ d : Fin 1024, x (ix3 b s d) * x (ix3 b s d) := by
    refine Finset.sum_congr rfl fun d _ => ?_
    rw [val_main_v0_apply, eq_of_vals (idx_main_v1 (idx_main_v2 (idx_main_v8 (ix3 b s k))) d) b s d rfl rfl rfl]
    rfl
  rw [hs, zero, zero_add]
  have hg : idx_main_v10 (idx_main_v11 (ix3 b s k)) = ix1 k := by
    funext a
    match a with
    | ⟨0, _⟩ => rfl
  rw [hg]
  rfl

/-- The product at an index standing for token `T` and column `j`. -/
theorem product_at (i : S32x2048x3592.Idx) (T : ℕ) (j : Fin 3592) (hT : T < 65536) (h0 : (i 0).val = T / 2048) (h1 : (i 1).val = T % 2048) (h2 : (i 2).val = j.val) :
    val_main_v13 (F := Ideal) x g w i = projection x g w T j := by
  rw [val_main_v13_apply]
  unfold projection
  refine Finset.sum_congr rfl fun k _ => ?_
  rw [eq_of_vals (lidx_main_v13 i k) ⟨T / 2048 % 32, by omega⟩ ⟨T % 2048, by omega⟩ k (h0.trans (by show T / 2048 = T / 2048 % 32; omega)) h1 rfl, norm_apply]
  have hr : ridx_main_v13 i k = ix2 k j := by
    funext a
    apply Fin.ext
    match a with
    | ⟨0, _⟩ => rfl
    | ⟨1, _⟩ => exact h2
  rw [hr]
  rfl

/-- The columns under the convolution, at a token. -/
theorem columns_at (i : S32x2048x768.Idx) (T : ℕ) (n : Fin 768) (hT : T < 65536) (h0 : (i 0).val = T / 2048) (h1 : (i 1).val = T % 2048) (h2 : (i 2).val = n.val) :
    val_main_v14 (F := Ideal) x g w i = projection x g w T ⟨n.val, by omega⟩ := by
  rw [val_main_v14_apply]
  exact product_at x g w _ T _ hT h0 h1 h2

theorem edge_apply (i : S32x1x768.Idx) : val_main_v15 (F := Ideal) i = 0 := by
  rw [val_main_v15_apply, val_main_cst_2_apply]
  exact Ideal.ofBits_zero_f32

/-- The sequence moved down by one token. -/
theorem before_apply (T : ℕ) (n : Fin 768) (hT : T < 65536) :
    val_main_v17 (F := Ideal) x g w (ix3 ⟨T / 2048, by omega⟩ ⟨T % 2048, by omega⟩ n) = before x g w T ⟨n.val, by omega⟩ := by
  unfold val_main_v17 before
  split_ifs with h
  · refine (concatenate_pair_apply_left (t := S32x2048x768) 1 (val_main_v15 (F := Ideal)) (val_main_v16 (F := Ideal) x g w)
      concatenates_S32x1x768_S32x2047x768_S32x2048x768_d1 _ rfl (ix3 ⟨T / 2048, by omega⟩ 0 n) (fun a => match a with
        | ⟨0, _⟩ => rfl
        | ⟨1, _⟩ => by show 0 = T % 2048; omega
        | ⟨2, _⟩ => rfl)).trans (edge_apply _)
  · refine (concatenate_pair_apply_right (t := S32x2048x768) 1 (val_main_v15 (F := Ideal)) (val_main_v16 (F := Ideal) x g w)
      concatenates_S32x1x768_S32x2047x768_S32x2048x768_d1 _ rfl rfl (ix3 ⟨T / 2048, by omega⟩ ⟨T % 2048 - 1, by omega⟩ n) (fun a ha => match a with
        | ⟨0, _⟩ => rfl
        | ⟨1, _⟩ => absurd rfl ha
        | ⟨2, _⟩ => rfl) (by show T % 2048 - 1 + 1 = T % 2048; omega)).trans ?_
    rw [val_main_v16_apply]
    exact columns_at x g w _ (T - 1) n (by omega) (by show T / 2048 = (T - 1) / 2048; omega) (by show T % 2048 - 1 = (T - 1) % 2048; omega) rfl

/-- The sequence moved up by one token. -/
theorem after_apply (T : ℕ) (n : Fin 768) (hT : T < 65536) :
    val_main_v19 (F := Ideal) x g w (ix3 ⟨T / 2048, by omega⟩ ⟨T % 2048, by omega⟩ n) = after x g w T ⟨n.val, by omega⟩ := by
  unfold val_main_v19 after
  split_ifs with h
  · refine (concatenate_pair_apply_right (t := S32x2048x768) 1 (val_main_v18 (F := Ideal) x g w) (val_main_v15 (F := Ideal))
      concatenates_S32x2047x768_S32x1x768_S32x2048x768_d1 _ rfl rfl (ix3 ⟨T / 2048, by omega⟩ 0 n) (fun a ha => match a with
        | ⟨0, _⟩ => rfl
        | ⟨1, _⟩ => absurd rfl ha
        | ⟨2, _⟩ => rfl) (by show 0 + 2047 = T % 2048; omega)).trans (edge_apply _)
  · refine (concatenate_pair_apply_left (t := S32x2048x768) 1 (val_main_v18 (F := Ideal) x g w) (val_main_v15 (F := Ideal))
      concatenates_S32x2047x768_S32x1x768_S32x2048x768_d1 _ rfl (ix3 ⟨T / 2048, by omega⟩ ⟨T % 2048, by omega⟩ n) (fun a => match a with
        | ⟨0, _⟩ => rfl
        | ⟨1, _⟩ => rfl
        | ⟨2, _⟩ => rfl)).trans ?_
    rw [val_main_v18_apply]
    exact columns_at x g w _ (T + 1) n (by omega) (by show T / 2048 = (T + 1) / 2048; omega) (by show 1 + T % 2048 = (T + 1) % 2048; omega) rfl

/-- The three taps, spread over the tokens. -/
theorem taps_apply (b : Fin 32) (s : Fin 2048) (n : Fin 768) :
    val_main_v23 (F := Ideal) u (ix3 b s n) = u (ix2 0 n) ∧ val_main_v28 (F := Ideal) u (ix3 b s n) = u (ix2 1 n) ∧ val_main_v34 (F := Ideal) u (ix3 b s n) = u (ix2 2 n) := by
  refine ⟨?_, ?_, ?_⟩
  · rw [val_main_v23_apply, val_main_v22_apply, val_main_v21_apply, val_main_v20_apply]
    refine congrArg u (funext fun a => Fin.ext ?_)
    match a with
    | ⟨0, _⟩ => rfl
    | ⟨1, _⟩ => exact Nat.mod_eq_of_lt n.isLt
  · rw [val_main_v28_apply, val_main_v27_apply, val_main_v26_apply, val_main_v25_apply]
    refine congrArg u (funext fun a => Fin.ext ?_)
    match a with
    | ⟨0, _⟩ => rfl
    | ⟨1, _⟩ => exact Nat.mod_eq_of_lt n.isLt
  · rw [val_main_v34_apply, val_main_v33_apply, val_main_v32_apply, val_main_v31_apply]
    refine congrArg u (funext fun a => Fin.ext ?_)
    match a with
    | ⟨0, _⟩ => rfl
    | ⟨1, _⟩ => exact Nat.mod_eq_of_lt n.isLt

/-- The convolution at an index standing for token `T` and channel `n`. -/
theorem convolution_at (i : S32x2048x768.Idx) (T : ℕ) (n : Fin 768) (hT : T < 65536) (h0 : (i 0).val = T / 2048) (h1 : (i 1).val = T % 2048) (h2 : (i 2).val = n.val) :
    val_main_v36 (F := Ideal) x g w u i = convolution x g w u T n := by
  rw [eq_of_vals i ⟨T / 2048, by omega⟩ ⟨T % 2048, by omega⟩ n h0 h1 h2]
  obtain ⟨t0, t1, t2⟩ := taps_apply u ⟨T / 2048, by omega⟩ ⟨T % 2048, by omega⟩ n
  rw [val_main_v36_apply, val_main_v30_apply, val_main_v24_apply, val_main_v29_apply, val_main_v35_apply, before_apply x g w T n hT, after_apply x g w T n hT,
    columns_at x g w _ T n hT rfl rfl rfl, t0, t1, t2]
  rfl

/-! ## The results -/

theorem gated_apply (T : Fin 65536) (n : Fin 256) :
    val_main_v45 (F := Ideal) x g w u (ix2 T n) = convolution x g w u T.val ⟨512 + n.val, by omega⟩ * convolution x g w u T.val ⟨256 + n.val, by omega⟩ := by
  rw [val_main_v45_apply, val_main_v44_apply, val_main_v43_apply, val_main_v39_apply, val_main_v38_apply,
    convolution_at x g w u (idx_main_v39 (idx_main_v45 (ix2 T n))) T.val ⟨512 + n.val, by omega⟩ T.isLt (by show (T.val * 256 + n.val) / 524288 = T.val / 2048; omega)
      (by show (T.val * 256 + n.val) / 256 % 2048 = T.val % 2048; omega) (by show 512 + (T.val * 256 + n.val) % 256 = 512 + n.val; omega),
    convolution_at x g w u (idx_main_v38 (idx_main_v45 (ix2 T n))) T.val ⟨256 + n.val, by omega⟩ T.isLt (by show (T.val * 256 + n.val) / 524288 = T.val / 2048; omega)
      (by show (T.val * 256 + n.val) / 256 % 2048 = T.val % 2048; omega) (by show 256 + (T.val * 256 + n.val) % 256 = 256 + n.val; omega)]
  rfl

theorem gate_apply (T : Fin 65536) (n : Fin 256) :
    val_main_v47 (F := Ideal) x g w u (ix2 T n) = convolution x g w u T.val ⟨n.val, by omega⟩ := by
  rw [val_main_v47_apply, val_main_v46_apply, val_main_v37_apply,
    convolution_at x g w u (idx_main_v37 (idx_main_v47 (ix2 T n))) T.val ⟨n.val, by omega⟩ T.isLt (by show (T.val * 256 + n.val) / 524288 = T.val / 2048; omega)
      (by show (T.val * 256 + n.val) / 256 % 2048 = T.val % 2048; omega) (by show (T.val * 256 + n.val) % 256 = n.val; omega)]
  rfl

theorem mz_apply (T : Fin 65536) (n : Fin 256) : val_main_v50 (F := Ideal) x g w (ix2 T n) = projection x g w T.val ⟨768 + n.val, by omega⟩ := by
  rw [val_main_v50_apply, val_main_v49_apply, val_main_v48_apply,
    product_at x g w (idx_main_v48 (idx_main_v50 (ix2 T n))) T.val ⟨768 + n.val, by omega⟩ T.isLt (by show (T.val * 256 + n.val) / 524288 = T.val / 2048; omega)
      (by show (T.val * 256 + n.val) / 256 % 2048 = T.val % 2048; omega) (by show 768 + (T.val * 256 + n.val) % 256 = 768 + n.val; omega)]
  rfl

theorem mx_apply (T : Fin 65536) (n : Fin 512) : val_main_v53 (F := Ideal) x g w (ix2 T n) = projection x g w T.val ⟨1024 + n.val, by omega⟩ := by
  rw [val_main_v53_apply, val_main_v52_apply, val_main_v51_apply,
    product_at x g w (idx_main_v51 (idx_main_v53 (ix2 T n))) T.val ⟨1024 + n.val, by omega⟩ T.isLt (by show (T.val * 512 + n.val) / 1048576 = T.val / 2048; omega)
      (by show (T.val * 512 + n.val) / 512 % 2048 = T.val % 2048; omega) (by show 1024 + (T.val * 512 + n.val) % 512 = 1024 + n.val; omega)]
  rfl

theorem at_apply (T : Fin 65536) (n : Fin 768) : val_main_v56 (F := Ideal) x g w (ix2 T n) = projection x g w T.val ⟨1544 + n.val, by omega⟩ := by
  rw [val_main_v56_apply, val_main_v55_apply, val_main_v54_apply,
    product_at x g w (idx_main_v54 (idx_main_v56 (ix2 T n))) T.val ⟨1544 + n.val, by omega⟩ T.isLt (by show (T.val * 768 + n.val) / 1572864 = T.val / 2048; omega)
      (by show (T.val * 768 + n.val) / 768 % 2048 = T.val % 2048; omega) (by show 1544 + (T.val * 768 + n.val) % 768 = 1544 + n.val; omega)]
  rfl

theorem hg_apply (T : Fin 65536) (n : Fin 1280) : val_main_v59 (F := Ideal) x g w (ix2 T n) = projection x g w T.val ⟨2312 + n.val, by omega⟩ := by
  rw [val_main_v59_apply, val_main_v58_apply, val_main_v57_apply,
    product_at x g w (idx_main_v57 (idx_main_v59 (ix2 T n))) T.val ⟨2312 + n.val, by omega⟩ T.isLt (by show (T.val * 1280 + n.val) / 2621440 = T.val / 2048; omega)
      (by show (T.val * 1280 + n.val) / 1280 % 2048 = T.val % 2048; omega) (by show 2312 + (T.val * 1280 + n.val) % 1280 = 2312 + n.val; omega)]
  rfl

theorem dt_apply (q : Fin 512) (h : Fin 8) (j : Fin 128) :
    val_main_v42 (F := Ideal) x g w (ix3 q h j) = projection x g w (128 * q.val + j.val) ⟨1536 + h.val, by omega⟩ := by
  rw [val_main_v42_apply, val_main_v41_apply, val_main_v40_apply]
  exact product_at x g w _ (128 * q.val + j.val) ⟨1536 + h.val, by omega⟩ (by omega)
    (by show ((q.val * 128 + j.val) * 8 + h.val) / 16384 = (128 * q.val + j.val) / 2048; omega)
    (by show ((q.val * 128 + j.val) * 8 + h.val) / 8 % 2048 = (128 * q.val + j.val) % 2048; omega)
    (by show 1536 + ((q.val * 128 + j.val) * 8 + h.val) % 8 = 1536 + h.val; omega)

end Cert.Reference3Ideal.InProj

end
-- ==== Proof.InProj.Equal.lean ====
/- The input projection's value claim: the kernel's seven result arrays are the reference's, element by element. -/
module

public import proofs.«01_k».proof.Defs
public import proofs.«01_k».proof.Proof.InProj.Result
public import proofs.«01_k».proof.Proof.InProj.Reference
public import proofs.«01_k».proof.Proof.Gen.Reference3Ideal.Run

@[expose] public section

noncomputable section

namespace Cert.Proof.InProj

open Idealize.ShloMosaic Idealize.ShloMosaic.TcCoe Idealize.SL.Sem Idealize.ShloMosaic.ValueIdx
open Cert.Kernel3Ideal Cert.Kernel3Ideal.InProj Cert.Reference3Ideal.Read

variable (m : (ℓ : Loc nD τ sig) → Buf (Elt Ideal) ℓ) (c : Dev nD)

/-- An array of two axes, element by element. -/
theorem ext2 {a b : ℕ} {α : Type} {p q : (⟨2, ![a, b]⟩ : Shape).Idx → α} (h : ∀ i j, p (ix2 i j) = q (ix2 i j)) : p = q := by
  funext y
  obtain ⟨i, j, rfl⟩ : ∃ (i : Fin a) (j : Fin b), y = ix2 i j := ⟨y 0, y 1, eq_ix2 y⟩
  exact h i j

theorem gated_eq : val_main_v45 (F := Ideal) (tokens m c) (weight m c) (matrix m c) (taps m c) = (Gen.dats m 0 c).arrAt 7 cfg0.N :=
  ext2 fun T n => (Reference3Ideal.InProj.gated_apply _ _ _ _ T n).trans (gated_result m c T n).symm

theorem gate_eq : val_main_v47 (F := Ideal) (tokens m c) (weight m c) (matrix m c) (taps m c) = (Gen.dats m 0 c).arrAt 8 cfg0.N :=
  ext2 fun T n => (Reference3Ideal.InProj.gate_apply _ _ _ _ T n).trans (gate_result m c T n).symm

theorem mz_eq : val_main_v50 (F := Ideal) (tokens m c) (weight m c) (matrix m c) = (Gen.dats m 0 c).arrAt 9 cfg0.N :=
  ext2 fun T n => (Reference3Ideal.InProj.mz_apply _ _ _ T n).trans (mz_result m c T n).symm

theorem mx_eq : val_main_v53 (F := Ideal) (tokens m c) (weight m c) (matrix m c) = (Gen.dats m 0 c).arrAt 10 cfg0.N :=
  ext2 fun T n => (Reference3Ideal.InProj.mx_apply _ _ _ T n).trans (mx_result m c T n).symm

theorem at_eq : val_main_v56 (F := Ideal) (tokens m c) (weight m c) (matrix m c) = (Gen.dats m 0 c).arrAt 11 cfg0.N :=
  ext2 fun T n => (Reference3Ideal.InProj.at_apply _ _ _ T n).trans (at_result m c T n).symm

theorem hg_eq : val_main_v59 (F := Ideal) (tokens m c) (weight m c) (matrix m c) = (Gen.dats m 0 c).arrAt 12 cfg0.N :=
  ext2 fun T n => (Reference3Ideal.InProj.hg_apply _ _ _ T n).trans (hg_result m c T n).symm

theorem dt_eq : val_main_v42 (F := Ideal) (tokens m c) (weight m c) (matrix m c) = (Gen.dats m 0 c).arrAt 13 cfg0.N := by
  funext y
  obtain ⟨q, h, j, rfl⟩ : ∃ (q : Fin 512) (h : Fin 8) (j : Fin 128), y = ix3 q h j := ⟨y 0, y 1, y 2, eq_ix3 y⟩
  exact (Reference3Ideal.InProj.dt_apply _ _ _ q h j).trans (dt_result m c q h j).symm

/-- The claim. -/
theorem algebraic : algebraic_Kernel3Ideal_Reference3Ideal := by
  intro m ρ m' ρ' _ hagree
  refine ⟨_, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨r0, r1, r2, r3, r4, r5, r6, ha⟩ := h c
  obtain ⟨a0, a1, a2, a3⟩ := hagree c
  refine ⟨r0.trans ((val_main_v45_eq m' c).trans ?_), r1.trans ((val_main_v47_eq m' c).trans ?_), r2.trans ((val_main_v50_eq _ _ _).trans ?_),
    r3.trans ((val_main_v53_eq _ _ _).trans ?_), r4.trans ((val_main_v56_eq _ _ _).trans ?_), r5.trans ((val_main_v59_eq _ _ _).trans ?_),
    r6.trans ((val_main_v42_eq _ _ _).trans ?_), ha⟩
  · rw [a0, a1, a2, a3]; exact gated_eq m c
  · rw [a0, a1, a2, a3]; exact gate_eq m c
  · rw [a0, a1, a2]; exact mz_eq m c
  · rw [a0, a1, a2]; exact mx_eq m c
  · rw [a0, a1, a2]; exact at_eq m c
  · rw [a0, a1, a2]; exact hg_eq m c
  · rw [a0, a1, a2]; exact dt_eq m c

end Cert.Proof.InProj

end
-- ==== Proof.OutProj.Layer.lean ====
/- The output projection's mathematics at one token, over the extended reals: the four mixers' outputs side by side
   (`mix`) multiplied into the output weights and added to the residual stream (`residual`), the norm (`normed`) and the
   router's logits (`logit`); and the two rearrangements a kernel makes of them. -/
module

public import proofs.«01_k».proof.Proof.OutProj.Finite

@[expose] public section

noncomputable section

namespace Cert.OutProj

open Cert.Rows
open Idealize.ShloMosaic Idealize.ShloMosaic.ValueIdx
open scoped BigOperators

variable (x : Vec Ideal ⟨2, ![65536, 1024]⟩ .f32) (ya yb yc yd : Vec Ideal ⟨2, ![65536, 256]⟩ .bf16)
  (w : Vec Ideal ⟨2, ![1024, 1024]⟩ .f32) (g : Vec Ideal ⟨1, ![1024]⟩ .f32) (u : Vec Ideal ⟨2, ![1024, 16]⟩ .f32)

/-- The mixers' outputs side by side, at feature `k` of token `T`. -/
def mix (T : Fin 65536) (k : Fin 1024) : EReal :=
  if h0 : k.val < 256 then ya (ix2 T ⟨k.val, h0⟩)
  else if h1 : k.val < 512 then yb (ix2 T ⟨k.val - 256, by omega⟩)
  else if h2 : k.val < 768 then yc (ix2 T ⟨k.val - 512, by omega⟩)
  else yd (ix2 T ⟨k.val - 768, by omega⟩)

def residual (T : Fin 65536) (n : Fin 1024) : EReal := x (ix2 T n) + ∑ k : Fin 1024, mix ya yb yc yd T k * w (ix2 k n)

def normed (T : Fin 65536) (k : Fin 1024) : EReal := rms (residual x ya yb yc yd w T) (fun d => g (ix1 d)) k

def logit (e : Fin 16) (T : Fin 65536) : EReal := ∑ k : Fin 1024, u (ix2 k e) * normed x ya yb yc yd w g T k

/-- A sum over 1024 terms is the sum of its four quarters. -/
theorem quarters (f : Fin 1024 → EReal) :
    ∑ k, f k = ∑ k : Fin 256, f ⟨k.val, by omega⟩ + ∑ k : Fin 256, f ⟨256 + k.val, by omega⟩ + ∑ k : Fin 256, f ⟨512 + k.val, by omega⟩
      + ∑ k : Fin 256, f ⟨768 + k.val, by omega⟩ := by
  refine (Fin.sum_univ_add (a := 768) (b := 256) f).trans (congrArg₂ (· + ·) ?_ rfl)
  refine (Fin.sum_univ_add (a := 512) (b := 256) fun k => f (Fin.castAdd 256 k)).trans (congrArg₂ (· + ·) ?_ rfl)
  exact Fin.sum_univ_add (a := 256) (b := 256) fun k => f (Fin.castAdd 256 (Fin.castAdd 256 k))

/-- The residual stream, one mixer after the other. -/
theorem residual_eq (T : Fin 65536) (n : Fin 1024) :
    residual x ya yb yc yd w T n = x (ix2 T n) + ∑ k : Fin 256, ya (ix2 T k) * w (ix2 ⟨k.val, by omega⟩ n) + ∑ k : Fin 256, yb (ix2 T k) * w (ix2 ⟨256 + k.val, by omega⟩ n)
      + ∑ k : Fin 256, yc (ix2 T k) * w (ix2 ⟨512 + k.val, by omega⟩ n) + ∑ k : Fin 256, yd (ix2 T k) * w (ix2 ⟨768 + k.val, by omega⟩ n) := by
  unfold residual
  rw [quarters, ← add_assoc, ← add_assoc, ← add_assoc]
  refine congrArg₂ (· + ·) (congrArg₂ (· + ·) (congrArg₂ (· + ·) (congrArg₂ (· + ·) rfl ?_) ?_) ?_) ?_ <;>
    refine Finset.sum_congr rfl fun k _ => congrArg (· * _) ?_ <;> unfold mix
  · rw [dif_pos (show k.val < 256 from k.isLt)]
  · rw [dif_neg (by show ¬(256 + k.val < 256); omega), dif_pos (show 256 + k.val < 512 by omega)]
    exact congrArg (fun q => yb (ix2 T q)) (Fin.ext (by show 256 + k.val - 256 = k.val; omega))
  · rw [dif_neg (by show ¬(512 + k.val < 256); omega), dif_neg (by show ¬(512 + k.val < 512); omega), dif_pos (show 512 + k.val < 768 by omega)]
    exact congrArg (fun q => yc (ix2 T q)) (Fin.ext (by show 512 + k.val - 512 = k.val; omega))
  · rw [dif_neg (by show ¬(768 + k.val < 256); omega), dif_neg (by show ¬(768 + k.val < 512); omega), dif_neg (by show ¬(768 + k.val < 768); omega)]
    exact congrArg (fun q => yd (ix2 T q)) (Fin.ext (by show 768 + k.val - 768 = k.val; omega))

/-- Real arguments. -/
structure AllFinite : Prop where
  stream : ∀ i, Finite (x i)
  first : ∀ i, Finite (ya i)
  second : ∀ i, Finite (yb i)
  third : ∀ i, Finite (yc i)
  fourth : ∀ i, Finite (yd i)
  weights : ∀ i, Finite (w i)
  gain : ∀ i, Finite (g i)
  router : ∀ i, Finite (u i)

variable {x ya yb yc yd w g u}

theorem mix_finite (h : AllFinite x ya yb yc yd w g u) (T : Fin 65536) (k : Fin 1024) : Finite (mix ya yb yc yd T k) := by
  unfold mix
  split_ifs
  · exact h.first _
  · exact h.second _
  · exact h.third _
  · exact h.fourth _

theorem normed_finite (h : AllFinite x ya yb yc yd w g u) (T : Fin 65536) (k : Fin 1024) : Finite (normed x ya yb yc yd w g T k) :=
  rms_finite (fun _ => (h.stream _).add (Finite.sum fun k => (mix_finite h T k).mul (h.weights _))) (fun _ => h.gain _) k

/-- The logits from a coarse part and a remainder of each factor: over the reals the remainders are zero. -/
theorem logit_eq (h : AllFinite x ya yb yc yd w g u) (e : Fin 16) (T : Fin 65536) :
    ∑ k : Fin 1024, u (ix2 k e) * normed x ya yb yc yd w g T k
      + ∑ k : Fin 1024, u (ix2 k e) * (normed x ya yb yc yd w g T k - normed x ya yb yc yd w g T k)
      + ∑ k : Fin 1024, (u (ix2 k e) - u (ix2 k e)) * normed x ya yb yc yd w g T k
      = logit x ya yb yc yd w g u e T := by
  rw [Finset.sum_eq_zero (f := fun k => u (ix2 k e) * (normed x ya yb yc yd w g T k - normed x ya yb yc yd w g T k)) fun k _ => by
      rw [(normed_finite h T k).sub_self, mul_zero],
    Finset.sum_eq_zero (f := fun k => (u (ix2 k e) - u (ix2 k e)) * normed x ya yb yc yd w g T k) fun k _ => by
      rw [(h.router (ix2 k e)).sub_self, zero_mul], add_zero, add_zero]
  rfl

end Cert.OutProj

end
-- ==== Proof.OutProj.Body.lean ====
/- The output projection's body read at one element, over the extended reals: what a grid point stores into its three
   output blocks, from its input blocks. -/
module

public import proofs.«01_k».proof.Proof.OutProj.Layer
public import proofs.«01_k».proof.Proof.Gen.Kernel4Ideal.Frame

@[expose] public section

noncomputable section

namespace Cert.Kernel4Ideal.OutProj

open Cert.Kernel4Ideal Cert.Kernel4Ideal.Gen Cert.Rows
open Idealize.ShloMosaic Idealize.ShloMosaic.TcCoe Idealize.SL.Sem Idealize.ShloMosaic.ValueIdx
open scoped BigOperators

variable (x0 : Vec Ideal S1024x1024 .f32) (x1 x2 x3 x4 : Vec Ideal S1024x256 .bf16) (x5 : Vec Ideal S4x256x1024 .bf16)
  (x6 : Vec Ideal S1x1024 .f32) (x7 x8 : Vec Ideal S16x1024 .bf16)

/-- One of the four slabs of the weights as a matrix, at an element. -/
theorem slab_apply (o : Fin 4) (inb : ∀ a, (![o.val, 0, 0] : Fin 3 → ℕ) a + S1x256x1024.size a ≤ S4x256x1024.size a) (k : Fin 256) (n : Fin 1024) :
    shapeCast (s := S1x256x1024) S256x1024 (View.ld x5 (Rect.unit (s := S4x256x1024) ![o.val, 0, 0] S1x256x1024.size inb)) shapeCasts_S1x256x1024_S256x1024 (ix2 k n)
      = x5 (ix3 o k n) := by
  refine (shapeCast_apply _ _ (ix2 k n) (ix3 0 k n) (by
    rewrite [Shape.rowMajor_val_three, Shape.rowMajor_val_two]
    show (0 * 256 + k.val) * 1024 + n.val = k.val * 1024 + n.val
    omega)).trans ?_
  show x5 _ = x5 _
  congr 1
  funext a
  apply Fin.ext
  match a with
  | ⟨0, _⟩ => show o.val + 1 * 0 = o.val; omega
  | ⟨1, _⟩ => show 0 + 1 * k.val = k.val; omega
  | ⟨2, _⟩ => show 0 + 1 * n.val = n.val; omega

/-- The residual stream's row: the input row and the four products, one added after the other. -/
def stream (r : Fin 1024) (n : Fin 1024) : EReal :=
  x0 (ix2 r n) + ∑ k : Fin 256, x1 (ix2 r k) * x5 (ix3 0 k n) + ∑ k : Fin 256, x2 (ix2 r k) * x5 (ix3 1 k n)
    + ∑ k : Fin 256, x3 (ix2 r k) * x5 (ix3 2 k n) + ∑ k : Fin 256, x4 (ix2 r k) * x5 (ix3 3 k n)

theorem pay6_apply (r n : Fin 1024) : k0_pay6 (F := Ideal) x0 x1 x2 x3 x4 x5 x6 x7 x8 (ix2 r n) = stream x0 x1 x2 x3 x4 x5 r n := by
  unfold k0_pay6 k0_pay4
  rw [View.ld_unit_zero (S := S1024x1024) zeros2, View.ld_unit_zero (S := S1024x256) zeros2, View.ld_unit_zero (S := S1024x256) zeros2,
    View.ld_unit_zero (S := S1024x256) zeros2, View.ld_unit_zero (S := S1024x256) zeros2]
  unfold stream
  refine congrArg₂ (· + ·) (congrArg₂ (· + ·) (congrArg₂ (· + ·) (congrArg₂ (· + ·) rfl ?_) ?_) ?_) ?_ <;>
    refine (product_apply (φ₁ := .bf16) (φ₂ := .bf16) _ _ r n).trans (Finset.sum_congr rfl fun k _ => congrArg (_ * ·) ?_)
  · exact slab_apply x5 0 _ k n
  · exact slab_apply x5 1 _ k n
  · exact slab_apply x5 2 _ k n
  · exact slab_apply x5 3 _ k n

theorem stream_apply (r n : Fin 1024) : out0_9 (F := Ideal) x0 x1 x2 x3 x4 x5 x6 x7 x8 (ix2 r n) = stream x0 x1 x2 x3 x4 x5 r n := by
  unfold out0_9
  rw [View.canon_unit_zero zeros2]
  exact pay6_apply x0 x1 x2 x3 x4 x5 x6 x7 x8 r n

/-- The normalised row. -/
def unit (r k : Fin 1024) : EReal := rms (stream x0 x1 x2 x3 x4 x5 r) (fun d => x6 (ix2 0 d)) k

theorem pay1_apply (r k : Fin 1024) :
    k0_pay1 (F := Ideal) (k0_pay6 x0 x1 x2 x3 x4 x5 x6 x7 x8) (k0_pay7 x0 x1 x2 x3 x4 x5 x6 x7 x8) (Scalar.ofBits .f32 0x358637BD#32) (View.ld x6 r0_6) (ix2 r k)
      = unit x0 x1 x2 x3 x4 x5 x6 r k := by
  have e : k0_pay7 (F := Ideal) x0 x1 x2 x3 x4 x5 x6 x7 x8
      = divf (shapeCast S1024x1 (multiReduction .add [1] S1024 (mulf (k0_pay6 x0 x1 x2 x3 x4 x5 x6 x7 x8) (k0_pay6 x0 x1 x2 x3 x4 x5 x6 x7 x8)) 0x00000000#32
          reduces_S1024x1024_S1024 (.inl rfl) rfl) shapeCasts_S1024_S1024x1) (broadcast S1024x1 (Scalar.ofBits .f32 0x44800000#32)) := rfl
  rw [e]
  unfold k0_pay1
  rw [View.ld_unit_zero (S := S1x1024) zeros2]
  simp only [shapeCast_self]
  refine (rms_rows (k0_pay6 x0 x1 x2 x3 x4 x5 x6 x7 x8) x6 _ _ _ _ _ _ r k).trans ?_
  unfold unit
  rw [funext fun j => pay6_apply x0 x1 x2 x3 x4 x5 x6 x7 x8 r j]

theorem unit_apply (r k : Fin 1024) : out0_10 (F := Ideal) x0 x1 x2 x3 x4 x5 x6 x7 x8 (ix2 r k) = unit x0 x1 x2 x3 x4 x5 x6 r k := by
  unfold out0_10 k0_pay2
  rw [View.canon_unit_zero zeros2, truncf_apply]
  exact pay1_apply x0 x1 x2 x3 x4 x5 x6 x7 x8 r k

/-- The logits' block: three products over the row's coarse part and its remainder. -/
theorem logits_apply (e : Fin 16) (r : Fin 1024) :
    out0_11 (F := Ideal) x0 x1 x2 x3 x4 x5 x6 x7 x8 (ix2 e r)
      = ∑ k : Fin 1024, x7 (ix2 e k) * unit x0 x1 x2 x3 x4 x5 x6 r k
        + ∑ k : Fin 1024, x7 (ix2 e k) * (unit x0 x1 x2 x3 x4 x5 x6 r k - unit x0 x1 x2 x3 x4 x5 x6 r k)
        + ∑ k : Fin 1024, x8 (ix2 e k) * unit x0 x1 x2 x3 x4 x5 x6 r k := by
  unfold out0_11 k0_pay3 k0_pay2
  rw [View.canon_unit_zero zeros2, View.ld_unit_zero (S := S16x1024) zeros2, View.ld_unit_zero (S := S16x1024) zeros2]
  simp only [shapeCast_self]
  refine congrArg₂ (· + ·) (congrArg₂ (· + ·) ?_ ?_) ?_ <;>
    refine (product_transposed_apply (φ₁ := .bf16) (φ₂ := .bf16) _ _ e r).trans (Finset.sum_congr rfl fun k _ => congrArg (_ * ·) ?_)
  · exact pay1_apply x0 x1 x2 x3 x4 x5 x6 x7 x8 r k
  · exact congrArg₂ (· - ·) (pay1_apply x0 x1 x2 x3 x4 x5 x6 x7 x8 r k) (pay1_apply x0 x1 x2 x3 x4 x5 x6 x7 x8 r k)
  · exact pay1_apply x0 x1 x2 x3 x4 x5 x6 x7 x8 r k

end Cert.Kernel4Ideal.OutProj

end
-- ==== Proof.OutProj.Blocks.lean ====
/- The output projection's input blocks, read off the layer's arguments. A point's tile is 1024 rows of the residual stream
   and of the four mixers' outputs; the output weights are cut into four slabs of 256 rows, and the router's weights are
   transposed and split into a coarse part and a remainder. -/
module

public import proofs.«01_k».proof.Proof.OutProj.Body
public import Idealize.ShloMosaic.Lib.Tactic
public import Idealize.ShloMosaic.Lib.Claim

@[expose] public section

noncomputable section

namespace Cert.Kernel4Ideal.OutProj

open Cert.Kernel4Ideal Cert.Kernel4Ideal.Gen Cert.Rows
open Idealize.ShloMosaic Idealize.ShloMosaic.TcCoe Idealize.SL.Sem Idealize.ShloMosaic.ValueIdx

variable (m : (ℓ : Loc nD τ sig) → Buf (Elt Ideal) ℓ) (c : Dev nD)

/-- The arguments: the residual stream, the four mixers' outputs, the output weights, the norm's weight and the router's. -/
def tokens : Vec Ideal S65536x1024 .f32 := m ((c : Thread nD τ).loc main_arg0)
def first : Vec Ideal S65536x256 .bf16 := m ((c : Thread nD τ).loc main_arg1)
def second : Vec Ideal S65536x256 .bf16 := m ((c : Thread nD τ).loc main_arg2)
def third : Vec Ideal S65536x256 .bf16 := m ((c : Thread nD τ).loc main_arg3)
def fourth : Vec Ideal S65536x256 .bf16 := m ((c : Thread nD τ).loc main_arg4)
def matrix : Vec Ideal S1024x1024 .f32 := m ((c : Thread nD τ).loc main_arg5)
def weight : Vec Ideal S1024 .f32 := m ((c : Thread nD τ).loc main_arg6)
def router : Vec Ideal S1024x16 .f32 := m ((c : Thread nD τ).loc main_arg7)

theorem point_lt (t : Fin cfg0.N) : t.val < 64 := lt_of_lt_of_eq t.isLt N_0

/-! ## The arrays the region finds -/

theorem slabs_array : (V m c main_v6 : Vec Ideal S4x256x1024 .bf16)
    = truncf .bf16 (shapeCast S4x256x1024 (matrix m c) shapeCasts_S1024x1024_S4x256x1024 : FVec Ideal S4x256x1024 .f32) bitsLt_bf16_f32 := by
  entry_read
  rfl

theorem weight_array : (V m c main_v7 : Vec Ideal S1x1024 .f32) = broadcastInDim S1x1024 ![1] bcast_S1024_S1x1024_1 (weight m c) := by
  entry_read
  rfl

/-- The router's weights, one row an expert. -/
abbrev rows : FVec Ideal S16x1024 .f32 := transpose S16x1024 [1, 0] (router m c) transposes_S1024x16_S16x1024_1_0

theorem coarse_array : (V m c main_v1 : Vec Ideal S16x1024 .bf16) = truncf .bf16 (rows m c) bitsLt_bf16_f32 := by
  entry_read
  rfl

theorem remainder_array : (V m c main_v4 : Vec Ideal S16x1024 .bf16)
    = truncf .bf16 (subf (rows m c) (extf .f32 (truncf .bf16 (rows m c) bitsLt_bf16_f32) bitsLt_bf16_f32)) bitsLt_bf16_f32 := by
  entry_read
  rfl

theorem rows_apply (e : Fin 16) (k : Fin 1024) : rows m c (ix2 e k) = router m c (ix2 k e) :=
  transpose_apply [1, 0] (router m c) transposes_S1024x16_S16x1024_1_0 (ix2 e k) (ix2 k e) (fun a => match a with
    | ⟨0, _⟩ => rfl
    | ⟨1, _⟩ => rfl)

/-! ## The blocks -/

theorem block_numbers : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- A row of a tile is a row of its array. -/
theorem tile_index {N : ℕ} (t : Fin cfg0.N) {q0 q1 : ℕ} (i0 : q0 = t.val) (i1 : q1 = 0) (r : Fin 1024) (d : Fin N)
    (i : (⟨2, ![65536, N]⟩ : Shape).Idx) (h0 : (i 0).val = q0 * 1024 + 1 * r.val) (h1 : (i 1).val = q1 * N + 1 * d.val) :
    i = ix2 ⟨1024 * t.val + r.val, by have := point_lt t; omega⟩ d := by
  subst i0 i1
  funext a
  apply Fin.ext
  match a with
  | ⟨0, _⟩ => exact h0.trans (by show t.val * 1024 + 1 * r.val = 1024 * t.val + r.val; omega)
  | ⟨1, _⟩ => exact h1.trans (by show 0 * N + 1 * d.val = d.val; omega)

theorem tokens_block (t : Fin cfg0.N) (r : Fin 1024) (d : Fin 1024) :
    (iblk m c 0 t : Vec Ideal S1024x1024 .f32) (ix2 r d) = tokens m c (ix2 ⟨1024 * t.val + r.val, by have := point_lt t; omega⟩ d) := by
  obtain ⟨⟨i0, i1⟩, _⟩ := block_numbers t
  unfold iblk
  rw [View.read_apply]
  show V m c main_arg0 _ = _
  rw [V_main_arg0]
  exact congrArg (tokens m c) (tile_index t i0 i1 r d _ rfl rfl)

theorem first_block (t : Fin cfg0.N) (r : Fin 1024) (d : Fin 256) :
    (iblk m c 1 t : Vec Ideal S1024x256 .bf16) (ix2 r d) = first m c (ix2 ⟨1024 * t.val + r.val, by have := point_lt t; omega⟩ d) := by
  obtain ⟨_, ⟨i0, i1⟩, _⟩ := block_numbers t
  unfold iblk
  rw [View.read_apply]
  show V m c main_arg1 _ = _
  rw [V_main_arg1]
  exact congrArg (first m c) (tile_index t i0 i1 r d _ rfl rfl)

theorem second_block (t : Fin cfg0.N) (r : Fin 1024) (d : Fin 256) :
    (iblk m c 2 t : Vec Ideal S1024x256 .bf16) (ix2 r d) = second m c (ix2 ⟨1024 * t.val + r.val, by have := point_lt t; omega⟩ d) := by
  obtain ⟨_, _, ⟨i0, i1⟩, _⟩ := block_numbers t
  unfold iblk
  rw [View.read_apply]
  show V m c main_arg2 _ = _
  rw [V_main_arg2]
  exact congrArg (second m c) (tile_index t i0 i1 r d _ rfl rfl)

theorem third_block (t : Fin cfg0.N) (r : Fin 1024) (d : Fin 256) :
    (iblk m c 3 t : Vec Ideal S1024x256 .bf16) (ix2 r d) = third m c (ix2 ⟨1024 * t.val + r.val, by have := point_lt t; omega⟩ d) := by
  obtain ⟨_, _, _, ⟨i0, i1⟩, _⟩ := block_numbers t
  unfold iblk
  rw [View.read_apply]
  show V m c main_arg3 _ = _
  rw [V_main_arg3]
  exact congrArg (third m c) (tile_index t i0 i1 r d _ rfl rfl)

theorem fourth_block (t : Fin cfg0.N) (r : Fin 1024) (d : Fin 256) :
    (iblk m c 4 t : Vec Ideal S1024x256 .bf16) (ix2 r d) = fourth m c (ix2 ⟨1024 * t.val + r.val, by have := point_lt t; omega⟩ d) := by
  obtain ⟨_, _, _, _, ⟨i0, i1⟩, _⟩ := block_numbers t
  unfold iblk
  rw [View.read_apply]
  show V m c main_arg4 _ = _
  rw [V_main_arg4]
  exact congrArg (fourth m c) (tile_index t i0 i1 r d _ rfl rfl)

theorem slabs_block (t : Fin cfg0.N) (o : Fin 4) (k : Fin 256) (n : Fin 1024) :
    (iblk m c 5 t : Vec Ideal S4x256x1024 .bf16) (ix3 o k n) = matrix m c (ix2 ⟨256 * o.val + k.val, by omega⟩ n) := by
  obtain ⟨_, _, _, _, _, ⟨i0, i1, i2⟩, _⟩ := block_numbers t
  unfold iblk
  rw [View.read_apply]
  refine Eq.trans ?_ (shapeCast_apply (matrix m c) shapeCasts_S1024x1024_S4x256x1024 (ix3 o k n) (ix2 ⟨256 * o.val + k.val, by omega⟩ n) (by
    rewrite [Shape.rowMajor_val_three, Shape.rowMajor_val_two]
    show (256 * o.val + k.val) * 1024 + n.val = (o.val * 256 + k.val) * 1024 + n.val
    omega))
  refine Eq.trans ?_ (congrFun (slabs_array m c) (ix3 o k n))
  show V m c main_v6 _ = V m c main_v6 _
  congr 1
  funext a
  apply Fin.ext
  match a with
  | ⟨0, _⟩ => show win0_5.index t 0 * 4 + 1 * o.val = o.val; rw [i0]; omega
  | ⟨1, _⟩ => show win0_5.index t 1 * 256 + 1 * k.val = k.val; rw [i1]; omega
  | ⟨2, _⟩ => show win0_5.index t 2 * 1024 + 1 * n.val = n.val; rw [i2]; omega

theorem weight_block (t : Fin cfg0.N) (d : Fin 1024) : (iblk m c 6 t : Vec Ideal S1x1024 .f32) (ix2 0 d) = weight m c (ix1 d) := by
  obtain ⟨_, _, _, _, _, _, ⟨i0, i1⟩, _⟩ := block_numbers t
  unfold iblk
  rw [View.read_apply]
  refine Eq.trans ?_ (broadcastInDim_apply _ bcast_S1024_S1x1024_1 (weight m c) (ix2 0 d) (ix1 d) fun a => match a with
    | ⟨0, _⟩ => rfl)
  rw [← weight_array]
  show V m c main_v7 _ = V m c main_v7 _
  congr 1
  funext a
  apply Fin.ext
  match a with
  | ⟨0, _⟩ => show win0_6.index t 0 * 1 + 1 * 0 = 0; rw [i0]
  | ⟨1, _⟩ => show win0_6.index t 1 * 1024 + 1 * d.val = d.val; rw [i1]; omega

theorem coarse_block (t : Fin cfg0.N) (e : Fin 16) (k : Fin 1024) : (iblk m c 7 t : Vec Ideal S16x1024 .bf16) (ix2 e k) = router m c (ix2 k e) := by
  obtain ⟨_, _, _, _, _, _, _, ⟨i0, i1⟩, _⟩ := block_numbers t
  unfold iblk
  rw [View.read_apply]
  refine Eq.trans ?_ ((congrFun (coarse_array m c) (ix2 e k)).trans (rows_apply m c e k))
  show V m c main_v1 _ = V m c main_v1 _
  congr 1
  funext a
  apply Fin.ext
  match a with
  | ⟨0, _⟩ => show win0_7.index t 0 * 16 + 1 * e.val = e.val; rw [i0]; omega
  | ⟨1, _⟩ => show win0_7.index t 1 * 1024 + 1 * k.val = k.val; rw [i1]; omega

theorem remainder_block (t : Fin cfg0.N) (e : Fin 16) (k : Fin 1024) :
    (iblk m c 8 t : Vec Ideal S16x1024 .bf16) (ix2 e k) = (router m c (ix2 k e) - router m c (ix2 k e) : EReal) := by
  obtain ⟨_, _, _, _, _, _, _, _, ⟨i0, i1⟩⟩ := block_numbers t
  unfold iblk
  rw [View.read_apply]
  refine Eq.trans ?_ ((congrFun (remainder_array m c) (ix2 e k)).trans (congrArg₂ (fun a b : EReal => a - b) (rows_apply m c e k) (rows_apply m c e k)))
  show V m c main_v4 _ = V m c main_v4 _
  congr 1
  funext a
  apply Fin.ext
  match a with
  | ⟨0, _⟩ => show win0_8.index t 0 * 16 + 1 * e.val = e.val; rw [i0]; omega
  | ⟨1, _⟩ => show win0_8.index t 1 * 1024 + 1 * k.val = k.val; rw [i1]; omega

end Cert.Kernel4Ideal.OutProj

end
-- ==== Proof.OutProj.Result.lean ====
/- The output projection's three results at one element. Each grid point writes back its tile of every result, so an
   element is what the point holding its token computed. -/
module

public import proofs.«01_k».proof.Proof.OutProj.Blocks
public import proofs.«01_k».proof.Proof.Gen.Kernel4Ideal.Value

@[expose] public section

noncomputable section

namespace Cert.Kernel4Ideal.OutProj

open Cert.Kernel4Ideal Cert.Kernel4Ideal.Gen Cert.Rows Cert.OutProj
open Idealize.ShloMosaic Idealize.ShloMosaic.TcCoe Idealize.SL.Sem Idealize.ShloMosaic.ValueIdx
open scoped BigOperators

variable (m : (ℓ : Loc nD τ sig) → Buf (Elt Ideal) ℓ) (c : Dev nD)

/-- The point that holds token `T`, and the row of its tile. -/
def point (T : Fin 65536) : Fin cfg0.N := ⟨T.val / 1024, lt_of_lt_of_eq (by omega : T.val / 1024 < 64) N_0.symm⟩
def place (T : Fin 65536) : Fin 1024 := ⟨T.val % 1024, by omega⟩

theorem token_eq (T : Fin 65536) (h : 1024 * (point T).val + (place T).val < 65536) : (⟨1024 * (point T).val + (place T).val, h⟩ : Fin 65536) = T :=
  Fin.ext (by show 1024 * (T.val / 1024) + T.val % 1024 = T.val; omega)

theorem position_eq (T : Fin 65536) {q : ℕ} (h : q = (point T).val) : q * 1024 + 1 * (place T).val = T.val := by
  rw [h]
  show T.val / 1024 * 1024 + 1 * (T.val % 1024) = T.val
  omega

/-- The layer's residual stream and its normalised rows, at this memory's arguments. -/
abbrev residualAt (T : Fin 65536) (n : Fin 1024) : EReal := residual (tokens m c) (first m c) (second m c) (third m c) (fourth m c) (matrix m c) T n
abbrev normedAt (T : Fin 65536) (n : Fin 1024) : EReal := normed (tokens m c) (first m c) (second m c) (third m c) (fourth m c) (matrix m c) (weight m c) T n

theorem stream_eq (T : Fin 65536) (n : Fin 1024) :
    stream (iblk m c 0 (point T) : Vec Ideal S1024x1024 .f32) (iblk m c 1 (point T) : Vec Ideal S1024x256 .bf16) (iblk m c 2 (point T) : Vec Ideal S1024x256 .bf16)
        (iblk m c 3 (point T) : Vec Ideal S1024x256 .bf16) (iblk m c 4 (point T) : Vec Ideal S1024x256 .bf16) (iblk m c 5 (point T) : Vec Ideal S4x256x1024 .bf16) (place T) n
      = residualAt m c T n := by
  unfold stream residualAt
  rw [residual_eq, tokens_block, token_eq]
  refine congrArg₂ (· + ·) (congrArg₂ (· + ·) (congrArg₂ (· + ·) (congrArg₂ (· + ·) rfl ?_) ?_) ?_) ?_ <;>
    refine Finset.sum_congr rfl fun k _ => ?_
  · rw [first_block, token_eq, slabs_block]
    exact congrArg (fun q => _ * matrix m c (ix2 q n)) (Fin.ext (by show 256 * 0 + k.val = k.val; omega))
  · rw [second_block, token_eq, slabs_block]
    exact congrArg (fun q => _ * matrix m c (ix2 q n)) (Fin.ext (by show 256 * 1 + k.val = 256 + k.val; omega))
  · rw [third_block, token_eq, slabs_block]
    exact congrArg (fun q => _ * matrix m c (ix2 q n)) (Fin.ext (by show 256 * 2 + k.val = 512 + k.val; omega))
  · rw [fourth_block, token_eq, slabs_block]
    exact congrArg (fun q => _ * matrix m c (ix2 q n)) (Fin.ext (by show 256 * 3 + k.val = 768 + k.val; omega))

theorem unit_eq (T : Fin 65536) (k : Fin 1024) :
    unit (iblk m c 0 (point T) : Vec Ideal S1024x1024 .f32) (iblk m c 1 (point T) : Vec Ideal S1024x256 .bf16) (iblk m c 2 (point T) : Vec Ideal S1024x256 .bf16)
        (iblk m c 3 (point T) : Vec Ideal S1024x256 .bf16) (iblk m c 4 (point T) : Vec Ideal S1024x256 .bf16) (iblk m c 5 (point T) : Vec Ideal S4x256x1024 .bf16)
        (iblk m c 6 (point T) : Vec Ideal S1x1024 .f32) (place T) k
      = normedAt m c T k := by
  unfold unit normedAt normed
  rw [funext fun n => stream_eq m c T n, funext fun d => weight_block m c (point T) d]

/-- Every output block is its point's own, and is written back. -/
theorem out_numbers : ∀ t : Fin cfg0.N,
    (win0_9.index t (0 : Fin 2) = t.val ∧ win0_9.index t (1 : Fin 2) = 0 ∧ (cfg0.win 9).flush t = true)
    ∧ (win0_10.index t (0 : Fin 2) = t.val ∧ win0_10.index t (1 : Fin 2) = 0 ∧ (cfg0.win 10).flush t = true)
    ∧ (win0_11.index t (0 : Fin 2) = 0 ∧ win0_11.index t (1 : Fin 2) = t.val ∧ (cfg0.win 11).flush t = true) :=
  (by decide +kernel : ∀ t : Fin grid0.N, _)

theorem residual_result (T : Fin 65536) (n : Fin 1024) :
    ((dats m 0 c).arrAt 9 cfg0.N : Vec Ideal S65536x1024 .f32) (ix2 T n) = residualAt m c T n := by
  obtain ⟨⟨i0, i1, hf⟩, _⟩ := out_numbers (point T)
  have h := congrFun ((Value.blocks9 m c (point T) hf).trans (Value.flushed9 m c (point T))) (ix2 (place T) n)
  rw [View.read_apply] at h
  have e : ((cfg0.win 9).blk (point T)).view.emb (ix2 (place T) n) = ix2 T n := by
    funext a
    apply Fin.ext
    match a with
    | ⟨0, _⟩ => exact position_eq T i0
    | ⟨1, _⟩ => show win0_9.index (point T) 1 * 1024 + 1 * n.val = n.val; rw [i1]; omega
  rw [e] at h
  exact h.trans ((stream_apply _ _ _ _ _ _ _ _ _ (place T) n).trans (stream_eq m c T n))

theorem normed_result (T : Fin 65536) (n : Fin 1024) :
    ((dats m 0 c).arrAt 10 cfg0.N : Vec Ideal S65536x1024 .bf16) (ix2 T n) = normedAt m c T n := by
  obtain ⟨_, ⟨i0, i1, hf⟩, _⟩ := out_numbers (point T)
  have h := congrFun ((Value.blocks10 m c (point T) hf).trans (Value.flushed10 m c (point T))) (ix2 (place T) n)
  rw [View.read_apply] at h
  have e : ((cfg0.win 10).blk (point T)).view.emb (ix2 (place T) n) = ix2 T n := by
    funext a
    apply Fin.ext
    match a with
    | ⟨0, _⟩ => exact position_eq T i0
    | ⟨1, _⟩ => show win0_10.index (point T) 1 * 1024 + 1 * n.val = n.val; rw [i1]; omega
  rw [e] at h
  exact h.trans ((unit_apply _ _ _ _ _ _ _ _ _ (place T) n).trans (unit_eq m c T n))

theorem logit_result (hfin : AllFinite (tokens m c) (first m c) (second m c) (third m c) (fourth m c) (matrix m c) (weight m c) (router m c)) (e : Fin 16) (T : Fin 65536) :
    ((dats m 0 c).arrAt 11 cfg0.N : Vec Ideal S16x65536 .f32) (ix2 e T)
      = logit (tokens m c) (first m c) (second m c) (third m c) (fourth m c) (matrix m c) (weight m c) (router m c) e T := by
  obtain ⟨_, _, ⟨i0, i1, hf⟩⟩ := out_numbers (point T)
  have h := congrFun ((Value.blocks11 m c (point T) hf).trans (Value.flushed11 m c (point T))) (ix2 e (place T))
  rw [View.read_apply] at h
  have he : ((cfg0.win 11).blk (point T)).view.emb (ix2 e (place T)) = ix2 e T := by
    funext a
    apply Fin.ext
    match a with
    | ⟨0, _⟩ => show win0_11.index (point T) 0 * 16 + 1 * e.val = e.val; rw [i0]; omega
    | ⟨1, _⟩ => exact position_eq T i1
  rw [he] at h
  refine h.trans ((logits_apply _ _ _ _ _ _ _ _ _ e (place T)).trans (Eq.trans ?_ (logit_eq hfin e T)))
  refine congrArg₂ (· + ·) (congrArg₂ (· + ·) ?_ ?_) ?_ <;> refine Finset.sum_congr rfl fun k _ => ?_
  · rw [coarse_block, unit_eq]
  · rw [coarse_block, unit_eq]
  · rw [remainder_block, unit_eq]

end Cert.Kernel4Ideal.OutProj

end
-- ==== Proof.OutProj.Reference.lean ====
/- The reference's three results at one element: the mixers' outputs joined, its one product with the output weights, its
   normalisation and the product with the router's weights. -/
module

public import proofs.«01_k».proof.Proof.OutProj.Layer
public import proofs.«01_k».proof.Proof.Gen.Reference4Ideal.Read

@[expose] public section

noncomputable section

namespace Cert.Reference4Ideal.OutProj

open Cert.Reference4Ideal Cert.Reference4Ideal.Gen Cert.Reference4Ideal.Read Cert.Rows Cert.OutProj
open Idealize.ShloMosaic Idealize.ShloMosaic.TcCoe Idealize.SL.Sem Idealize.ShloMosaic.ValueIdx
open scoped BigOperators

variable (x : Vec Ideal S65536x1024 .f32) (ya yb yc yd : Vec Ideal S65536x256 .bf16) (w : Vec Ideal S1024x1024 .f32)
  (g : Vec Ideal S1024 .f32) (u : Vec Ideal S1024x16 .f32)

/-- The mixers' outputs joined, at an element. -/
theorem joined_apply (T : Fin 65536) (k : Fin 1024) : val_main_v0 (F := Ideal) ya yb yc yd (ix2 T k) = mix ya yb yc yd T k := by
  unfold val_main_v0 mix
  split_ifs with h0 h1 h2
  · exact concatenate_apply_piece (t := S65536x1024) 1 [⟨S65536x256, ya⟩, ⟨S65536x256, yb⟩, ⟨S65536x256, yc⟩, ⟨S65536x256, yd⟩]
      concatenates_S65536x256_S65536x256_S65536x256_S65536x256_S65536x1024_d1 (ix2 T k) 0 (by decide : 0 < 4) S65536x256 ya rfl rfl 0 rfl
      (ix2 T ⟨k.val, h0⟩) (fun a ha => match a with | ⟨0, _⟩ => rfl | ⟨1, _⟩ => absurd rfl ha) (by show 0 + k.val = k.val; omega)
  · exact concatenate_apply_piece (t := S65536x1024) 1 [⟨S65536x256, ya⟩, ⟨S65536x256, yb⟩, ⟨S65536x256, yc⟩, ⟨S65536x256, yd⟩]
      concatenates_S65536x256_S65536x256_S65536x256_S65536x256_S65536x1024_d1 (ix2 T k) 1 (by decide : 1 < 4) S65536x256 yb rfl rfl 256 rfl
      (ix2 T ⟨k.val - 256, by omega⟩) (fun a ha => match a with | ⟨0, _⟩ => rfl | ⟨1, _⟩ => absurd rfl ha) (by show 256 + (k.val - 256) = k.val; omega)
  · exact concatenate_apply_piece (t := S65536x1024) 1 [⟨S65536x256, ya⟩, ⟨S65536x256, yb⟩, ⟨S65536x256, yc⟩, ⟨S65536x256, yd⟩]
      concatenates_S65536x256_S65536x256_S65536x256_S65536x256_S65536x1024_d1 (ix2 T k) 2 (by decide : 2 < 4) S65536x256 yc rfl rfl 512 rfl
      (ix2 T ⟨k.val - 512, by omega⟩) (fun a ha => match a with | ⟨0, _⟩ => rfl | ⟨1, _⟩ => absurd rfl ha) (by show 512 + (k.val - 512) = k.val; omega)
  · exact concatenate_apply_piece (t := S65536x1024) 1 [⟨S65536x256, ya⟩, ⟨S65536x256, yb⟩, ⟨S65536x256, yc⟩, ⟨S65536x256, yd⟩]
      concatenates_S65536x256_S65536x256_S65536x256_S65536x256_S65536x1024_d1 (ix2 T k) 3 (by decide : 3 < 4) S65536x256 yd rfl rfl 768 rfl
      (ix2 T ⟨k.val - 768, by omega⟩) (fun a ha => match a with | ⟨0, _⟩ => rfl | ⟨1, _⟩ => absurd rfl ha) (by show 768 + (k.val - 768) = k.val; omega)

/-- An index of two axes, by its coordinates' values. -/
theorem eq_of_vals {a b : ℕ} (i : (⟨2, ![a, b]⟩ : Shape).Idx) (p : Fin a) (q : Fin b) (h0 : (i 0).val = p.val) (h1 : (i 1).val = q.val) : i = ix2 p q := by
  funext e
  match e with
  | ⟨0, _⟩ => exact Fin.ext h0
  | ⟨1, _⟩ => exact Fin.ext h1

theorem residual_apply (T : Fin 65536) (n : Fin 1024) : val_main_v3 (F := Ideal) x ya yb yc yd w (ix2 T n) = residual x ya yb yc yd w T n := by
  rw [val_main_v3_apply, val_main_v2_apply]
  unfold Cert.OutProj.residual
  refine congrArg (_ + ·) (Finset.sum_congr rfl fun k _ => ?_)
  rw [eq_of_vals (lidx_main_v2 (ix2 T n) k) T k rfl rfl, eq_of_vals (ridx_main_v2 (ix2 T n) k) k n rfl rfl, val_main_v1_apply, joined_apply]
  rfl

theorem norm_apply (T : Fin 65536) (k : Fin 1024) : val_main_v16 (F := Ideal) x ya yb yc yd w g (ix2 T k) = normed x ya yb yc yd w g T k := by
  rw [val_main_v16_apply, val_main_v13_apply, val_main_v12_apply, val_main_v11_apply, val_main_v10_apply, val_main_v8_apply, val_main_v6_apply,
    val_main_v5_apply, val_main_cst_apply, val_main_v7_apply, val_main_cst_0_apply, val_main_v9_apply, val_main_cst_1_apply,
    val_main_v15_apply, val_main_v14_apply, residual_apply]
  have zero : FloatOps.ofBits (F := Ideal) .f32 0x00000000#32 = 0 := Ideal.ofBits_zero_f32
  have hs : ∑ d : Fin 1024, val_main_v4 (F := Ideal) x ya yb yc yd w (idx_main_v5 (idx_main_v6 (idx_main_v12 (ix2 T k))) d)
      = ∑ d : Fin 1024, residual x ya yb yc yd w T d * residual x ya yb yc yd w T d := by
    refine Finset.sum_congr rfl fun d _ => ?_
    rw [val_main_v4_apply, eq_of_vals (idx_main_v5 (idx_main_v6 (idx_main_v12 (ix2 T k))) d) T d rfl rfl, residual_apply]
    rfl
  rw [hs, zero, zero_add]
  have hg : idx_main_v14 (idx_main_v15 (ix2 T k)) = ix1 k := by
    funext a
    match a with
    | ⟨0, _⟩ => rfl
  rw [hg]
  rfl

theorem normed_apply (T : Fin 65536) (k : Fin 1024) : val_main_v17 (F := Ideal) x ya yb yc yd w g (ix2 T k) = normed x ya yb yc yd w g T k := by
  rw [val_main_v17_apply, norm_apply]
  rfl

theorem logit_apply (e : Fin 16) (T : Fin 65536) : val_main_v18 (F := Ideal) x ya yb yc yd w g u (ix2 e T) = logit x ya yb yc yd w g u e T := by
  rw [val_main_v18_apply]
  unfold logit
  refine Finset.sum_congr rfl fun k _ => ?_
  rw [eq_of_vals (lidx_main_v18 (ix2 e T) k) k e rfl rfl, eq_of_vals (ridx_main_v18 (ix2 e T) k) T k rfl rfl, norm_apply]

end Cert.Reference4Ideal.OutProj

end
-- ==== Proof.OutProj.Equal.lean ====
/- The output projection's value claim: the kernel's three result arrays are the reference's, element by element. That the
   arguments are real is read off the claim's precondition; only the logits use it. -/
module

public import proofs.«01_k».proof.Defs
public import proofs.«01_k».proof.Proof.OutProj.Result
public import proofs.«01_k».proof.Proof.OutProj.Reference
public import proofs.«01_k».proof.Proof.Gen.Reference4Ideal.Run
public import proofs.«01_k».proof.Proof.Gen.Pre_finite4
public import Idealize.ShloMosaic.Lib.ReduceAll

@[expose] public section

noncomputable section

namespace Cert.Proof.OutProj

open Idealize.ShloMosaic Idealize.ShloMosaic.TcCoe Idealize.SL.Sem Idealize.ShloMosaic.ValueIdx
open Cert.Kernel4Ideal Cert.Kernel4Ideal.OutProj Cert.Reference4Ideal.Read Cert.OutProj

variable (m : (ℓ : Loc nD τ sig) → Buf (Elt Ideal) ℓ) (c : Dev nD)

theorem infinity_eq : Ideal.ofBits .f32 0x7F800000#32 = ⊤ := by
  simp [Ideal.ofBits, Ideal.ieee]

instance : Subsingleton Cert.Pre_finite4.S_.Idx := ⟨fun _ _ => funext fun a => a.elim0⟩

/-- An array every one of whose elements compares below infinity in absolute value is real. -/
theorem real_of_all {s : Shape} {axes : List (Fin s.rank)} (a : FVec Ideal s .f32) (hb : Cert.Pre_finite4.S_.BroadcastsInDim s (![] : Fin 0 → Fin s.rank))
    (hr : s.ReducesTo axes Cert.Pre_finite4.S_) (hu : 0 < Cert.Pre_finite4.S_.numel) (j : Cert.Pre_finite4.S_.Idx)
    (h : Host.reduce IntOp.andi (cmpf .olt (Host.absf a) (broadcastInDim s ![] hb (constant Cert.Pre_finite4.S_ .f32 0x7F800000#32)))
      (constantI Cert.Pre_finite4.S_ 1 1#1) hr hu j = 1#1) (i : s.Idx) : Finite (a i) := by
  have e := Host.reduce_andi_all _ _ hr hu j h i
  rw [cmpf_apply, broadcastInDim_apply _ hb _ i (fun a => a.elim0) (fun a => a.elim0), constant_apply] at e
  refine finite_of_abs ?_
  rw [← infinity_eq]
  by_contra hn
  have z : FloatOps.cmpf (F := Ideal) .olt (Host.absf a i) (Ideal.ofBits .f32 0x7F800000#32) = 0#1 := by
    show BitVec.ofBool (decide (max (a i) (-(a i)) < Ideal.ofBits .f32 0x7F800000#32)) = 0#1
    rw [decide_eq_false hn]
    rfl
  exact absurd (z.symm.trans e) (by decide)

/-- The precondition's reading. -/
theorem allFinite (h : Pre_Kernel4Ideal_finite4 m) :
    AllFinite (tokens m c) (first m c) (second m c) (third m c) (fourth m c) (matrix m c) (weight m c) (router m c) := by
  have hc := congrFun (h c) (fun a => a.elim0)
  obtain ⟨ha, hb⟩ := IntOp.andi_eq_one.1 hc
  obtain ⟨ha, h4⟩ := IntOp.andi_eq_one.1 ha
  obtain ⟨ha, h3⟩ := IntOp.andi_eq_one.1 ha
  obtain ⟨ha, h2⟩ := IntOp.andi_eq_one.1 ha
  obtain ⟨h0, h1⟩ := IntOp.andi_eq_one.1 ha
  obtain ⟨hb, h7⟩ := IntOp.andi_eq_one.1 hb
  obtain ⟨h5, h6⟩ := IntOp.andi_eq_one.1 hb
  exact ⟨real_of_all (tokens m c) _ _ _ _ h0, real_of_all (s := S65536x256) (first m c) _ _ _ _ h1, real_of_all (s := S65536x256) (second m c) _ _ _ _ h2,
    real_of_all (s := S65536x256) (third m c) _ _ _ _ h3, real_of_all (s := S65536x256) (fourth m c) _ _ _ _ h4, real_of_all (matrix m c) _ _ _ _ h5,
    real_of_all (weight m c) _ _ _ _ h6, real_of_all (router m c) _ _ _ _ h7⟩

/-- An array of two axes, element by element. -/
theorem ext2 {a b : ℕ} {α : Type} {p q : (⟨2, ![a, b]⟩ : Shape).Idx → α} (h : ∀ i j, p (ix2 i j) = q (ix2 i j)) : p = q := by
  funext y
  obtain ⟨i, j, rfl⟩ : ∃ (i : Fin a) (j : Fin b), y = ix2 i j := ⟨y 0, y 1, eq_ix2 y⟩
  exact h i j

theorem residual_eq : val_main_v3 (F := Ideal) (tokens m c) (first m c) (second m c) (third m c) (fourth m c) (matrix m c) = (Gen.dats m 0 c).arrAt 9 cfg0.N :=
  ext2 fun T n => (Reference4Ideal.OutProj.residual_apply _ _ _ _ _ _ T n).trans (residual_result m c T n).symm

theorem normed_eq : val_main_v17 (F := Ideal) (tokens m c) (first m c) (second m c) (third m c) (fourth m c) (matrix m c) (weight m c) = (Gen.dats m 0 c).arrAt 10 cfg0.N :=
  ext2 fun T n => (Reference4Ideal.OutProj.normed_apply _ _ _ _ _ _ _ T n).trans (normed_result m c T n).symm

theorem logit_eq (h : Pre_Kernel4Ideal_finite4 m) :
    val_main_v18 (F := Ideal) (tokens m c) (first m c) (second m c) (third m c) (fourth m c) (matrix m c) (weight m c) (router m c) = (Gen.dats m 0 c).arrAt 11 cfg0.N :=
  ext2 fun e T => (Reference4Ideal.OutProj.logit_apply _ _ _ _ _ _ _ _ e T).trans (logit_result m c (allFinite m c h) e T).symm

/-- The claim. -/
theorem algebraic : algebraic_Kernel4Ideal_Reference4Ideal_pre_finite4 := by
  intro m ρ m' ρ' hpre hagree
  refine ⟨_, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨r0, r1, r2, ha⟩ := h c
  obtain ⟨a0, a1, a2, a3, a4, a5, a6, a7⟩ := hagree c
  refine ⟨r0.trans ((val_main_v3_eq _ _ _ _ _ _).trans ?_), r1.trans ((val_main_v17_eq _ _ _ _ _ _ _).trans ?_), r2.trans ((val_main_v18_eq _ _ _ _ _ _ _ _).trans ?_), ha⟩
  · rw [a0, a1, a2, a3, a4, a5]; exact residual_eq m c
  · rw [a0, a1, a2, a3, a4, a5, a6]; exact normed_eq m c
  · rw [a0, a1, a2, a3, a4, a5, a6, a7]; exact logit_eq m c hpre

end Cert.Proof.OutProj

end
-- ==== Proof.Filter.Network.lean ====
/- The filters' network, over the extended reals: two layers of sines and a last product, one position's row at a time; and the
   two halves of the filters folded into one another, with the transform of the circle they make. -/
module

public import proofs.«01_k».proof.Proof.OutProj.Finite
public import proofs.«01_k».proof.Proof.Hyena.Transform

@[expose] public section

noncomputable section

namespace Cert.Filter

open Cert.OutProj Cert.Hyena
open Idealize.ShloMosaic
open scoped BigOperators

/-- One layer: the sine of the scaled sum of a row's product with the weights and the bias. -/
def layer {n : ℕ} (x : Fin n → EReal) (w : Fin n → Fin 64 → EReal) (b freq : Fin 64 → EReal) (j : Fin 64) : EReal :=
  Ideal.sin (freq j * ((∑ q, x q * w q j) + b j))

/-- The network's output of a row. -/
def network {n : ℕ} (x : Fin n → EReal) (w1 : Fin n → Fin 64 → EReal) (b1 : Fin 64 → EReal) (w2 : Fin 64 → Fin 64 → EReal) (b2 freq : Fin 64 → EReal)
    (w3 : Fin 64 → Fin 512 → EReal) (o : Fin 512) : EReal :=
  ∑ j, layer (layer x w1 b1 freq) w2 b2 freq j * w3 j o

theorem network_congr {n : ℕ} {x x' : Fin n → EReal} {w1 w1' : Fin n → Fin 64 → EReal} {b1 b1' : Fin 64 → EReal} {w2 w2' : Fin 64 → Fin 64 → EReal}
    {b2 b2' freq freq' : Fin 64 → EReal} {w3 w3' : Fin 64 → Fin 512 → EReal} (hx : ∀ q, x q = x' q) (h1 : ∀ q j, w1 q j = w1' q j) (hb1 : ∀ j, b1 j = b1' j)
    (h2 : ∀ q j, w2 q j = w2' q j) (hb2 : ∀ j, b2 j = b2' j) (hf : ∀ j, freq j = freq' j) (h3 : ∀ j o, w3 j o = w3' j o) (o : Fin 512) :
    network x w1 b1 w2 b2 freq w3 o = network x' w1' b1' w2' b2' freq' w3' o := by
  obtain rfl := funext hx
  obtain rfl := funext fun q => funext (h1 q)
  obtain rfl := funext hb1
  obtain rfl := funext fun q => funext (h2 q)
  obtain rfl := funext hb2
  obtain rfl := funext hf
  obtain rfl := funext fun q => funext (h3 q)
  rfl

/-- Lanes past the thirty-third that are zero add nothing to a layer's product. -/
theorem padded_sum (x : Fin 128 → EReal) (w : Fin 128 → EReal) (h : ∀ q : Fin 128, 33 ≤ q.val → x q = 0) :
    ∑ q, x q * w q = ∑ q : Fin 33, x ⟨q.val, by omega⟩ * w ⟨q.val, by omega⟩ := by
  refine (Fin.sum_univ_add (a := 33) (b := 95) (fun q : Fin (33 + 95) => x q * w q)).trans ?_
  have z : ∑ q : Fin 95, x (Fin.natAdd 33 q) * w (Fin.natAdd 33 q) = 0 :=
    Finset.sum_eq_zero fun q _ => by rw [h (Fin.natAdd 33 q) (by show 33 ≤ 33 + q.val; omega), zero_mul]
  rw [z, add_zero]
  rfl

theorem layer_finite {n : ℕ} {x : Fin n → EReal} {w : Fin n → Fin 64 → EReal} {b freq : Fin 64 → EReal} (hx : ∀ q, Finite (x q))
    (hw : ∀ q j, Finite (w q j)) (hb : ∀ j, Finite (b j)) (hf : ∀ j, Finite (freq j)) (j : Fin 64) : Finite (layer x w b freq j) := by
  obtain ⟨r, hr⟩ := (hf j).mul ((Finite.sum fun q => (hx q).mul (hw q j)).add (hb j))
  exact ⟨Real.sin r, by unfold layer; rw [hr]; rfl⟩

theorem network_finite {n : ℕ} {x : Fin n → EReal} {w1 : Fin n → Fin 64 → EReal} {b1 : Fin 64 → EReal} {w2 : Fin 64 → Fin 64 → EReal} {b2 freq : Fin 64 → EReal}
    {w3 : Fin 64 → Fin 512 → EReal} (hx : ∀ q, Finite (x q)) (h1 : ∀ q j, Finite (w1 q j)) (hb1 : ∀ j, Finite (b1 j)) (h2 : ∀ q j, Finite (w2 q j))
    (hb2 : ∀ j, Finite (b2 j)) (hf : ∀ j, Finite (freq j)) (h3 : ∀ q o, Finite (w3 q o)) (o : Fin 512) : Finite (network x w1 b1 w2 b2 freq w3 o) :=
  Finite.sum fun j => (layer_finite (layer_finite hx h1 hb1 hf) h2 hb2 hf j).mul (h3 j o)

/-! ## The circle and its folding -/

/-- The forward half, a zero, and the backward half turned around without its first row. -/
def circle (f g : ℕ → ℝ) (n : ℕ) : ℝ := if n < 2048 then f n else if n = 2048 then 0 else g (4096 - n)

/-- A sum around the circle against a table that is even or odd about its middle, folded. -/
theorem folded (e f g : ℕ → ℝ) (σ : ℝ) (he : ∀ n, n ≤ 4096 → e (4096 - n) = σ * e n) :
    ∑ n ∈ Finset.range 4096, e n * circle f g n = ∑ s ∈ Finset.range 2048, e s * (f s + σ * (if s = 0 then 0 else g s)) := by
  have split := Finset.sum_range_add (fun n => e n * circle f g n) 2048 2048
  have first : ∑ n ∈ Finset.range 2048, e n * circle f g n = ∑ n ∈ Finset.range 2048, e n * f n :=
    Finset.sum_congr rfl fun n hn => by unfold circle; rw [if_pos (Finset.mem_range.mp hn)]
  have second : ∑ x ∈ Finset.range 2048, e (2048 + x) * circle f g (2048 + x) = ∑ s ∈ Finset.range 2048, e s * (σ * (if s = 0 then 0 else g s)) := by
    rw [Finset.sum_range_succ' _ 2047, Finset.sum_range_succ' (fun s => e s * (σ * (if s = 0 then 0 else g s))) 2047]
    have z : circle f g (2048 + 0) = 0 := by unfold circle; rw [if_neg (by omega), if_pos (by omega)]
    rw [z, if_pos rfl, mul_zero, mul_zero, mul_zero, add_zero, add_zero]
    rw [← Finset.sum_range_reflect]
    refine Finset.sum_congr rfl fun j hj => ?_
    have hj := Finset.mem_range.mp hj
    rw [show 2048 + (2047 - 1 - j + 1) = 4096 - (j + 1) by omega, he (j + 1) (by omega)]
    unfold circle
    rw [if_neg (by omega), if_neg (by omega), if_neg (by omega), show 4096 - (4096 - (j + 1)) = j + 1 by omega]
    ring
  refine split.trans ?_
  rw [first, second, ← Finset.sum_add_distrib]
  exact Finset.sum_congr rfl fun s _ => (mul_add _ _ _).symm

theorem around (n : ℕ) (h : n ≤ 4096) (k : ℕ) : (k : ℝ) * (step * ((4096 - n : ℕ) : ℝ)) = k * (2 * Real.pi) - k * (step * n) := by
  rw [Nat.cast_sub h]; unfold step; push_cast; ring

theorem cosine_even (k n : ℕ) (h : n ≤ 4096) : cosine k (4096 - n) = 1 * cosine k n := by
  unfold cosine; rw [around n h k, Real.cos_nat_mul_two_pi_sub, one_mul]

theorem sine_odd (k n : ℕ) (h : n ≤ 4096) : sine k (4096 - n) = -1 * sine k n := by
  unfold sine; rw [around n h k, Real.sin_nat_mul_two_pi_sub, neg_one_mul]

/-- The two filters' sum and difference, the backward one without its first row. -/
def evenPart (f g : ℕ → ℝ) (s : ℕ) : ℝ := f s + (if s = 0 then 0 else g s)
def oddPart (f g : ℕ → ℝ) (s : ℕ) : ℝ := f s - (if s = 0 then 0 else g s)

/-- The circle's cosine and sine sums are those of the folded filters. -/
theorem circle_cosines (f g : ℕ → ℝ) (k : ℕ) : ∑ n ∈ Finset.range 4096, cosine k n * circle f g n = cosines (evenPart f g) k := by
  refine (folded (cosine k) f g 1 (cosine_even k)).trans (Finset.sum_congr rfl fun s _ => ?_)
  unfold evenPart; rw [one_mul]

theorem circle_sines (f g : ℕ → ℝ) (k : ℕ) : ∑ n ∈ Finset.range 4096, sine k n * circle f g n = sines (oddPart f g) k := by
  refine (folded (sine k) f g (-1) (sine_odd k)).trans (Finset.sum_congr rfl fun s _ => ?_)
  unfold oddPart; ring

/-- At the highest frequency the cosines are the signs. -/
theorem highest (v : ℕ → ℝ) : cosines v 2048 = signs v := by
  unfold cosines signs
  refine Finset.sum_congr rfl fun s _ => ?_
  have h : cosine 2048 s = alternating s := by
    have := nyquist_cosine (s : ℤ)
    rw [alternating_eq, cosine]
    push_cast
    rw [zpow_natCast, Int.cast_natCast] at this
    exact this
  rw [h, mul_comm]

end Cert.Filter

end
-- ==== Proof.Filter.Payloads.lean ====
/- The filter kernel's body, over the extended reals: each array it stores, at one element, from the arrays it loads. -/
module

public import proofs.«01_k».proof.Proof.Filter.Network
public import proofs.«01_k».proof.Proof.InProj.Rows
public import proofs.«01_k».proof.Proof.Gen.Kernel5Ideal.Skeleton

@[expose] public section

noncomputable section

namespace Cert.Kernel5Ideal.Filter

open Cert.Kernel5Ideal Cert.Kernel5Ideal.Gen Cert.Rows Cert.Hyena Cert.Filter Cert.OutProj
open Idealize.ShloMosaic Idealize.ShloMosaic.TcCoe Idealize.SL.Sem Idealize.ShloMosaic.ValueIdx
open scoped BigOperators

/-- A product taken at full precision, into a zero accumulator, at an element. -/
theorem precise_product {M K N : ℕ} {φ₁ φ₂ : FTy} (a : FVec Ideal ⟨2, ![M, K]⟩ φ₁) (b : FVec Ideal ⟨2, ![K, N]⟩ φ₂) (r : Fin M) (n : Fin N) :
    FloatOps.matmul (DotDims.plain M K N) (some .fp32) a b (constant ⟨2, ![M, N]⟩ .f32 0x00000000#32) (ix2 r n)
      = ∑ k : Fin K, a (ix2 r k) * b (ix2 k n) := by
  refine (Ideal.matmul_plain_apply (some .fp32) a b _ r n).trans ?_
  rw [constant_apply, show Ideal.ofBits .f32 0x00000000#32 = 0 from Ideal.ofBits_zero_f32, zero_add]

/-- A row of sixty-four, put under each of 256 rows. -/
theorem lane_apply (x : Vec Ideal S1x64 .f32) (r : Fin 256) (j : Fin 64) :
    broadcastTo S256x64 (shapeCast S1x64 x shapeCasts_S1x64_S1x64) broadcasts_S1x64_S256x64 (ix2 r j) = x (ix2 0 j) :=
  (broadcastTo_apply _ broadcasts_S1x64_S256x64 (ix2 r j) (ix2 0 j) fun a => match a with
    | ⟨0, _⟩ => rfl
    | ⟨1, _⟩ => rfl).trans (shapeCast_apply x shapeCasts_S1x64_S1x64 (ix2 0 j) (ix2 0 j) rfl)

section Chunk

variable (v41 : Vec Ideal S1x64 .f32) (v44 : Vec Ideal S256x128 .f32) (v46 : Vec Ideal S128x64 .f32) (v49 : Vec Ideal S1x64 .f32)
  (v56 : Vec Ideal S64x64 .f32) (v58 : Vec Ideal S1x64 .f32) (v65 : Vec Ideal S64x512 .f32) (v68 : Vec Ideal S256x256 .f32)

/-- The network's output at a position of a chunk. -/
abbrev chunk (r : Fin 256) (o : Fin 512) : EReal :=
  network (fun q : Fin 128 => v44 (ix2 r q)) (fun q j => v46 (ix2 q j)) (fun j => v49 (ix2 0 j)) (fun q j => v56 (ix2 q j)) (fun j => v58 (ix2 0 j))
    (fun j => v41 (ix2 0 j)) (fun j o => v65 (ix2 j o)) o

theorem pay2_apply (r : Fin 256) (o : Fin 512) : k0_pay2 (F := Ideal) v41 v44 v46 v49 v56 v58 v65 (ix2 r o) = chunk v41 v44 v46 v49 v56 v58 v65 r o := by
  unfold k0_pay2
  refine (precise_product (φ₁ := .f32) (φ₂ := .f32) _ _ r o).trans (Finset.sum_congr rfl fun j _ => congrArg (fun a : EReal => a * v65 (ix2 j o)) ?_)
  refine congrArg Ideal.sin (congrArg₂ (fun a b : EReal => a * b) (lane_apply v41 r j) (congrArg₂ (fun a b : EReal => a + b) ?_ (lane_apply v58 r j)))
  refine (precise_product (φ₁ := .f32) (φ₂ := .f32) _ _ r j).trans (Finset.sum_congr rfl fun i _ => congrArg (fun a : EReal => a * v56 (ix2 i j)) ?_)
  refine congrArg Ideal.sin (congrArg₂ (fun a b : EReal => a * b) (lane_apply v41 r i) (congrArg₂ (fun a b : EReal => a + b) ?_ (lane_apply v49 r i)))
  refine (precise_product (φ₁ := .f32) (φ₂ := .f32) _ _ r i).trans (Finset.sum_congr rfl fun q _ => ?_)
  exact congrArg₂ (fun a b : EReal => a * b) (shapeCast_apply v44 shapeCasts_S256x128_S256x128 (ix2 r q) (ix2 r q) rfl)
    (shapeCast_apply v46 shapeCasts_S128x64_S128x64 (ix2 q i) (ix2 q i) rfl)

/-- The forward filter's chunk, and the backward one's. -/
theorem pay4_apply (r ch : Fin 256) : k0_pay4 (F := Ideal) v41 v44 v46 v49 v56 v58 v65 v68 (ix2 r ch)
    = chunk v41 v44 v46 v49 v56 v58 v65 r ⟨ch.val, by omega⟩ * v68 (ix2 r ch) := by
  unfold k0_pay4
  refine congrArg (fun a : EReal => a * v68 (ix2 r ch)) (Eq.trans ?_ (pay2_apply v41 v44 v46 v49 v56 v58 v65 r ⟨ch.val, by omega⟩))
  show k0_pay2 (F := Ideal) v41 v44 v46 v49 v56 v58 v65 _ = _
  refine congrArg _ (funext fun a => Fin.ext ?_)
  match a with
  | ⟨0, _⟩ => exact Nat.zero_add _
  | ⟨1, _⟩ => exact Nat.zero_add _

theorem pay6_apply (r ch : Fin 256) : k0_pay6 (F := Ideal) v41 v44 v46 v49 v56 v58 v65 v68 (ix2 r ch)
    = chunk v41 v44 v46 v49 v56 v58 v65 r ⟨256 + ch.val, by omega⟩ * v68 (ix2 r ch) := by
  unfold k0_pay6
  refine congrArg (fun a : EReal => a * v68 (ix2 r ch)) (Eq.trans ?_ (pay2_apply v41 v44 v46 v49 v56 v58 v65 r ⟨256 + ch.val, by omega⟩))
  show k0_pay2 (F := Ideal) v41 v44 v46 v49 v56 v58 v65 _ = _
  refine congrArg _ (funext fun a => Fin.ext ?_)
  match a with
  | ⟨0, _⟩ => exact Nat.zero_add _
  | ⟨1, _⟩ => rfl

end Chunk

/-! ## Folding a chunk -/

/-- The test for the zeroth row of all. -/
theorem zeroth_row : ∀ (k : Fin k0_t1_loop.trips) (r : Fin 256),
    Scalar.cmpi .eq (Scalar.addi (Scalar.muli (Scf.iv 0#32 1#32 k) 256#32) (BitVec.ofNat 32 (0 * 256 + r.val))) 0#32
      = if 256 * k.val + r.val = 0 then 1#1 else 0#1 := by decide +kernel

/-- One less twice a place's low bit is the alternating sign. -/
theorem sign_word : ∀ (k : Fin k0_t1_loop.trips) (r : Fin 256),
    (Scalar.subi 1#32 (Scalar.muli 2#32 (Scalar.andi (Scalar.addi (Scalar.muli (Scf.iv 0#32 1#32 k) 256#32) (BitVec.ofNat 32 (0 * 256 + r.val))) 1#32))).toInt
      = if (256 * k.val + r.val) % 2 = 0 then 1 else -1 := by decide +kernel

theorem sign_eq (n : ℕ) (b : BitVec 32) (h : b.toInt = if n % 2 = 0 then 1 else -1) : ((b.toInt : ℝ) : EReal) = ((alternating n : ℝ) : EReal) := by
  rw [h]
  unfold alternating
  by_cases e : n % 2 = 0
  · rw [if_pos e, if_pos e, Int.cast_one]
  · rw [if_neg e, if_neg e, Int.cast_neg, Int.cast_one]

section Fold

variable (k : Fin k0_t1_loop.trips) (v73 v77 : FVec Ideal S256x256 .f32) (r ch : Fin 256)

/-- The zero the kernel writes over the backward filter's zeroth row. -/
abbrev zeroed : Ideal .f32 := Scalar.ofBits (F := Ideal) .f32 0x00000000#32

theorem pay8_apply : k0_pay8 (F := Ideal) (k0_pay5 0#32 1#32 k) v77 zeroed (ix2 r ch) = if 256 * k.val + r.val = 0 then 0 else v77 (ix2 r ch) := by
  unfold k0_pay8 k0_pay5 k0_pay3
  show Scalar.select (Scalar.cmpi .eq (Scalar.addi (Scalar.muli (Scf.iv 0#32 1#32 k) 256#32) (BitVec.ofNat 32 (0 * 256 + r.val))) 0#32)
    (Ideal.ofBits .f32 0x00000000#32) (v77 (ix2 r ch)) = _
  rw [zeroth_row, show Ideal.ofBits .f32 0x00000000#32 = 0 from Ideal.ofBits_zero_f32]
  split_ifs <;> rfl

theorem pay9_apply : k0_pay9 (F := Ideal) v73 (k0_pay5 0#32 1#32 k) v77 zeroed (ix2 r ch)
    = v73 (ix2 r ch) + (if 256 * k.val + r.val = 0 then 0 else v77 (ix2 r ch)) := by
  unfold k0_pay9
  exact congrArg (fun a : EReal => v73 (ix2 r ch) + a) (pay8_apply k v77 r ch)

theorem pay13_apply : k0_pay13 (F := Ideal) v73 (k0_pay5 0#32 1#32 k) v77 zeroed (ix2 r ch)
    = v73 (ix2 r ch) - (if 256 * k.val + r.val = 0 then 0 else v77 (ix2 r ch)) := by
  unfold k0_pay13
  exact congrArg (fun a : EReal => v73 (ix2 r ch) - a) (pay8_apply k v77 r ch)

theorem pay11_apply : k0_pay11 (F := Ideal) v73 (k0_pay5 0#32 1#32 k) v77 zeroed (ix2 r ch)
    = v73 (ix2 r ch) + (if 256 * k.val + r.val = 0 then 0 else v77 (ix2 r ch)) := by
  unfold k0_pay11
  refine (shapeCast_apply _ shapeCasts_S256x256_S256x256 (ix2 r ch) (ix2 r ch) rfl).trans ?_
  exact pay9_apply k v73 v77 r ch

theorem pay15_apply : k0_pay15 (F := Ideal) v73 (k0_pay5 0#32 1#32 k) v77 zeroed (ix2 r ch)
    = v73 (ix2 r ch) - (if 256 * k.val + r.val = 0 then 0 else v77 (ix2 r ch)) := by
  unfold k0_pay15
  refine (shapeCast_apply _ shapeCasts_S256x256_S256x256 (ix2 r ch) (ix2 r ch) rfl).trans ?_
  exact pay13_apply k v73 v77 r ch

/-- The remainders of rounding are differences of a number and itself. -/
theorem pay12_apply : k0_pay12 (F := Ideal) v73 (k0_pay5 0#32 1#32 k) v77 zeroed (ix2 r ch)
    = (v73 (ix2 r ch) + (if 256 * k.val + r.val = 0 then 0 else v77 (ix2 r ch))) - (v73 (ix2 r ch) + (if 256 * k.val + r.val = 0 then 0 else v77 (ix2 r ch))) := by
  unfold k0_pay12
  refine (shapeCast_apply _ shapeCasts_S256x256_S256x256 (ix2 r ch) (ix2 r ch) rfl).trans ?_
  exact congrArg (fun a : EReal => a - a) (pay9_apply k v73 v77 r ch)

theorem pay16_apply : k0_pay16 (F := Ideal) v73 (k0_pay5 0#32 1#32 k) v77 zeroed (ix2 r ch)
    = (v73 (ix2 r ch) - (if 256 * k.val + r.val = 0 then 0 else v77 (ix2 r ch))) - (v73 (ix2 r ch) - (if 256 * k.val + r.val = 0 then 0 else v77 (ix2 r ch))) := by
  unfold k0_pay16
  refine (shapeCast_apply _ shapeCasts_S256x256_S256x256 (ix2 r ch) (ix2 r ch) rfl).trans ?_
  exact congrArg (fun a : EReal => a - a) (pay13_apply k v73 v77 r ch)

/-- A chunk's alternating sum, added to what was summed before. -/
theorem pay17_apply (acc : FVec Ideal S1x256 .f32) : k0_pay17 (F := Ideal) acc (k0_pay3 0#32 1#32 k) v73 (k0_pay5 0#32 1#32 k) v77 zeroed (ix2 0 ch)
    = acc (ix2 0 ch) + ∑ r : Fin 256, (v73 (ix2 r ch) + (if 256 * k.val + r.val = 0 then 0 else v77 (ix2 r ch))) * ((alternating (256 * k.val + r.val) : ℝ) : EReal) := by
  unfold k0_pay17
  refine congrArg (fun a : EReal => acc (ix2 0 ch) + a) ?_
  refine (shapeCast_apply _ shapeCasts_S256_S1x256 (ix2 0 ch) (ix1 ch) (by
    rewrite [Shape.rowMajor_val_one, Shape.rowMajor_val_two]; show ch.val = 0 * 256 + ch.val; omega)).trans ?_
  refine (Ideal.multiReduction_add_single _ _ reduces_S256x256_S256 (.inl rfl) rfl (ix1 ch)).trans ?_
  refine Finset.sum_congr rfl fun s _ => ?_
  have e : reduces_S256x256_S256.lift (ix1 ch) s = ix2 s ch := by
    funext a; apply Fin.ext
    match a with
    | ⟨0, _⟩ => rfl
    | ⟨1, _⟩ => rfl
  rw [e]
  exact congrArg₂ (fun a b : EReal => a * b) (pay9_apply k v73 v77 s ch) (sign_eq (256 * k.val + s.val) _ (sign_word k s))

end Fold

theorem pay7_apply (ch : Fin 256) : k0_pay7 (F := Ideal) (ix2 0 ch) = 0 := Ideal.ofBits_zero_f32

/-- The alternating sums, the same in each of eight rows. -/
theorem pay18_apply (v : FVec Ideal S1x256 .f32) (r : Fin 8) (ch : Fin 256) : k0_pay18 (F := Ideal) v (ix2 r ch) = v (ix2 0 ch) := by
  unfold k0_pay18
  exact (broadcastTo_apply _ broadcasts_S1x256_S8x256 (ix2 r ch) (ix2 0 ch) fun a => match a with
    | ⟨0, _⟩ => rfl
    | ⟨1, _⟩ => rfl).trans (shapeCast_apply v shapeCasts_S1x256_S1x256 (ix2 0 ch) (ix2 0 ch) rfl)

/-- A block of a table against a scratch array. -/
theorem table_product (x : Vec Ideal S256x2048 .bf16) (y : Vec Ideal S2048x256 .bf16) (r ch : Fin 256) :
    FloatOps.matmul (F := Ideal) (φ₁ := .bf16) (φ₂ := .bf16) dot_S256x2048_S2048x256_S256x256_1_0_0_1_n_n none
        (shapeCast S256x2048 x shapeCasts_S256x2048_S256x2048 : FVec Ideal S256x2048 .bf16) y (constant S256x256 .f32 0x00000000#32) (ix2 r ch)
      = ∑ s : Fin 2048, x (ix2 r s) * y (ix2 s ch) :=
  (product_apply (φ₁ := .bf16) (φ₂ := .bf16) _ _ r ch).trans (Finset.sum_congr rfl fun s _ => congrArg (· * y (ix2 s ch))
    (shapeCast_apply x shapeCasts_S256x2048_S256x2048 (ix2 r s) (ix2 r s) rfl))

theorem pay19_apply (x1 x2 x3 : Vec Ideal S256x2048 .bf16) (y1 y2 y3 : Vec Ideal S2048x256 .bf16) (r ch : Fin 256) :
    k0_pay19 (F := Ideal) x1 y1 x2 y2 x3 y3 (ix2 r ch)
      = (∑ s : Fin 2048, x1 (ix2 r s) * y1 (ix2 s ch) + ∑ s : Fin 2048, x2 (ix2 r s) * y2 (ix2 s ch)) + ∑ s : Fin 2048, x3 (ix2 r s) * y3 (ix2 s ch) := by
  unfold k0_pay19
  exact congrArg₂ (fun a b : EReal => a + b) (congrArg₂ (fun a b : EReal => a + b) (table_product x1 y1 r ch) (table_product x2 y2 r ch)) (table_product x3 y3 r ch)

theorem pay20_apply (x1 x2 x3 : Vec Ideal S256x2048 .bf16) (y1 y2 y3 : Vec Ideal S2048x256 .bf16) (r ch : Fin 256) :
    k0_pay1 (F := Ideal) (k0_pay20 (F := Ideal) x1 y1 x2 y2) x3 y3 (ix2 r ch)
      = (∑ s : Fin 2048, x1 (ix2 r s) * y1 (ix2 s ch) + ∑ s : Fin 2048, x2 (ix2 r s) * y2 (ix2 s ch)) + ∑ s : Fin 2048, x3 (ix2 r s) * y3 (ix2 s ch) := by
  unfold k0_pay1 k0_pay20
  exact congrArg₂ (fun a b : EReal => a + b) (congrArg₂ (fun a b : EReal => a + b) (table_product x1 y1 r ch) (table_product x2 y2 r ch)) (table_product x3 y3 r ch)

end Cert.Kernel5Ideal.Filter

end
-- ==== Proof.Filter.Held.lean ====
/- What the filter kernel's first step leaves in its scratch arrays and in its third result's block, over the extended reals. -/
module

public import proofs.«01_k».proof.Proof.Filter.IdealRun
public import proofs.«01_k».proof.Proof.Filter.Payloads
public import Idealize.ShloMosaic.Lib.WholeRead

@[expose] public section

set_option maxRecDepth 16384

noncomputable section

namespace Cert.Kernel5Ideal.Filter

open Cert.Kernel5Ideal Cert.Kernel5Ideal.Gen Cert.Rows Cert.Hyena Cert.Filter Cert.OutProj
open Idealize.ShloMosaic Idealize.ShloMosaic.TcCoe Idealize.SL.Sem Idealize.ShloMosaic.ValueIdx
open scoped BigOperators

section Trips

variable {F : FTy → Type} [FloatOps F] (c : Dev nD) (i : grid0.Coords)
  (arg1 : Memref sig .tc .vmem S2048x128 .f32) (harg1 : arg1.IsWhole)
  (arg2 : Memref sig .tc .vmem S128x64 .f32) (harg2 : arg2.IsWhole)
  (arg3 : Memref sig .tc .vmem S1x64 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S64x512 .f32) (harg7 : arg7.IsWhole)
  (arg8 : Memref sig .tc .vmem S2048x256 .f32) (harg8 : arg8.IsWhole)
  (arg9 : Memref sig .tc .vmem S256x2048 .bf16) (harg9 : arg9.IsWhole)
  (arg10 : Memref sig .tc .vmem S256x2048 .bf16) (harg10 : arg10.IsWhole)
  (arg11 : Memref sig .tc .vmem S256x2048 .bf16) (harg11 : arg11.IsWhole)
  (arg12 : Memref sig .tc .vmem S256x2048 .bf16) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S8x256 .f32) (harg15 : arg15.IsWhole)
  (arg16 : Memref sig .tc .vmem S2048x256 .bf16) (harg16 : arg16.IsWhole)
  (arg17 : Memref sig .tc .vmem S2048x256 .bf16) (harg17 : arg17.IsWhole)
  (arg18 : Memref sig .tc .vmem S2048x256 .bf16) (harg18 : arg18.IsWhole)
  (arg19 : Memref sig .tc .vmem S2048x256 .bf16) (harg19 : arg19.IsWhole)

/-- What a trip carries on. -/
theorem trip_result (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) (acc : FVec F S1x256 .f32) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k acc
      = k0_pay17 (F := F) acc (k0_pay3 0#32 1#32 k) (k0_pay4 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (k0_pay5 0#32 1#32 k) (k0_pay6 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (Scalar.ofBits .f32 0x00000000#32) := by
  unfold tripR_k0_t1 trip_k0_t1
  rfl

/-- A trip's stores, one into each scratch array. -/
theorem trip_stores (h : k0_cond1 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (k : Fin k0_t1_loop.trips) (acc : FVec F S1x256 .f32) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h X1 X2 X3 X4 X5 X6 X7 X8 k acc
      = ([⟨Rect.unit (s := S2048x256) (k0_off2 k) S256x256.size (k0_off2_inb i k h), k0_pay11 (F := F) (k0_pay4 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (k0_pay5 0#32 1#32 k) (k0_pay6 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (Scalar.ofBits .f32 0x00000000#32)⟩],
        [⟨Rect.unit (s := S2048x256) (k0_off2 k) S256x256.size (k0_off2_inb i k h), k0_pay12 (F := F) (k0_pay4 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (k0_pay5 0#32 1#32 k) (k0_pay6 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (Scalar.ofBits .f32 0x00000000#32)⟩],
        [⟨Rect.unit (s := S2048x256) (k0_off2 k) S256x256.size (k0_off2_inb i k h), k0_pay15 (F := F) (k0_pay4 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (k0_pay5 0#32 1#32 k) (k0_pay6 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (Scalar.ofBits .f32 0x00000000#32)⟩],
        [⟨Rect.unit (s := S2048x256) (k0_off2 k) S256x256.size (k0_off2_inb i k h), k0_pay16 (F := F) (k0_pay4 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (k0_pay5 0#32 1#32 k) (k0_pay6 (F := F) (View.readAt (Elt F) arg6.view (Rect.unit (s := S1x64) ![0, 0] S1x64.size inb_S1x64_S1x64_0_0).toLoadRect X6) (View.readAt (Elt F) arg1.view (Rect.unit (s := S2048x128) (k0_off1 k) S256x128.size (k0_off1_inb i k h)).toLoadRect X1) (View.readAt (Elt F) arg2.view (Rect.unit (s := S128x64) ![0, 0] S128x64.size inb_S128x64_S128x64_0_0).toLoadRect X2) (View.readAt (Elt F) arg3.view (Rect.unit (s := S1x64) ![0, 0] S1x64.size inb_S1x64_S1x64_0_0).toLoadRect X3) (View.readAt (Elt F) arg4.view (Rect.unit (s := S64x64) ![0, 0] S64x64.size inb_S64x64_S64x64_0_0).toLoadRect X4) (View.readAt (Elt F) arg5.view (Rect.unit (s := S1x64) ![0, 0] S1x64.size inb_S1x64_S1x64_0_0).toLoadRect X5) (View.readAt (Elt F) arg7.view (Rect.unit (s := S64x512) ![0, 0] S64x512.size inb_S64x512_S64x512_0_0).toLoadRect X7) (View.readAt (Elt F) arg8.view (Rect.unit (s := S2048x256) (k0_off2 k) S256x256.size (k0_off2_inb i k h)).toLoadRect X8)) (Scalar.ofBits .f32 0x00000000#32)⟩]) := by
  unfold tripL_k0_t1 trip_k0_t1
  rfl

end Trips

/-- A loaded element is the array's element at the load's offset. -/
theorem place2 {a b a' b' : ℕ} (off : Fin 2 → ℕ) (inb : ∀ d, off d + (⟨2, ![a', b']⟩ : Shape).size d ≤ (⟨2, ![a, b]⟩ : Shape).size d)
    (r : Fin a') (ch : Fin b') (r' : Fin a) (ch' : Fin b) (h0 : off 0 + r.val = r'.val) (h1 : off 1 + ch.val = ch'.val) :
    (Rect.unit (s := ⟨2, ![a, b]⟩) off (⟨2, ![a', b']⟩ : Shape).size inb).toLoadRect.idx (ix2 r ch) = ix2 r' ch' := by
  funext d
  apply Fin.ext
  match d with
  | ⟨0, _⟩ => exact Eq.trans (show _ = off 0 + 1 * r.val from rfl) (by rw [one_mul]; exact h0)
  | ⟨1, _⟩ => exact Eq.trans (show _ = off 1 + 1 * ch.val from rfl) (by rw [one_mul]; exact h1)

section Values

variable (x0 : Vec Ideal S2048x128 .f32) (x1 : Vec Ideal S128x64 .f32) (x2 : Vec Ideal S1x64 .f32) (x3 : Vec Ideal S64x64 .f32) (x4 : Vec Ideal S1x64 .f32)
  (x5 : Vec Ideal S1x64 .f32) (x6 : Vec Ideal S64x512 .f32) (x7 : Vec Ideal S2048x256 .f32)

/-- The network's output at a position. -/
def output (s : Fin 2048) (o : Fin 512) : EReal :=
  network (fun q : Fin 128 => x0 (ix2 s q)) (fun q j => x1 (ix2 q j)) (fun j => x2 (ix2 0 j)) (fun q j => x3 (ix2 q j)) (fun j => x4 (ix2 0 j))
    (fun j => x5 (ix2 0 j)) (fun j o => x6 (ix2 j o)) o

/-- The forward filter and the backward one, which are windowed; and the backward one without its first row. -/
def ahead (s : Fin 2048) (ch : Fin 256) : EReal := output x0 x1 x2 x3 x4 x5 x6 s ⟨ch.val, by omega⟩ * x7 (ix2 s ch)
def behind (s : Fin 2048) (ch : Fin 256) : EReal := output x0 x1 x2 x3 x4 x5 x6 s ⟨256 + ch.val, by omega⟩ * x7 (ix2 s ch)
def rest (s : Fin 2048) (ch : Fin 256) : EReal := if s.val = 0 then 0 else behind x0 x1 x2 x3 x4 x5 x6 x7 s ch

/-- Their sum and their difference. -/
def even (s : Fin 2048) (ch : Fin 256) : EReal := ahead x0 x1 x2 x3 x4 x5 x6 x7 s ch + rest x0 x1 x2 x3 x4 x5 x6 x7 s ch
def odd (s : Fin 2048) (ch : Fin 256) : EReal := ahead x0 x1 x2 x3 x4 x5 x6 x7 s ch - rest x0 x1 x2 x3 x4 x5 x6 x7 s ch

/-- A position's term of the alternating sum. -/
def signed (ch : Fin 256) (s : ℕ) : EReal := if h : s < 2048 then even x0 x1 x2 x3 x4 x5 x6 x7 ⟨s, h⟩ ch * ((alternating s : ℝ) : EReal) else 0

variable (c : Dev nD) (i : grid0.Coords)
  (arg1 : Memref sig .tc .vmem S2048x128 .f32) (harg1 : arg1.IsWhole)
  (arg2 : Memref sig .tc .vmem S128x64 .f32) (harg2 : arg2.IsWhole)
  (arg3 : Memref sig .tc .vmem S1x64 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S64x512 .f32) (harg7 : arg7.IsWhole)
  (arg8 : Memref sig .tc .vmem S2048x256 .f32) (harg8 : arg8.IsWhole)
  (arg9 : Memref sig .tc .vmem S256x2048 .bf16) (harg9 : arg9.IsWhole)
  (arg10 : Memref sig .tc .vmem S256x2048 .bf16) (harg10 : arg10.IsWhole)
  (arg11 : Memref sig .tc .vmem S256x2048 .bf16) (harg11 : arg11.IsWhole)
  (arg12 : Memref sig .tc .vmem S256x2048 .bf16) (harg12 : arg12.IsWhole)
  (arg13 : Memref sig .tc .vmem S256x256 .f32) (harg13 : arg13.IsWhole)
  (arg14 : Memref sig .tc .vmem S256x256 .f32) (harg14 : arg14.IsWhole)
  (arg15 : Memref sig .tc .vmem S8x256 .f32) (harg15 : arg15.IsWhole)
  (arg16 : Memref sig .tc .vmem S2048x256 .bf16) (harg16 : arg16.IsWhole)
  (arg17 : Memref sig .tc .vmem S2048x256 .bf16) (harg17 : arg17.IsWhole)
  (arg18 : Memref sig .tc .vmem S2048x256 .bf16) (harg18 : arg18.IsWhole)
  (arg19 : Memref sig .tc .vmem S2048x256 .bf16) (harg19 : arg19.IsWhole)

/-- A trip's filters, at an element of the chunk. -/
theorem trip_filters (h : k0_cond1 i = 1#1) (k : Fin k0_t1_loop.trips) (r ch : Fin 256) (s : Fin 2048) (hs : 256 * k.val + r.val = s.val) :
    (k0_pay4 (F := Ideal) (View.readAt (Elt Ideal) arg6.view (Rect.unit (s := S1x64) ![0, 0] S1x64.size inb_S1x64_S1x64_0_0).toLoadRect (harg6.unread x5)) (View.readAt (Elt Ideal) arg1.view (Rect.unit (s := S2048x128) (k0_off1 k) S256x128.size (k0_off1_inb i k h)).toLoadRect (harg1.unread x0)) (View.readAt (Elt Ideal) arg2.view (Rect.unit (s := S128x64) ![0, 0] S128x64.size inb_S128x64_S128x64_0_0).toLoadRect (harg2.unread x1)) (View.readAt (Elt Ideal) arg3.view (Rect.unit (s := S1x64) ![0, 0] S1x64.size inb_S1x64_S1x64_0_0).toLoadRect (harg3.unread x2)) (View.readAt (Elt Ideal) arg4.view (Rect.unit (s := S64x64) ![0, 0] S64x64.size inb_S64x64_S64x64_0_0).toLoadRect (harg4.unread x3)) (View.readAt (Elt Ideal) arg5.view (Rect.unit (s := S1x64) ![0, 0] S1x64.size inb_S1x64_S1x64_0_0).toLoadRect (harg5.unread x4)) (View.readAt (Elt Ideal) arg7.view (Rect.unit (s := S64x512) ![0, 0] S64x512.size inb_S64x512_S64x512_0_0).toLoadRect (harg7.unread x6)) (View.readAt (Elt Ideal) arg8.view (Rect.unit (s := S2048x256) (k0_off2 k) S256x256.size (k0_off2_inb i k h)).toLoadRect (harg8.unread x7))) (ix2 r ch) = ahead x0 x1 x2 x3 x4 x5 x6 x7 s ch
    ∧ (k0_pay6 (F := Ideal) (View.readAt (Elt Ideal) arg6.view (Rect.unit (s := S1x64) ![0, 0] S1x64.size inb_S1x64_S1x64_0_0).toLoadRect (harg6.unread x5)) (View.readAt (Elt Ideal) arg1.view (Rect.unit (s := S2048x128) (k0_off1 k) S256x128.size (k0_off1_inb i k h)).toLoadRect (harg1.unread x0)) (View.readAt (Elt Ideal) arg2.view (Rect.unit (s := S128x64) ![0, 0] S128x64.size inb_S128x64_S128x64_0_0).toLoadRect (harg2.unread x1)) (View.readAt (Elt Ideal) arg3.view (Rect.unit (s := S1x64) ![0, 0] S1x64.size inb_S1x64_S1x64_0_0).toLoadRect (harg3.unread x2)) (View.readAt (Elt Ideal) arg4.view (Rect.unit (s := S64x64) ![0, 0] S64x64.size inb_S64x64_S64x64_0_0).toLoadRect (harg4.unread x3)) (View.readAt (Elt Ideal) arg5.view (Rect.unit (s := S1x64) ![0, 0] S1x64.size inb_S1x64_S1x64_0_0).toLoadRect (harg5.unread x4)) (View.readAt (Elt Ideal) arg7.view (Rect.unit (s := S64x512) ![0, 0] S64x512.size inb_S64x512_S64x512_0_0).toLoadRect (harg7.unread x6)) (View.readAt (Elt Ideal) arg8.view (Rect.unit (s := S2048x256) (k0_off2 k) S256x256.size (k0_off2_inb i k h)).toLoadRect (harg8.unread x7))) (ix2 r ch) = behind x0 x1 x2 x3 x4 x5 x6 x7 s ch := by
  have o1 := k0_off1_eq k
  have o2 := k0_off2_eq k
  have n0 (q : Fin 128) : _ = x0 (ix2 s q) := (harg1.readAt_unread x0 _ _).trans (congrArg x0 (place2 _ (k0_off1_inb i k h) r q s q (by rw [o1]; exact hs) (by rw [o1]; exact Nat.zero_add _)))
  have n1 (q : Fin 128) (j : Fin 64) : _ = x1 (ix2 q j) := (harg2.readAt_unread x1 _ _).trans (congrArg x1 (place2 _ inb_S128x64_S128x64_0_0 q j q j (Nat.zero_add _) (Nat.zero_add _)))
  have n2 (j : Fin 64) : _ = x2 (ix2 0 j) := (harg3.readAt_unread x2 _ _).trans (congrArg x2 (place2 _ inb_S1x64_S1x64_0_0 0 j 0 j (Nat.zero_add _) (Nat.zero_add _)))
  have n3 (q : Fin 64) (j : Fin 64) : _ = x3 (ix2 q j) := (harg4.readAt_unread x3 _ _).trans (congrArg x3 (place2 _ inb_S64x64_S64x64_0_0 q j q j (Nat.zero_add _) (Nat.zero_add _)))
  have n4 (j : Fin 64) : _ = x4 (ix2 0 j) := (harg5.readAt_unread x4 _ _).trans (congrArg x4 (place2 _ inb_S1x64_S1x64_0_0 0 j 0 j (Nat.zero_add _) (Nat.zero_add _)))
  have n5 (j : Fin 64) : _ = x5 (ix2 0 j) := (harg6.readAt_unread x5 _ _).trans (congrArg x5 (place2 _ inb_S1x64_S1x64_0_0 0 j 0 j (Nat.zero_add _) (Nat.zero_add _)))
  have n6 (q : Fin 64) (o : Fin 512) : _ = x6 (ix2 q o) := (harg7.readAt_unread x6 _ _).trans (congrArg x6 (place2 _ inb_S64x512_S64x512_0_0 q o q o (Nat.zero_add _) (Nat.zero_add _)))
  have n7 : _ = x7 (ix2 s ch) := (harg8.readAt_unread x7 _ _).trans (congrArg x7 (place2 _ (k0_off2_inb i k h) r ch s ch (by rw [o2]; exact hs) (by rw [o2]; exact Nat.zero_add _)))
  exact ⟨(pay4_apply _ _ _ _ _ _ _ _ r ch).trans (congrArg₂ (fun a b : EReal => a * b) (network_congr n0 n1 n2 n3 n4 n5 n6 _) n7),
    (pay6_apply _ _ _ _ _ _ _ _ r ch).trans (congrArg₂ (fun a b : EReal => a * b) (network_congr n0 n1 n2 n3 n4 n5 n6 _) n7)⟩

/-- The stores of the trips before `n`, and the sum they carry. -/
theorem before_trip (h : k0_cond1 i = 1#1) (n : ℕ) (hn : n ≤ k0_t1_loop.trips) :
    (∀ ch : Fin 256, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 n).1 (ix2 0 ch) = ∑ s ∈ Finset.range (256 * n), signed x0 x1 x2 x3 x4 x5 x6 x7 ch s)
    ∧ (∀ p ∈ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 n).2.1, ∀ x : p.1.shape.Idx, p.2 x = (even x0 x1 x2 x3 x4 x5 x6 x7 (p.1.emb x 0) (p.1.emb x 1)))
    ∧ (∀ p ∈ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 n).2.2.1, ∀ x : p.1.shape.Idx, p.2 x = (even x0 x1 x2 x3 x4 x5 x6 x7 (p.1.emb x 0) (p.1.emb x 1) - even x0 x1 x2 x3 x4 x5 x6 x7 (p.1.emb x 0) (p.1.emb x 1)))
    ∧ (∀ p ∈ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 n).2.2.2.1, ∀ x : p.1.shape.Idx, p.2 x = (odd x0 x1 x2 x3 x4 x5 x6 x7 (p.1.emb x 0) (p.1.emb x 1)))
    ∧ (∀ p ∈ (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 n).2.2.2.2, ∀ x : p.1.shape.Idx, p.2 x = (odd x0 x1 x2 x3 x4 x5 x6 x7 (p.1.emb x 0) (p.1.emb x 1) - odd x0 x1 x2 x3 x4 x5 x6 x7 (p.1.emb x 0) (p.1.emb x 1))) := by
  induction n with
  | zero => exact ⟨fun ch => pay7_apply ch, fun p hp => absurd hp List.not_mem_nil, fun p hp => absurd hp List.not_mem_nil, fun p hp => absurd hp List.not_mem_nil, fun p hp => absurd hp List.not_mem_nil⟩
  | succ n ih =>
    obtain ⟨i0, i1, i2, i3, i4⟩ := ih (by omega)
    have hn8 : n < 8 := lt_of_lt_of_le hn k0_t1_abs.2.1
    have e := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) k0_pay7 ⟨n, hn⟩
    rw [trip_result, trip_stores] at e
    rw [e]
    have o2 := k0_off2_eq ⟨n, hn⟩
    have values (r ch : Fin 256) := trip_filters x0 x1 x2 x3 x4 x5 x6 x7 i arg1 harg1 arg2 harg2 arg3 harg3 arg4 harg4 arg5 harg5 arg6 harg6 arg7 harg7 arg8 harg8 h ⟨n, hn⟩ r ch ⟨256 * n + r.val, by omega⟩ rfl
    have place (r ch : Fin 256) := place2 (a := 2048) (b := 256) (a' := 256) (b' := 256) (k0_off2 ⟨n, hn⟩) (k0_off2_inb i ⟨n, hn⟩ h) r ch
      ⟨256 * n + r.val, by omega⟩ ch (by rw [o2]; rfl) (by rw [o2]; exact Nat.zero_add _)
    refine ⟨fun ch => ?_, ?_, ?_, ?_, ?_⟩
    · refine (pay17_apply ⟨n, hn⟩ _ _ ch _).trans ?_
      rw [i0 ch, Nat.mul_succ, Finset.sum_range_add]
      refine congrArg (fun a : EReal => _ + a) ?_
      rw [Finset.sum_range]
      refine Finset.sum_congr rfl fun r _ => ?_
      rw [(values r ch).1, (values r ch).2]
      unfold signed
      rw [dif_pos (by omega)]
      rfl
    · intro p hp
      rcases List.mem_append.mp hp with hp | hp
      · rcases List.mem_cons.mp hp with rfl | hp
        · intro x
          obtain ⟨r, ch, rfl⟩ : ∃ (r ch : Fin 256), x = ix2 r ch := ⟨_, _, eq_ix2 x⟩
          refine (pay11_apply ⟨n, hn⟩ _ _ r ch).trans ?_
          refine Eq.trans ?_ (congrArg (fun y : S2048x256.Idx => (even x0 x1 x2 x3 x4 x5 x6 x7 (y 0) (y 1))) (place r ch).symm)
          rw [(values r ch).1, (values r ch).2]
          rfl
        · exact absurd hp List.not_mem_nil
      · exact i1 p hp
    · intro p hp
      rcases List.mem_append.mp hp with hp | hp
      · rcases List.mem_cons.mp hp with rfl | hp
        · intro x
          obtain ⟨r, ch, rfl⟩ : ∃ (r ch : Fin 256), x = ix2 r ch := ⟨_, _, eq_ix2 x⟩
          refine (pay12_apply ⟨n, hn⟩ _ _ r ch).trans ?_
          refine Eq.trans ?_ (congrArg (fun y : S2048x256.Idx => (even x0 x1 x2 x3 x4 x5 x6 x7 (y 0) (y 1) - even x0 x1 x2 x3 x4 x5 x6 x7 (y 0) (y 1))) (place r ch).symm)
          rw [(values r ch).1, (values r ch).2]
          rfl
        · exact absurd hp List.not_mem_nil
      · exact i2 p hp
    · intro p hp
      rcases List.mem_append.mp hp with hp | hp
      · rcases List.mem_cons.mp hp with rfl | hp
        · intro x
          obtain ⟨r, ch, rfl⟩ : ∃ (r ch : Fin 256), x = ix2 r ch := ⟨_, _, eq_ix2 x⟩
          refine (pay15_apply ⟨n, hn⟩ _ _ r ch).trans ?_
          refine Eq.trans ?_ (congrArg (fun y : S2048x256.Idx => (odd x0 x1 x2 x3 x4 x5 x6 x7 (y 0) (y 1))) (place r ch).symm)
          rw [(values r ch).1, (values r ch).2]
          rfl
        · exact absurd hp List.not_mem_nil
      · exact i3 p hp
    · intro p hp
      rcases List.mem_append.mp hp with hp | hp
      · rcases List.mem_cons.mp hp with rfl | hp
        · intro x
          obtain ⟨r, ch, rfl⟩ : ∃ (r ch : Fin 256), x = ix2 r ch := ⟨_, _, eq_ix2 x⟩
          refine (pay16_apply ⟨n, hn⟩ _ _ r ch).trans ?_
          refine Eq.trans ?_ (congrArg (fun y : S2048x256.Idx => (odd x0 x1 x2 x3 x4 x5 x6 x7 (y 0) (y 1) - odd x0 x1 x2 x3 x4 x5 x6 x7 (y 0) (y 1))) (place r ch).symm)
          rw [(values r ch).1, (values r ch).2]
          rfl
        · exact absurd hp List.not_mem_nil
      · exact i4 p hp

theorem held16_apply (h : k0_cond1 i = 1#1) (s : Fin 2048) (ch : Fin 256) :
    held16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7 (ix2 s ch) = (even x0 x1 x2 x3 x4 x5 x6 x7 s ch) := by
  unfold held16
  refine View.read_writes_apply_of_pieces (Val := Elt Ideal) arg16.view _ (fun y : S2048x256.Idx => (even x0 x1 x2 x3 x4 x5 x6 x7 (y 0) (y 1))) _ ?_ (ix2 s ch)
    (cover16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) (ix2 s ch))
  exact (before_trip x0 x1 x2 x3 x4 x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h _ le_rfl).2.1

theorem held17_apply (h : k0_cond1 i = 1#1) (s : Fin 2048) (ch : Fin 256) :
    held17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7 (ix2 s ch) = (even x0 x1 x2 x3 x4 x5 x6 x7 s ch - even x0 x1 x2 x3 x4 x5 x6 x7 s ch) := by
  unfold held17
  refine View.read_writes_apply_of_pieces (Val := Elt Ideal) arg17.view _ (fun y : S2048x256.Idx => (even x0 x1 x2 x3 x4 x5 x6 x7 (y 0) (y 1) - even x0 x1 x2 x3 x4 x5 x6 x7 (y 0) (y 1))) _ ?_ (ix2 s ch)
    (cover17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) (ix2 s ch))
  exact (before_trip x0 x1 x2 x3 x4 x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h _ le_rfl).2.2.1

theorem held18_apply (h : k0_cond1 i = 1#1) (s : Fin 2048) (ch : Fin 256) :
    held18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7 (ix2 s ch) = (odd x0 x1 x2 x3 x4 x5 x6 x7 s ch) := by
  unfold held18
  refine View.read_writes_apply_of_pieces (Val := Elt Ideal) arg18.view _ (fun y : S2048x256.Idx => (odd x0 x1 x2 x3 x4 x5 x6 x7 (y 0) (y 1))) _ ?_ (ix2 s ch)
    (cover18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) (ix2 s ch))
  exact (before_trip x0 x1 x2 x3 x4 x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h _ le_rfl).2.2.2.1

theorem held19_apply (h : k0_cond1 i = 1#1) (s : Fin 2048) (ch : Fin 256) :
    held19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7 (ix2 s ch) = (odd x0 x1 x2 x3 x4 x5 x6 x7 s ch - odd x0 x1 x2 x3 x4 x5 x6 x7 s ch) := by
  unfold held19
  refine View.read_writes_apply_of_pieces (Val := Elt Ideal) arg19.view _ (fun y : S2048x256.Idx => (odd x0 x1 x2 x3 x4 x5 x6 x7 (y 0) (y 1) - odd x0 x1 x2 x3 x4 x5 x6 x7 (y 0) (y 1))) _ ?_ (ix2 s ch)
    (cover19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h (harg1.unread x0) (harg2.unread x1) (harg3.unread x2) (harg4.unread x3) (harg5.unread x4) (harg6.unread x5) (harg7.unread x6) (harg8.unread x7) (ix2 s ch))
  exact (before_trip x0 x1 x2 x3 x4 x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h _ le_rfl).2.2.2.2

theorem trips_eq : k0_t1_loop.trips = 8 := by decide +kernel

theorem alt_apply (h : k0_cond1 i = 1#1) (r : Fin 8) (ch : Fin 256) :
    alt (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h x0 x1 x2 x3 x4 x5 x6 x7 (ix2 r ch) = ∑ s : Fin 2048, even x0 x1 x2 x3 x4 x5 x6 x7 s ch * ((alternating s.val : ℝ) : EReal) := by
  unfold alt
  refine (pay18_apply _ r ch).trans (((before_trip x0 x1 x2 x3 x4 x5 x6 x7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h _ le_rfl).1 ch).trans ?_)
  rw [trips_eq, Finset.sum_range]
  refine Finset.sum_congr rfl fun s _ => ?_
  unfold signed
  rw [dif_pos s.isLt]

end Values

end Cert.Kernel5Ideal.Filter

end
-- ==== Proof.Filter.Value.lean ====
/- What the filter kernel's run leaves in its results: every grid point writes back its own 256 rows of the first two, and the last
   point writes back the third. -/
module

public import proofs.«01_k».proof.Proof.Filter.IdealFrame
public import Idealize.ShloMosaic.Lib.Pipeline.Value

@[expose] public section

noncomputable section

namespace Cert.Kernel5Ideal.Filter

open Idealize.ShloMosaic Idealize.ShloMosaic.TcCoe Idealize.SL.Sem
open Cert.Kernel5Ideal Cert.Kernel5Ideal.Gen

variable {F : FTy → Type} [FloatOps F]
variable (m : (ℓ : Loc nD τ sig) → Buf (Elt F) ℓ) (ρ : Dev nD → PrngReg)

/-- What point `t` writes back. -/
theorem flushed12 (c : Dev nD) (t : Fin cfg0.N) :
    (dats m 0 c).flushed 12 t = (cfg0.win 12).cut (grid0.coords t) (outC (iblk m c 8 t) (iblk m c 9 t) (scr0 m c) (scr1 m c)) := by
  show (cfg0.win 12).cut (grid0.coords t) ((dats m 0 c).after 12 t) = _
  rw [after_12]

theorem flushed13 (c : Dev nD) (t : Fin cfg0.N) :
    (dats m 0 c).flushed 13 t = (cfg0.win 13).cut (grid0.coords t) (outS (iblk m c 10 t) (iblk m c 11 t) (scr2 m c) (scr3 m c)) := by
  show (cfg0.win 13).cut (grid0.coords t) ((dats m 0 c).after 13 t) = _
  rw [after_13]

theorem flushed14 (c : Dev nD) (t : Fin cfg0.N) :
    (dats m 0 c).flushed 14 t = (cfg0.win 14).cut (grid0.coords t) (altRow m c) := by
  show (cfg0.win 14).cut (grid0.coords t) ((dats m 0 c).after 14 t) = _
  rw [after_14]

/-- Distinct points write distinct blocks of the first two results, and every point writes its blocks back. -/
theorem apart12 : ∀ t t' : Fin cfg0.N, win0_12.index t = win0_12.index t' → t = t' :=
  (by decide +kernel : ∀ t t' : Fin grid0.N, win0_12.index t = win0_12.index t' → t = t')
theorem apart13 : ∀ t t' : Fin cfg0.N, win0_13.index t = win0_13.index t' → t = t' :=
  (by decide +kernel : ∀ t t' : Fin grid0.N, win0_13.index t = win0_13.index t' → t = t')

theorem written12 : ∀ t : Fin cfg0.N, (cfg0.win 12).flush t = true :=
  (by decide +kernel : ∀ t : Fin grid0.N, _)
theorem written13 : ∀ t : Fin cfg0.N, (cfg0.win 13).flush t = true :=
  (by decide +kernel : ∀ t : Fin grid0.N, _)

theorem disjoint12 (t t' : Fin cfg0.N) (_ : (cfg0.win 12).flush t = true) (_ : (cfg0.win 12).flush t' = true) (hne : t ≠ t') :
    Disjoint ((cfg0.win 12).blk t).view.set ((cfg0.win 12).blk t').view.set :=
  (cfg0.win 12).disjoint_blk fun h => hne (apart12 t t' h)
theorem disjoint13 (t t' : Fin cfg0.N) (_ : (cfg0.win 13).flush t = true) (_ : (cfg0.win 13).flush t' = true) (hne : t ≠ t') :
    Disjoint ((cfg0.win 13).blk t).view.set ((cfg0.win 13).blk t').view.set :=
  (cfg0.win 13).disjoint_blk fun h => hne (apart13 t t' h)

/-- Only the last point writes the third result's block back. -/
theorem disjoint14 (t t' : Fin cfg0.N) (h : (cfg0.win 14).flush t = true) (h' : (cfg0.win 14).flush t' = true) (hne : t ≠ t') :
    Disjoint ((cfg0.win 14).blk t).view.set ((cfg0.win 14).blk t').view.set := by
  have e := (flush0_14 t).mp h
  have e' := (flush0_14 t').mp h'
  have hN : cfg0.N = 8 := N_0
  have ht := t.isLt
  have ht' := t'.isLt
  exact absurd (Fin.ext (by omega)) hne

/-- The last point. -/
def last : Fin cfg0.N := ⟨7, lt_of_lt_of_eq (by decide : 7 < 8) N_0.symm⟩

/-- Block `t` of a final result is what was written back there. -/
theorem blocks12 (c : Dev nD) (t : Fin cfg0.N) : ((cfg0.win 12).blk t).view.read (Elt F) ((dats m 0 c).arrAt 12 cfg0.N) = (dats m 0 c).flushed 12 t :=
  (dats m 0 c).read_blk_arrAt_eq_flushed 12 disjoint12 cfg0.N t t.isLt (written12 t)
theorem blocks13 (c : Dev nD) (t : Fin cfg0.N) : ((cfg0.win 13).blk t).view.read (Elt F) ((dats m 0 c).arrAt 13 cfg0.N) = (dats m 0 c).flushed 13 t :=
  (dats m 0 c).read_blk_arrAt_eq_flushed 13 disjoint13 cfg0.N t t.isLt (written13 t)
theorem blocks14 (c : Dev nD) : ((cfg0.win 14).blk last).view.read (Elt F) ((dats m 0 c).arrAt 14 cfg0.N) = (dats m 0 c).flushed 14 last :=
  (dats m 0 c).read_blk_arrAt_eq_flushed 14 disjoint14 cfg0.N last last.isLt ((flush0_14 last).mpr rfl)

/-- The run: the results' final contents, the arguments unchanged. -/
theorem run_blocks : θ_run defs (onTc (τ := τ) (main (F := F))) ⟨m, fun _ => 0, ρ⟩ fun r => ∀ c : Dev nD,
    r.2.mem ((c : Thread nD τ).loc main_v30_0) = (dats m 0 c).arrAt 12 cfg0.N
    ∧ r.2.mem ((c : Thread nD τ).loc main_v30_1) = (dats m 0 c).arrAt 13 cfg0.N
    ∧ r.2.mem ((c : Thread nD τ).loc main_v30_2) = (dats m 0 c).arrAt 14 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun r h c => ⟨(h c).1 12, (h c).1 13, (h c).1 14,
    ((h c).2 main_arg0 (Pipeline.mem_restRefs_of main_arg0 (by decide) (by decide))).trans (V_main_arg0 m c),
    ((h c).1 7).trans (((dats m 0 c).arrAt_in 7 rfl _).trans ((A_eq m c 7).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).1 6).trans (((dats m 0 c).arrAt_in 6 rfl _).trans ((A_eq m c 6).trans (V_main_arg7 m c)))⟩) (run_main m ρ)

end Cert.Kernel5Ideal.Filter

end
-- ==== Proof.Filter.Blocks.lean ====
/- The filter kernel's input blocks, element by element. The network's arrays are the same at every point, and the 33 features of
   a position stand before zeros; a point's blocks of the tables are 256 rows of them, and what the narrowed tables leave
   over is zero. -/
module

public import proofs.«01_k».proof.Proof.Filter.IdealFrame
public import proofs.«01_k».proof.Proof.Filter.Network
public import proofs.«01_k».proof.Proof.Hyena.Blocks
public import proofs.«01_k».proof.Proof.OutProj.Finite
public import Idealize.ShloMosaic.Lib.KernelVsHost
public import Idealize.ShloMosaic.Lib.Routing.OpsSet
public import Idealize.ShloMosaic.Lib.Pipeline.Value
public import Idealize.ShloMosaic.PureOps.Ideal.Laws
public import Idealize.ShloMosaic.Lib.Tactic

@[expose] public section

set_option maxRecDepth 16384

noncomputable section

namespace Cert.Kernel5Ideal.Filter

open Cert.Kernel5Ideal Cert.Kernel5Ideal.Gen Cert.Hyena Cert.OutProj
open Idealize.ShloMosaic Idealize.ShloMosaic.TcCoe Idealize.SL.Sem Idealize.ShloMosaic.ValueIdx
open Cert.KernelIdeal.Hyena (cosTable sinTable cosTable_apply sinTable_apply whole_index)
open scoped BigOperators

variable (m : (ℓ : Loc nD τ sig) → Buf (Elt Ideal) ℓ) (c : Dev nD)

/-- The arguments: the positions' features, the window, and the network's weights, offsets and frequencies. -/
def features : Vec Ideal S2048x33 .f32 := m ((c : Thread nD τ).loc main_arg0)
def window : Vec Ideal S2048x256 .f32 := m ((c : Thread nD τ).loc main_arg1)
def weight1 : Vec Ideal S33x64 .f32 := m ((c : Thread nD τ).loc main_arg2)
def offset1 : Vec Ideal S64 .f32 := m ((c : Thread nD τ).loc main_arg3)
def weight2 : Vec Ideal S64x64 .f32 := m ((c : Thread nD τ).loc main_arg4)
def offset2 : Vec Ideal S64 .f32 := m ((c : Thread nD τ).loc main_arg5)
def frequency : Vec Ideal S64 .f32 := m ((c : Thread nD τ).loc main_arg6)
def weight3 : Vec Ideal S64x512 .f32 := m ((c : Thread nD τ).loc main_arg7)

/-! ## The arrays -/

/-- The transform's tables, one above the other. -/
def tables : FVec Ideal S4096x2048 .f32 :=
  concatenate S4096x2048 0 [⟨S2048x2048, cosTable⟩, ⟨S2048x2048, sinTable⟩] concatenates_S2048x2048_S2048x2048_S4096x2048_d0

def noLane : FVec Ideal S_ .f32 := sitofp .f32 (constantI S_ 32 0#32)

/-- The array the first layer's weights are set into, and the row they start at. -/
def noWeights : FVec Ideal S128x64 .f32 := broadcastInDim S128x64 ![] bcast_S_S128x64 (constant S_ .f32 0x00000000#32)
def top : IVec S1 32 := broadcastInDim S1 ![] bcast_S_S1 (constantI S_ 32 0#32)

/-- Where an element of the weights is set: at its own row and column. -/
theorem weight_lands (k : Fin 33) (l : Fin 64) (r : Fin 128) (j : Fin 64) :
    scatter_S128x64_S1_S33x64_01_n_0_0.resultIdx? (ix2 k l) top = some (ix2 r j) ↔ k.val = r.val ∧ l.val = j.val := by
  have s0 : scatter_S128x64_S1_S33x64_01_n_0_0.start (ix2 k l) top 0 = 0 := by
    unfold ScatterDims.start
    rw [dif_pos (by show (0 : Fin 2) ∈ [(0 : Fin 2)]; simp)]
    rfl
  have s1 : scatter_S128x64_S1_S33x64_01_n_0_0.start (ix2 k l) top 1 = 0 := by
    unfold ScatterDims.start
    rw [dif_neg (by show (1 : Fin 2) ∉ [(0 : Fin 2)]; simp)]
  have w0 : scatter_S128x64_S1_S33x64_01_n_0_0.window (ix2 k l) 0 = k.val := by
    unfold ScatterDims.window
    rw [dif_pos (by show (0 : Fin 2) ∈ [(0 : Fin 2), 1]; simp)]
    rfl
  have w1 : scatter_S128x64_S1_S33x64_01_n_0_0.window (ix2 k l) 1 = l.val := by
    unfold ScatterDims.window
    rw [dif_pos (by show (1 : Fin 2) ∈ [(0 : Fin 2), 1]; simp)]
    rfl
  rw [Routing.resultIdx?_ix2, s0, s1, w0, w1]
  omega

theorem features_array : (V m c main_v23 : Vec Ideal S2048x128 .f32)
    = pad S2048x128 ![0, 0] ![0, 95] ![0, 0] (features m c) noLane pads_S2048x33_S2048x128_000_0950 h_S_ := by
  entry_read
  rfl

seal Host.scatter in
theorem weight1_array : (V m c main_v26 : Vec Ideal S128x64 .f32)
    = Host.scatter scatter_S128x64_S1_S33x64_01_n_0_0 (fun _ b => b) noWeights top (weight1 m c) := by
  entry_read
  rfl

theorem offset1_array : (V m c main_v27 : Vec Ideal S1x64 .f32) = broadcastInDim S1x64 ![1] bcast_S64_S1x64_1 (offset1 m c) := by
  entry_read
  rfl

theorem offset2_array : (V m c main_v28 : Vec Ideal S1x64 .f32) = broadcastInDim S1x64 ![1] bcast_S64_S1x64_1 (offset2 m c) := by
  entry_read
  rfl

theorem frequency_array : (V m c main_v29 : Vec Ideal S1x64 .f32) = broadcastInDim S1x64 ![1] bcast_S64_S1x64_1 (frequency m c) := by
  entry_read
  rfl

theorem narrow_array : (V m c main_v19 : Vec Ideal S4096x2048 .bf16) = truncf .bf16 tables bitsLt_bf16_f32 := by
  entry_read
  rfl

theorem left_array : (V m c main_v22 : Vec Ideal S4096x2048 .bf16)
    = truncf .bf16 (subf tables (extf .f32 (truncf .bf16 tables bitsLt_bf16_f32 : FVec Ideal S4096x2048 .bf16) bitsLt_bf16_f32)) bitsLt_bf16_f32 := by
  entry_read
  rfl

theorem tables_cosine (i : Fin 4096) (k s : Fin 2048) (h : i.val = k.val) : tables (ix2 i s) = ((cosine k.val s.val : ℝ) : EReal) := by
  rw [← cosTable_apply]
  exact concatenate_apply_piece (t := S4096x2048) 0 [⟨S2048x2048, cosTable⟩, ⟨S2048x2048, sinTable⟩] concatenates_S2048x2048_S2048x2048_S4096x2048_d0
    (ix2 i s) 0 (by decide : 0 < 2) S2048x2048 cosTable rfl rfl 0 rfl (ix2 k s) (fun a ha => match a with | ⟨0, _⟩ => absurd rfl ha | ⟨1, _⟩ => rfl)
    (by show 0 + k.val = i.val; omega)

theorem tables_sine (i : Fin 4096) (k s : Fin 2048) (h : i.val = 2048 + k.val) : tables (ix2 i s) = ((sine k.val s.val : ℝ) : EReal) := by
  rw [← sinTable_apply]
  exact concatenate_apply_piece (t := S4096x2048) 0 [⟨S2048x2048, cosTable⟩, ⟨S2048x2048, sinTable⟩] concatenates_S2048x2048_S2048x2048_S4096x2048_d0
    (ix2 i s) 1 (by decide : 1 < 2) S2048x2048 sinTable rfl rfl 2048 rfl (ix2 k s) (fun a ha => match a with | ⟨0, _⟩ => absurd rfl ha | ⟨1, _⟩ => rfl)
    (by show 2048 + k.val = i.val; omega)

/-! ## The blocks -/

theorem point_lt (t : Fin cfg0.N) : t.val < 8 := lt_of_lt_of_eq t.isLt N_0

theorem block_numbers : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = 8 + t.val ∧ win0_10.index t (1 : Fin 2) = 0)
    ∧ (win0_11.index t (0 : Fin 2) = 8 + t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = 0 ∧ win0_14.index t (1 : Fin 2) = 0) :=
  (by decide +kernel : ∀ t : Fin grid0.N, _)

/-- A block that is 256 rows of its array. -/
theorem rows_index {M N : ℕ} (x : (⟨2, ![M, N]⟩ : Shape).Idx) {q0 q1 n : ℕ} (i0 : q0 = n) (i1 : q1 = 0) (r : Fin 256) (d : Fin N) (R : Fin M) (hR : R.val = 256 * n + r.val)
    (h0 : (x 0).val = q0 * 256 + 1 * r.val) (h1 : (x 1).val = q1 * N + 1 * d.val) : x = ix2 R d := by
  subst i0 i1
  funext a
  apply Fin.ext
  match a with
  | ⟨0, _⟩ => exact h0.trans (by show q0 * 256 + 1 * r.val = R.val; omega)
  | ⟨1, _⟩ => exact h1.trans (by show 0 * N + 1 * d.val = d.val; omega)

theorem features_block (t : Fin cfg0.N) (s : Fin 2048) (q : Fin 128) : (iblk m c 0 t : Vec Ideal S2048x128 .f32) (ix2 s q)
    = pad S2048x128 ![0, 0] ![0, 95] ![0, 0] (features m c) noLane pads_S2048x33_S2048x128_000_0950 h_S_ (ix2 s q) := by
  obtain ⟨i0, i1⟩ := (block_numbers t).1
  unfold iblk
  rw [View.read_apply]
  show V m c main_v23 _ = _
  rw [features_array]
  exact congrArg (pad S2048x128 ![0, 0] ![0, 95] ![0, 0] (features m c) noLane pads_S2048x33_S2048x128_000_0950 h_S_)
    (whole_index (M := 2048) (N := 128) (M' := 2048) (N' := 128) (((cfg0.win 0).blk t).view.emb (ix2 s q)) i0 i1 s q rfl rfl)

theorem features_inside (t : Fin cfg0.N) (s : Fin 2048) (q : Fin 33) : (iblk m c 0 t : Vec Ideal S2048x128 .f32) (ix2 s ⟨q.val, by omega⟩) = features m c (ix2 s q) := by
  rw [features_block]
  exact pad_apply_of_inside _ _ _ _ _ _ _ _ (ix2 s q) (fun a => match a with
    | ⟨0, _⟩ => (by show s.val = 0 + s.val * (0 + 1); omega)
    | ⟨1, _⟩ => (by show q.val = 0 + q.val * (0 + 1); omega))

theorem features_outside (t : Fin cfg0.N) (s : Fin 2048) (q : Fin 128) (h : 33 ≤ q.val) : (iblk m c 0 t : Vec Ideal S2048x128 .f32) (ix2 s q) = (0 : EReal) := by
  rw [features_block]
  refine (pad_apply_of_not_inside _ _ _ _ _ _ _ _ (1 : Fin 2) (fun hin => ?_)).trans ?_
  · have : (q.val - 0) / (0 + 1) < 33 := hin.2.2
    omega
  · show ((((0#32 : BitVec 32).toInt : ℤ) : ℝ) : EReal) = 0
    simp

theorem weight1_inside (t : Fin cfg0.N) (q : Fin 33) (j : Fin 64) : (iblk m c 1 t : Vec Ideal S128x64 .f32) (ix2 ⟨q.val, by omega⟩ j) = weight1 m c (ix2 q j) := by
  obtain ⟨i0, i1⟩ := (block_numbers t).2.1
  unfold iblk
  rw [View.read_apply]
  show V m c main_v26 _ = _
  rw [weight1_array]
  refine (congrArg (Host.scatter scatter_S128x64_S1_S33x64_01_n_0_0 (fun _ b => b) noWeights top (weight1 m c))
    (whole_index (M := 128) (N := 64) (M' := 128) (N' := 64) (((cfg0.win 1).blk t).view.emb (ix2 ⟨q.val, by omega⟩ j)) i0 i1 ⟨q.val, by omega⟩ j rfl rfl)).trans ?_
  refine Routing.scatter_set_hit _ _ _ _ _ _ (fun k hk => ?_) (ix2 q j) ((weight_lands q j _ j).2 ⟨rfl, rfl⟩)
  obtain ⟨k0, k1, rfl⟩ : ∃ (k0 : Fin 33) (k1 : Fin 64), k = ix2 k0 k1 := ⟨k 0, k 1, eq_ix2 k⟩
  obtain ⟨h0, h1⟩ := (weight_lands k0 k1 _ j).1 hk
  obtain rfl : k0 = q := Fin.ext h0
  obtain rfl : k1 = j := Fin.ext h1
  rfl

theorem offset1_block (t : Fin cfg0.N) (j : Fin 64) : (iblk m c 2 t : Vec Ideal S1x64 .f32) (ix2 0 j) = offset1 m c (ix1 j) := by
  obtain ⟨i0, i1⟩ := (block_numbers t).2.2.1
  unfold iblk
  rw [View.read_apply]
  show V m c main_v27 _ = _
  rw [offset1_array]
  refine Eq.trans ?_ (broadcastInDim_apply _ bcast_S64_S1x64_1 (offset1 m c) (ix2 0 j) (ix1 j) (fun a => match a with | ⟨0, _⟩ => rfl))
  exact congrArg (broadcastInDim S1x64 ![1] bcast_S64_S1x64_1 (offset1 m c)) (whole_index (M := 1) (N := 64) (M' := 1) (N' := 64) (((cfg0.win 2).blk t).view.emb (ix2 0 j)) i0 i1 0 j rfl rfl)

theorem offset2_block (t : Fin cfg0.N) (j : Fin 64) : (iblk m c 4 t : Vec Ideal S1x64 .f32) (ix2 0 j) = offset2 m c (ix1 j) := by
  obtain ⟨i0, i1⟩ := (block_numbers t).2.2.2.2.1
  unfold iblk
  rw [View.read_apply]
  show V m c main_v28 _ = _
  rw [offset2_array]
  refine Eq.trans ?_ (broadcastInDim_apply _ bcast_S64_S1x64_1 (offset2 m c) (ix2 0 j) (ix1 j) (fun a => match a with | ⟨0, _⟩ => rfl))
  exact congrArg (broadcastInDim S1x64 ![1] bcast_S64_S1x64_1 (offset2 m c)) (whole_index (M := 1) (N := 64) (M' := 1) (N' := 64) (((cfg0.win 4).blk t).view.emb (ix2 0 j)) i0 i1 0 j rfl rfl)

theorem frequency_block (t : Fin cfg0.N) (j : Fin 64) : (iblk m c 5 t : Vec Ideal S1x64 .f32) (ix2 0 j) = frequency m c (ix1 j) := by
  obtain ⟨i0, i1⟩ := (block_numbers t).2.2.2.2.2.1
  unfold iblk
  rw [View.read_apply]
  show V m c main_v29 _ = _
  rw [frequency_array]
  refine Eq.trans ?_ (broadcastInDim_apply _ bcast_S64_S1x64_1 (frequency m c) (ix2 0 j) (ix1 j) (fun a => match a with | ⟨0, _⟩ => rfl))
  exact congrArg (broadcastInDim S1x64 ![1] bcast_S64_S1x64_1 (frequency m c)) (whole_index (M := 1) (N := 64) (M' := 1) (N' := 64) (((cfg0.win 5).blk t).view.emb (ix2 0 j)) i0 i1 0 j rfl rfl)

theorem weight2_block (t : Fin cfg0.N) (q : Fin 64) (j : Fin 64) : (iblk m c 3 t : Vec Ideal S64x64 .f32) (ix2 q j) = weight2 m c (ix2 q j) := by
  obtain ⟨i0, i1⟩ := (block_numbers t).2.2.2.1
  unfold iblk
  rw [View.read_apply]
  show V m c main_arg4 _ = _
  rw [V_main_arg4]
  exact congrArg (weight2 m c) (whole_index (M := 64) (N := 64) _ i0 i1 q j rfl rfl)

theorem weight3_block (t : Fin cfg0.N) (q : Fin 64) (j : Fin 512) : (iblk m c 6 t : Vec Ideal S64x512 .f32) (ix2 q j) = weight3 m c (ix2 q j) := by
  obtain ⟨i0, i1⟩ := (block_numbers t).2.2.2.2.2.2.1
  unfold iblk
  rw [View.read_apply]
  show V m c main_arg7 _ = _
  rw [V_main_arg7]
  exact congrArg (weight3 m c) (whole_index (M := 64) (N := 512) _ i0 i1 q j rfl rfl)

theorem window_block (t : Fin cfg0.N) (q : Fin 2048) (j : Fin 256) : (iblk m c 7 t : Vec Ideal S2048x256 .f32) (ix2 q j) = window m c (ix2 q j) := by
  obtain ⟨i0, i1⟩ := (block_numbers t).2.2.2.2.2.2.2.1
  unfold iblk
  rw [View.read_apply]
  show V m c main_arg1 _ = _
  rw [V_main_arg1]
  exact congrArg (window m c) (whole_index (M := 2048) (N := 256) _ i0 i1 q j rfl rfl)

theorem cosine_block (t : Fin cfg0.N) (r : Fin 256) (s : Fin 2048) : (iblk m c 8 t : Vec Ideal S256x2048 .bf16) (ix2 r s) = ((cosine (256 * t.val + r.val) s.val : ℝ) : EReal) := by
  obtain ⟨i0, i1⟩ := (block_numbers t).2.2.2.2.2.2.2.2.1
  have ht := point_lt t
  unfold iblk
  rw [View.read_apply]
  show V m c main_v19 _ = _
  rw [narrow_array]
  exact (congrArg tables (rows_index (M := 4096) (N := 2048) _ i0 i1 r s ⟨256 * t.val + r.val, by omega⟩ rfl rfl rfl)).trans
    (tables_cosine _ ⟨256 * t.val + r.val, by omega⟩ s (by show 256 * t.val + r.val = _; rfl))

theorem cosine_left (t : Fin cfg0.N) (r : Fin 256) (s : Fin 2048) : (iblk m c 9 t : Vec Ideal S256x2048 .bf16) (ix2 r s) = (0 : EReal) := by
  obtain ⟨i0, i1⟩ := (block_numbers t).2.2.2.2.2.2.2.2.2.1
  have ht := point_lt t
  unfold iblk
  rw [View.read_apply]
  show V m c main_v22 _ = _
  rw [left_array]
  refine (congrArg (fun y => (tables y - tables y : EReal)) (rows_index (M := 4096) (N := 2048) _ i0 i1 r s ⟨256 * t.val + r.val, by omega⟩ rfl rfl rfl)).trans ?_
  exact Finite.sub_self ⟨_, tables_cosine _ ⟨256 * t.val + r.val, by omega⟩ s (by show 256 * t.val + r.val = _; rfl)⟩

theorem sine_block (t : Fin cfg0.N) (r : Fin 256) (s : Fin 2048) : (iblk m c 10 t : Vec Ideal S256x2048 .bf16) (ix2 r s) = ((sine (256 * t.val + r.val) s.val : ℝ) : EReal) := by
  obtain ⟨i0, i1⟩ := (block_numbers t).2.2.2.2.2.2.2.2.2.2.1
  have ht := point_lt t
  unfold iblk
  rw [View.read_apply]
  show V m c main_v19 _ = _
  rw [narrow_array]
  exact (congrArg tables (rows_index (M := 4096) (N := 2048) _ i0 i1 r s ⟨256 * (8 + t.val) + r.val, by omega⟩ rfl rfl rfl)).trans
    (tables_sine _ ⟨256 * t.val + r.val, by omega⟩ s (by show 256 * (8 + t.val) + r.val = _; show _ = 2048 + (256 * t.val + r.val); omega))

theorem sine_left (t : Fin cfg0.N) (r : Fin 256) (s : Fin 2048) : (iblk m c 11 t : Vec Ideal S256x2048 .bf16) (ix2 r s) = (0 : EReal) := by
  obtain ⟨i0, i1⟩ := (block_numbers t).2.2.2.2.2.2.2.2.2.2.2.1
  have ht := point_lt t
  unfold iblk
  rw [View.read_apply]
  show V m c main_v22 _ = _
  rw [left_array]
  refine (congrArg (fun y => (tables y - tables y : EReal)) (rows_index (M := 4096) (N := 2048) _ i0 i1 r s ⟨256 * (8 + t.val) + r.val, by omega⟩ rfl rfl rfl)).trans ?_
  exact Finite.sub_self ⟨_, tables_sine _ ⟨256 * t.val + r.val, by omega⟩ s (by show 256 * (8 + t.val) + r.val = _; show _ = 2048 + (256 * t.val + r.val); omega)⟩

end Cert.Kernel5Ideal.Filter

end
-- ==== Proof.Filter.Reference.lean ====
/- The filter's spectrum as the layer states it: the network's two filters laid out along a circle of 4096 places, and the
   sums of the circle against the cosines and the sines. For real filters these are sums over the filters' 2048 rows. -/
module

public import proofs.«01_k».proof.Proof.Gen.Reference5Ideal.Read
public import proofs.«01_k».proof.Proof.Filter.Network
public import proofs.«01_k».proof.Proof.Hyena.Reference
public import proofs.«01_k».proof.Proof.Hyena.Blocks
public import proofs.«01_k».proof.Proof.Hyena.Lift

@[expose] public section

noncomputable section

namespace Cert.Reference5Ideal.Filter

open Cert.Reference5Ideal Cert.Reference5Ideal.Gen Cert.Reference5Ideal.Read Cert.Filter Cert.Hyena
open Idealize.ShloMosaic Idealize.ShloMosaic.TcCoe Idealize.SL.Sem Idealize.ShloMosaic.ValueIdx
open Cert.ReferenceIdeal.Hyena (wrap)
open scoped BigOperators

/-- An index, from its coordinates. -/
theorem at1 {a : ℕ} (y : (⟨1, ![a]⟩ : Shape).Idx) (i : Fin a) (h0 : (y 0).val = i.val) : y = ix1 i := by
  funext d
  apply Fin.ext
  match d with
  | ⟨0, _⟩ => exact h0

theorem at2 {a b : ℕ} (y : (⟨2, ![a, b]⟩ : Shape).Idx) (i : Fin a) (j : Fin b) (h0 : (y 0).val = i.val) (h1 : (y 1).val = j.val) : y = ix2 i j := by
  funext d
  apply Fin.ext
  match d with
  | ⟨0, _⟩ => exact h0
  | ⟨1, _⟩ => exact h1

theorem at3 {a b e : ℕ} (y : (⟨3, ![a, b, e]⟩ : Shape).Idx) (i : Fin a) (j : Fin b) (k : Fin e) (h0 : (y 0).val = i.val) (h1 : (y 1).val = j.val)
    (h2 : (y 2).val = k.val) : y = ix3 i j k := by
  funext d
  apply Fin.ext
  match d with
  | ⟨0, _⟩ => exact h0
  | ⟨1, _⟩ => exact h1
  | ⟨2, _⟩ => exact h2

/-! ## The tables -/

/-- On a word below half its range the remainder is the number's. -/
theorem wrap_natural (d : BitVec 32) (h : 2 * d.toNat < 2 ^ 32) : (wrap d).toInt = ((d.toNat % 4096 : ℕ) : ℤ) := by
  have n : (IntOp.remsi .host d (BitVec.ofNat 32 4096)).toNat = d.toNat % 4096 := IntOp.toNat_remsi .host h 4096 (by norm_num) (by norm_num)
  have t : (IntOp.remsi .host d 4096#32).toInt = ((d.toNat % 4096 : ℕ) : ℤ) := by
    have n' : (IntOp.remsi .host d 4096#32).toNat = d.toNat % 4096 := n
    rw [BitVec.toInt_eq_toNat_of_lt (by rw [n']; omega), n']
  have a : IntOp.cmpi .slt (IntOp.remsi .host d 4096#32) 0#32 = 0#1 := by
    show BitVec.ofBool ((IntOp.remsi .host d 4096#32).slt 0#32) = 0#1
    rw [show (IntOp.remsi .host d 4096#32).slt 0#32 = false from decide_eq_false (by rw [t]; simp; omega)]
    rfl
  unfold wrap
  rw [a]
  have z : IntOp.andi (IntOp.cmpi .ne (0#1) (0#1)) (IntOp.cmpi .ne (IntOp.remsi .host d 4096#32) 0#32) = 0#1 := by
    show (0#1 : BitVec 1) &&& _ = 0#1
    exact BitVec.zero_and
  rw [z]
  exact t

theorem index_word (k : Fin 2049) (n : Fin 4096) : val_main_v40 (F := Ideal) (ix2 k n) = wrap (BitVec.ofNat 32 k.val * BitVec.ofNat 32 n.val) := by
  simp only [val_main_v40_apply, val_main_call0_v12_apply, val_main_call0_v14_apply, val_main_call0_v4_apply, val_main_call0_v11_apply, val_main_call0_v6_apply,
    val_main_call0_v8_apply, val_main_call0_v10_apply, val_main_call0_v9_apply, val_main_call0_v13_apply, val_main_call0_v3_apply, val_main_call0_v2_apply,
    val_main_call0_v1_apply, val_main_call0_v0_apply, val_main_call0_c_apply, val_main_call0_c_0_apply, val_main_call0_c_1_apply, val_main_call0_c_2_apply,
    val_main_call0_c_3_apply, val_main_call0_v5_apply, val_main_call0_v7_apply, val_main_c_apply, val_main_v36_apply, val_main_v35_apply, val_main_v34_apply,
    val_main_v33_apply, val_main_v32_apply, val_main_v31_apply, val_main_v30_apply]
  rfl

theorem index_toInt (k : Fin 2049) (n : Fin 4096) : (val_main_v40 (F := Ideal) (ix2 k n)).toInt = ((k.val * n.val % 4096 : ℕ) : ℤ) := by
  have hk := k.isLt
  have hn := n.isLt
  have hb : k.val * n.val < 16777216 := lt_of_le_of_lt (Nat.mul_le_mul (by omega : k.val ≤ 2048) (by omega : n.val ≤ 4095)) (by norm_num)
  have hm : (BitVec.ofNat 32 k.val * BitVec.ofNat 32 n.val).toNat = k.val * n.val := by
    rw [BitVec.toNat_mul, BitVec.toNat_ofNat, BitVec.toNat_ofNat, Nat.mod_eq_of_lt (a := k.val) (by omega), Nat.mod_eq_of_lt (a := n.val) (by omega)]
    exact Nat.mod_eq_of_lt (by omega)
  rw [index_word, wrap_natural _ (by rw [hm]; omega), hm]

theorem turn_value (i : S_.Idx) : val_main_v39 (F := Ideal) i = ((2 * Real.pi : ℝ) : EReal) :=
  (show val_main_v39 (F := Ideal) i = Cert.KernelIdeal.Hyena.turn ix0 from rfl).trans Cert.KernelIdeal.Hyena.turn_apply

theorem angle_apply (k : Fin 2049) (n : Fin 4096) : val_main_v45 (F := Ideal) (ix2 k n) = ((step * ((k.val * n.val % 4096 : ℕ) : ℝ) : ℝ) : EReal) := by
  rw [val_main_v45_apply, val_main_v44_apply, val_main_v43_apply, val_main_v42_apply, val_main_v41_apply]
  show Ideal.div (val_main_v39 (F := Ideal) _ * (((val_main_v40 (F := Ideal) (ix2 k n)).toInt : ℝ) : EReal)) (Ideal.ofBits .f32 0x45800000#32) = _
  rw [turn_value, index_toInt, Cert.KernelIdeal.Hyena.period_word, Ideal.div_coe (by norm_num), ← EReal.coe_mul, ← EReal.coe_mul, Int.cast_natCast]
  refine congrArg _ ?_
  unfold step
  ring

theorem cosine_apply (k : Fin 2049) (n : Fin 4096) : val_main_v46 (F := Ideal) (ix2 k n) = ((cosine k.val n.val : ℝ) : EReal) := by
  show Ideal.cos (val_main_v45 (F := Ideal) (ix2 k n)) = _
  rw [angle_apply]
  show ((Real.cos _ : ℝ) : EReal) = _
  rw [cosine_reduced]

theorem sine_apply (k : Fin 2049) (n : Fin 4096) : val_main_v48 (F := Ideal) (ix2 k n) = ((sine k.val n.val : ℝ) : EReal) := by
  show Ideal.sin (val_main_v45 (F := Ideal) (ix2 k n)) = _
  rw [angle_apply]
  show ((Real.sin _ : ℝ) : EReal) = _
  rw [sine_reduced]

/-! ## The filters -/

variable (x0 : FVec Ideal S2048x33 .f32) (x1 : FVec Ideal S2048x256 .f32) (x2 : FVec Ideal S33x64 .f32) (x3 : FVec Ideal S64 .f32) (x4 : FVec Ideal S64x64 .f32)
  (x5 x6 : FVec Ideal S64 .f32) (x7 : FVec Ideal S64x512 .f32)

theorem first_layer (s : Fin 2048) (j : Fin 64) : val_main_v7 (F := Ideal) x0 x2 x3 x6 (ix2 s j)
    = layer (fun q : Fin 33 => x0 (ix2 s q)) (fun q j => x2 (ix2 q j)) (fun j => x3 (ix1 j)) (fun j => x6 (ix1 j)) j := by
  rw [val_main_v7_apply, val_main_v6_apply, val_main_v5_apply, val_main_v4_apply, val_main_v3_apply, val_main_v2_apply, val_main_v1_apply, val_main_v0_apply]
  exact congrArg Ideal.sin (congrArg₂ (fun p q : EReal => p * q) (congrArg x6 (at1 _ j rfl)) (congrArg₂ (fun p q : EReal => p + q)
    (Finset.sum_congr rfl fun q _ => congrArg₂ (fun p q : EReal => p * q) (congrArg x0 (at2 _ s q rfl rfl)) (congrArg x2 (at2 _ q j rfl rfl)))
    (congrArg x3 (at1 _ j rfl))))

theorem second_layer (s : Fin 2048) (j : Fin 64) : val_main_v15 (F := Ideal) x0 x2 x3 x4 x5 x6 (ix2 s j)
    = layer (layer (fun q : Fin 33 => x0 (ix2 s q)) (fun q j => x2 (ix2 q j)) (fun j => x3 (ix1 j)) (fun j => x6 (ix1 j))) (fun q j => x4 (ix2 q j)) (fun j => x5 (ix1 j))
        (fun j => x6 (ix1 j)) j := by
  rw [val_main_v15_apply, val_main_v14_apply, val_main_v13_apply, val_main_v12_apply, val_main_v11_apply, val_main_v10_apply, val_main_v9_apply, val_main_v8_apply]
  exact congrArg Ideal.sin (congrArg₂ (fun p q : EReal => p * q) (congrArg x6 (at1 _ j rfl)) (congrArg₂ (fun p q : EReal => p + q)
    (Finset.sum_congr rfl fun q _ => congrArg₂ (fun p q : EReal => p * q)
      ((congrArg (val_main_v7 (F := Ideal) x0 x2 x3 x6) (at2 _ s q rfl rfl)).trans (first_layer x0 x2 x3 x6 s q)) (congrArg x4 (at2 _ q j rfl rfl)))
    (congrArg x5 (at1 _ j rfl))))

/-- The network's output at a position. -/
def output (s : Fin 2048) (o : Fin 512) : EReal :=
  network (fun q : Fin 33 => x0 (ix2 s q)) (fun q j => x2 (ix2 q j)) (fun j => x3 (ix1 j)) (fun q j => x4 (ix2 q j)) (fun j => x5 (ix1 j)) (fun j => x6 (ix1 j))
    (fun j o => x7 (ix2 j o)) o

theorem output_apply (s : Fin 2048) (o : Fin 512) : val_main_v16 (F := Ideal) x0 x2 x3 x4 x5 x6 x7 (ix2 s o) = output x0 x2 x3 x4 x5 x6 x7 s o := by
  rw [val_main_v16_apply]
  unfold output network
  exact Finset.sum_congr rfl fun q _ => congrArg₂ (fun p q : EReal => p * q)
    ((congrArg (val_main_v15 (F := Ideal) x0 x2 x3 x4 x5 x6) (at2 _ s q rfl rfl)).trans (second_layer x0 x2 x3 x4 x5 x6 s q)) (congrArg x7 (at2 _ q o rfl rfl))

theorem windowed_apply (s : Fin 2048) (d : Fin 2) (ch : Fin 256) : val_main_v20 (F := Ideal) x0 x1 x2 x3 x4 x5 x6 x7 (ix3 s d ch)
    = output x0 x2 x3 x4 x5 x6 x7 s ⟨d.val * 256 + ch.val, by omega⟩ * x1 (ix2 s ch) := by
  rw [val_main_v20_apply, val_main_v19_apply, val_main_v18_apply, val_main_v17_apply]
  refine congrArg₂ (fun p q : EReal => p * q) ?_ (congrArg x1 (at2 _ s ch rfl rfl))
  refine (congrArg (val_main_v16 (F := Ideal) x0 x2 x3 x4 x5 x6 x7) (at2 _ s ⟨d.val * 256 + ch.val, by omega⟩ ?_ ?_)).trans (output_apply x0 x2 x3 x4 x5 x6 x7 s _)
  · show ((s.val * 2 + d.val) * 256 + ch.val) / 512 = s.val
    omega
  · show ((s.val * 2 + d.val) * 256 + ch.val) % 512 = d.val * 256 + ch.val
    omega

/-- The forward filter and the backward one. -/
def ahead (s : Fin 2048) (ch : Fin 256) : EReal := output x0 x2 x3 x4 x5 x6 x7 s ⟨ch.val, by omega⟩ * x1 (ix2 s ch)
def behind (s : Fin 2048) (ch : Fin 256) : EReal := output x0 x2 x3 x4 x5 x6 x7 s ⟨256 + ch.val, by omega⟩ * x1 (ix2 s ch)

theorem ahead_apply (s : Fin 2048) (ch : Fin 256) : val_main_v22 (F := Ideal) x0 x1 x2 x3 x4 x5 x6 x7 (ix2 s ch) = ahead x0 x1 x2 x3 x4 x5 x6 x7 s ch := by
  rw [val_main_v22_apply, val_main_v21_apply]
  refine (congrArg (val_main_v20 (F := Ideal) x0 x1 x2 x3 x4 x5 x6 x7) (at3 _ s 0 ch ?_ rfl ?_)).trans ((windowed_apply x0 x1 x2 x3 x4 x5 x6 x7 s 0 ch).trans ?_)
  · show (s.val * 256 + ch.val) / 256 = s.val
    omega
  · show (s.val * 256 + ch.val) % 256 = ch.val
    omega
  · unfold ahead
    exact congrArg (fun o => output x0 x2 x3 x4 x5 x6 x7 s o * x1 (ix2 s ch)) (Fin.ext (by show 0 * 256 + ch.val = ch.val; omega))

theorem behind_apply (s : Fin 2048) (ch : Fin 256) : val_main_v24 (F := Ideal) x0 x1 x2 x3 x4 x5 x6 x7 (ix2 s ch) = behind x0 x1 x2 x3 x4 x5 x6 x7 s ch := by
  rw [val_main_v24_apply, val_main_v23_apply]
  refine (congrArg (val_main_v20 (F := Ideal) x0 x1 x2 x3 x4 x5 x6 x7) (at3 _ s 1 ch ?_ rfl ?_)).trans ((windowed_apply x0 x1 x2 x3 x4 x5 x6 x7 s 1 ch).trans ?_)
  · show (s.val * 256 + ch.val) / 256 = s.val
    omega
  · show (s.val * 256 + ch.val) % 256 = ch.val
    omega
  · unfold behind
    exact congrArg (fun o => output x0 x2 x3 x4 x5 x6 x7 s o * x1 (ix2 s ch)) (Fin.ext (by show 1 * 256 + ch.val = 256 + ch.val; omega))

/-! ## The circle and its transform -/

variable {f g : ℕ → ℝ} (ch : Fin 256) (hf : ∀ s : Fin 2048, ahead x0 x1 x2 x3 x4 x5 x6 x7 s ch = ((f s.val : ℝ) : EReal))
  (hg : ∀ s : Fin 2048, behind x0 x1 x2 x3 x4 x5 x6 x7 s ch = ((g s.val : ℝ) : EReal))
include hf hg

/-- The circle: forward, one zero, then backward from its end. -/
theorem circle_apply (n : Fin 4096) : val_main_v29 (F := Ideal) x0 x1 x2 x3 x4 x5 x6 x7 (ix2 n ch) = ((circle f g n.val : ℝ) : EReal) := by
  have hn := n.isLt
  unfold val_main_v29 circle
  rcases lt_trichotomy n.val 2048 with h | h | h
  · rw [if_pos h, ← hf ⟨n.val, h⟩, ← ahead_apply]
    exact concatenate_apply_piece (t := S4096x256) 0 [⟨S2048x256, val_main_v22 (F := Ideal) x0 x1 x2 x3 x4 x5 x6 x7⟩, ⟨S1x256, val_main_v26 (F := Ideal)⟩, ⟨S2047x256, val_main_v28 (F := Ideal) x0 x1 x2 x3 x4 x5 x6 x7⟩]
      concatenates_S2048x256_S1x256_S2047x256_S4096x256_d0 (ix2 n ch) 0 (by decide : 0 < 3) S2048x256 _ rfl rfl 0 rfl
      (ix2 ⟨n.val, h⟩ ch) (fun a ha => match a with | ⟨0, _⟩ => absurd rfl ha | ⟨1, _⟩ => rfl) (by show 0 + n.val = n.val; omega)
  · rw [if_neg (by omega), if_pos h]
    refine (concatenate_apply_piece (t := S4096x256) 0 [⟨S2048x256, val_main_v22 (F := Ideal) x0 x1 x2 x3 x4 x5 x6 x7⟩, ⟨S1x256, val_main_v26 (F := Ideal)⟩, ⟨S2047x256, val_main_v28 (F := Ideal) x0 x1 x2 x3 x4 x5 x6 x7⟩]
      concatenates_S2048x256_S1x256_S2047x256_S4096x256_d0 (ix2 n ch) 1 (by decide : 1 < 3) S1x256 _ rfl rfl 2048 rfl
      (ix2 0 ch) (fun a ha => match a with | ⟨0, _⟩ => absurd rfl ha | ⟨1, _⟩ => rfl) (by show 2048 + 0 = n.val; omega)).trans ?_
    rw [val_main_v26_apply]
    exact Cert.KernelIdeal.Hyena.zero_word
  · rw [if_neg (by omega), if_neg (by omega), ← hg ⟨4096 - n.val, by omega⟩, ← behind_apply]
    refine (concatenate_apply_piece (t := S4096x256) 0 [⟨S2048x256, val_main_v22 (F := Ideal) x0 x1 x2 x3 x4 x5 x6 x7⟩, ⟨S1x256, val_main_v26 (F := Ideal)⟩, ⟨S2047x256, val_main_v28 (F := Ideal) x0 x1 x2 x3 x4 x5 x6 x7⟩]
      concatenates_S2048x256_S1x256_S2047x256_S4096x256_d0 (ix2 n ch) 2 (by decide : 2 < 3) S2047x256 _ rfl rfl 2049 rfl
      (ix2 ⟨n.val - 2049, by omega⟩ ch) (fun a ha => match a with | ⟨0, _⟩ => absurd rfl ha | ⟨1, _⟩ => rfl) (by show 2049 + (n.val - 2049) = n.val; omega)).trans ?_
    unfold val_main_v28
    refine (congrArg (val_main_v27 (F := Ideal) x0 x1 x2 x3 x4 x5 x6 x7) (?_ : _ = (ix2 ⟨2046 - (n.val - 2049), by omega⟩ ch : S2047x256.Idx))).trans ?_
    · funext a
      apply Fin.ext
      match a with
      | ⟨0, _⟩ => show 2047 - (n.val - 2049 + 1) = 2046 - (n.val - 2049); omega
      | ⟨1, _⟩ => rfl
    · rw [val_main_v27_apply]
      exact congrArg (val_main_v24 (F := Ideal) x0 x1 x2 x3 x4 x5 x6 x7) (at2 _ _ ch (by show 1 + (2046 - (n.val - 2049)) = 4096 - n.val; omega) rfl)

theorem real_apply (k : Fin 2049) : val_main_v47 (F := Ideal) x0 x1 x2 x3 x4 x5 x6 x7 (ix2 k ch) = ((cosines (evenPart f g) k.val : ℝ) : EReal) := by
  rw [val_main_v47_apply, ← circle_cosines]
  refine Cert.KernelIdeal.Hyena.sum_coe (fun n => cosine k.val n * circle f g n) _ fun n => ?_
  rw [EReal.coe_mul, ← cosine_apply k n, ← circle_apply x0 x1 x2 x3 x4 x5 x6 x7 ch hf hg n]
  exact congrArg₂ (fun p q : EReal => p * q) (congrArg (val_main_v46 (F := Ideal)) (at2 _ k n rfl rfl))
    (congrArg (val_main_v29 (F := Ideal) x0 x1 x2 x3 x4 x5 x6 x7) (at2 _ n ch rfl rfl))

theorem imaginary_apply (k : Fin 2049) : val_main_v49 (F := Ideal) x0 x1 x2 x3 x4 x5 x6 x7 (ix2 k ch) = ((sines (oddPart f g) k.val : ℝ) : EReal) := by
  rw [val_main_v49_apply, ← circle_sines]
  refine Cert.KernelIdeal.Hyena.sum_coe (fun n => sine k.val n * circle f g n) _ fun n => ?_
  rw [EReal.coe_mul, ← sine_apply k n, ← circle_apply x0 x1 x2 x3 x4 x5 x6 x7 ch hf hg n]
  exact congrArg₂ (fun p q : EReal => p * q) (congrArg (val_main_v48 (F := Ideal)) (at2 _ k n rfl rfl))
    (congrArg (val_main_v29 (F := Ideal) x0 x1 x2 x3 x4 x5 x6 x7) (at2 _ n ch rfl rfl))

/-- The reference's three results at an element. -/
theorem result0 (k : Fin 2048) : val_main_v51 (F := Ideal) x0 x1 x2 x3 x4 x5 x6 x7 (ix2 k ch) = ((cosines (evenPart f g) k.val : ℝ) : EReal) := by
  rw [val_main_v51_apply]
  exact (congrArg (val_main_v47 (F := Ideal) x0 x1 x2 x3 x4 x5 x6 x7) (at2 _ ⟨k.val, by omega⟩ ch rfl rfl)).trans (real_apply x0 x1 x2 x3 x4 x5 x6 x7 ch hf hg _)

theorem result1 (k : Fin 2048) : val_main_v53 (F := Ideal) x0 x1 x2 x3 x4 x5 x6 x7 (ix2 k ch) = ((sines (oddPart f g) k.val : ℝ) : EReal) := by
  rw [val_main_v53_apply, val_main_v52_apply, val_main_v50_apply]
  show - -(val_main_v49 (F := Ideal) x0 x1 x2 x3 x4 x5 x6 x7 _ : EReal) = _
  rw [neg_neg]
  exact (congrArg (val_main_v49 (F := Ideal) x0 x1 x2 x3 x4 x5 x6 x7) (at2 _ ⟨k.val, by omega⟩ ch rfl rfl)).trans (imaginary_apply x0 x1 x2 x3 x4 x5 x6 x7 ch hf hg _)

theorem result2 (r : Fin 8) : val_main_v55 (F := Ideal) x0 x1 x2 x3 x4 x5 x6 x7 (ix2 r ch) = ((signs (evenPart f g) : ℝ) : EReal) := by
  rw [val_main_v55_apply, val_main_v54_apply, ← highest]
  exact (congrArg (val_main_v47 (F := Ideal) x0 x1 x2 x3 x4 x5 x6 x7) (at2 _ ⟨2048, by omega⟩ ch rfl rfl)).trans (real_apply x0 x1 x2 x3 x4 x5 x6 x7 ch hf hg _)

end Cert.Reference5Ideal.Filter

end
-- ==== Proof.Filter.Equal.lean ====
/- The filter spectrum's value claim: on real arguments the kernel's products against the transform's half tables are the
   reference's sums along the circle, element by element. That the arguments are real is read off the claim's precondition. -/
module

public import proofs.«01_k».proof.Defs
public import proofs.«01_k».proof.Proof.Filter.Held
public import proofs.«01_k».proof.Proof.Filter.Value
public import proofs.«01_k».proof.Proof.Filter.Blocks
public import proofs.«01_k».proof.Proof.Filter.Reference
public import proofs.«01_k».proof.Proof.Hyena.Equal
public import proofs.«01_k».proof.Proof.Gen.Reference5Ideal.Run
public import proofs.«01_k».proof.Proof.Gen.Pre_finite5

@[expose] public section

noncomputable section

namespace Cert.Proof.Filter

open Idealize.ShloMosaic Idealize.ShloMosaic.TcCoe Idealize.SL.Sem Idealize.ShloMosaic.ValueIdx
open Cert.Kernel5Ideal Cert.Kernel5Ideal.Gen Cert.Kernel5Ideal.Filter Cert.Filter Cert.Hyena Cert.OutProj
open Cert.Proof.Hyena (real_of_all column)
open Cert.KernelIdeal.Hyena (sum_coe whole_index)
open scoped BigOperators

variable (m : (ℓ : Loc nD τ sig) → Buf (Elt Ideal) ℓ) (c : Dev nD)

/-- All the arguments are real. -/
def Real : Prop :=
  (∀ i, Finite (features m c i)) ∧ (∀ i, Finite (window m c i)) ∧ (∀ i, Finite (weight1 m c i)) ∧ (∀ i, Finite (offset1 m c i))
    ∧ (∀ i, Finite (weight2 m c i)) ∧ (∀ i, Finite (offset2 m c i)) ∧ (∀ i, Finite (frequency m c i)) ∧ ∀ i, Finite (weight3 m c i)

/-- The precondition says so. -/
theorem allReal (h : Pre_Kernel5Ideal_finite5 m) : Real m c := by
  have hc := congrFun (h c) (fun a => a.elim0)
  obtain ⟨h6, a7⟩ := IntOp.andi_eq_one.1 hc
  obtain ⟨h5, a6⟩ := IntOp.andi_eq_one.1 h6
  obtain ⟨h4, a5⟩ := IntOp.andi_eq_one.1 h5
  obtain ⟨h3, a4⟩ := IntOp.andi_eq_one.1 h4
  obtain ⟨h2, a3⟩ := IntOp.andi_eq_one.1 h3
  obtain ⟨h1, a2⟩ := IntOp.andi_eq_one.1 h2
  obtain ⟨a0, a1⟩ := IntOp.andi_eq_one.1 h1
  exact ⟨real_of_all (s := S2048x33) (features m c) _ _ _ _ a0, real_of_all (s := S2048x256) (window m c) _ _ _ _ a1,
    real_of_all (s := S33x64) (weight1 m c) _ _ _ _ a2, real_of_all (s := S64) (offset1 m c) _ _ _ _ a3,
    real_of_all (s := S64x64) (weight2 m c) _ _ _ _ a4, real_of_all (s := S64) (offset2 m c) _ _ _ _ a5,
    real_of_all (s := S64) (frequency m c) _ _ _ _ a6, real_of_all (s := S64x512) (weight3 m c) _ _ _ _ a7⟩

/-- A network on features that stand before zeros is the network on the features. -/
theorem network_padded {x : Fin 128 → EReal} {w1 : Fin 128 → Fin 64 → EReal} {x' : Fin 33 → EReal} {w1' : Fin 33 → Fin 64 → EReal} {b1 b1' : Fin 64 → EReal}
    {w2 w2' : Fin 64 → Fin 64 → EReal} {b2 b2' freq freq' : Fin 64 → EReal} {w3 w3' : Fin 64 → Fin 512 → EReal} (hz : ∀ q : Fin 128, 33 ≤ q.val → x q = 0)
    (hx : ∀ q : Fin 33, x ⟨q.val, by omega⟩ = x' q) (h1 : ∀ (q : Fin 33) j, w1 ⟨q.val, by omega⟩ j = w1' q j) (hb1 : ∀ j, b1 j = b1' j)
    (h2 : ∀ q j, w2 q j = w2' q j) (hb2 : ∀ j, b2 j = b2' j) (hf : ∀ j, freq j = freq' j) (h3 : ∀ j o, w3 j o = w3' j o) (o : Fin 512) :
    network x w1 b1 w2 b2 freq w3 o = network x' w1' b1' w2' b2' freq' w3' o := by
  have first : network x w1 b1 w2 b2 freq w3 o = network x' w1' b1 w2 b2 freq w3 o := by
    have e : layer x w1 b1 freq = layer x' w1' b1 freq := funext fun j => by
      unfold layer
      rw [padded_sum x (fun q => w1 q j) hz]
      exact congrArg (fun a : EReal => Ideal.sin (freq j * (a + b1 j))) (Finset.sum_congr rfl fun q _ => congrArg₂ (fun a b : EReal => a * b) (hx q) (h1 q j))
    unfold network
    rw [e]
  exact first.trans (network_congr (fun _ => rfl) (fun _ _ => rfl) hb1 h2 hb2 hf h3 o)

/-- The kernel's network is the reference's. -/
theorem output_eq (s : Fin 2048) (o : Fin 512) : output (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) s o = Reference5Ideal.Filter.output (features m c) (weight1 m c) (offset1 m c) (weight2 m c) (offset2 m c) (frequency m c) (weight3 m c) s o :=
  network_padded (fun q h => features_outside m c p0 s q h) (fun q => features_inside m c p0 s q) (fun q j => weight1_inside m c p0 q j) (fun j => offset1_block m c p0 j)
    (fun q j => weight2_block m c p0 q j) (fun j => offset2_block m c p0 j) (fun j => frequency_block m c p0 j) (fun q j => weight3_block m c p0 q j) o

theorem ahead_eq (s : Fin 2048) (ch : Fin 256) : ahead (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) s ch = Reference5Ideal.Filter.ahead (features m c) (window m c) (weight1 m c) (offset1 m c) (weight2 m c) (offset2 m c) (frequency m c) (weight3 m c) s ch :=
  congrArg₂ (fun a b : EReal => a * b) (output_eq m c s _) (window_block m c p0 s ch)

theorem behind_eq (s : Fin 2048) (ch : Fin 256) : behind (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) s ch = Reference5Ideal.Filter.behind (features m c) (window m c) (weight1 m c) (offset1 m c) (weight2 m c) (offset2 m c) (frequency m c) (weight3 m c) s ch :=
  congrArg₂ (fun a b : EReal => a * b) (output_eq m c s _) (window_block m c p0 s ch)

/-- A channel's two filters are columns of reals. -/
theorem columns (h : Real m c) (ch : Fin 256) : ∃ f g : ℕ → ℝ, (∀ s : Fin 2048, Reference5Ideal.Filter.ahead (features m c) (window m c) (weight1 m c) (offset1 m c) (weight2 m c) (offset2 m c) (frequency m c) (weight3 m c) s ch = ((f s.val : ℝ) : EReal))
    ∧ ∀ s : Fin 2048, Reference5Ideal.Filter.behind (features m c) (window m c) (weight1 m c) (offset1 m c) (weight2 m c) (offset2 m c) (frequency m c) (weight3 m c) s ch = ((g s.val : ℝ) : EReal) := by
  obtain ⟨h0, h1, h2, h3, h4, h5, h6, h7⟩ := h
  have real (s : Fin 2048) (o : Fin 512) : Finite (Reference5Ideal.Filter.output (features m c) (weight1 m c) (offset1 m c) (weight2 m c) (offset2 m c) (frequency m c) (weight3 m c) s o) :=
    network_finite (fun _ => h0 _) (fun _ _ => h2 _) (fun _ => h3 _) (fun _ _ => h4 _) (fun _ => h5 _) (fun _ => h6 _) (fun _ _ => h7 _) o
  obtain ⟨f, hf⟩ := column fun s => (real s ⟨ch.val, by omega⟩).mul (h1 (ix2 s ch))
  obtain ⟨g, hg⟩ := column fun s => (real s ⟨256 + ch.val, by omega⟩).mul (h1 (ix2 s ch))
  exact ⟨f, g, hf, hg⟩

/-- Three products against a row, where what is left over is zero. -/
theorem products {a b p q : Fin 2048 → EReal} (row v : ℕ → ℝ) (ha : ∀ s, a s = ((row s.val : ℝ) : EReal)) (hb : ∀ s, b s = 0) (hp : ∀ s, p s = ((v s.val : ℝ) : EReal))
    (hq : ∀ s, q s = 0) : (∑ s, a s * p s + ∑ s, a s * q s) + ∑ s, b s * p s = ((∑ s ∈ Finset.range 2048, row s * v s : ℝ) : EReal) := by
  have h1 : ∑ s, a s * q s = 0 := Finset.sum_eq_zero fun s _ => by rw [hq, mul_zero]
  have h2 : ∑ s, b s * p s = 0 := Finset.sum_eq_zero fun s _ => by rw [hb, zero_mul]
  rw [h1, h2, add_zero, add_zero]
  exact sum_coe (fun s => row s * v s) _ fun s => by rw [ha, hp, EReal.coe_mul]

section Channel

variable {f g : ℕ → ℝ} (ch : Fin 256) (hf : ∀ s : Fin 2048, Reference5Ideal.Filter.ahead (features m c) (window m c) (weight1 m c) (offset1 m c) (weight2 m c) (offset2 m c) (frequency m c) (weight3 m c) s ch = ((f s.val : ℝ) : EReal))
  (hg : ∀ s : Fin 2048, Reference5Ideal.Filter.behind (features m c) (window m c) (weight1 m c) (offset1 m c) (weight2 m c) (offset2 m c) (frequency m c) (weight3 m c) s ch = ((g s.val : ℝ) : EReal))
include hf hg

theorem rest_value (s : Fin 2048) : rest (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) s ch = (((if s.val = 0 then 0 else g s.val : ℝ)) : EReal) := by
  unfold rest
  split_ifs
  · exact EReal.coe_zero.symm
  · exact (behind_eq m c s ch).trans (hg s)

theorem even_value (s : Fin 2048) : even (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) s ch = ((evenPart f g s.val : ℝ) : EReal) := by
  unfold even evenPart
  rw [rest_value m c ch hf hg s, ahead_eq, hf, EReal.coe_add]

theorem odd_value (s : Fin 2048) : odd (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) s ch = ((oddPart f g s.val : ℝ) : EReal) := by
  unfold odd oddPart
  rw [rest_value m c ch hf hg s, ahead_eq, hf, EReal.coe_sub]

theorem kept0 (s : Fin 2048) : scr0 m c (ix2 s ch) = ((evenPart f g s.val : ℝ) : EReal) :=
  (held16_apply (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) _ _ _ _ _ _ _ _ _ _ _ _ _ _ _ _ _ _ _ _ _ _ _ _ _ _ _ _ _ _ _ _ _ _ _ _ _ _ _ _ _ s ch).trans (even_value m c ch hf hg s)

theorem kept1 (s : Fin 2048) : scr1 m c (ix2 s ch) = (0 : EReal) :=
  (held17_apply (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) _ _ _ _ _ _ _ _ _ _ _ _ _ _ _ _ _ _ _ _ _ _ _ _ _ _ _ _ _ _ _ _ _ _ _ _ _ _ _ _ _ s ch).trans (Finite.sub_self ⟨_, even_value m c ch hf hg s⟩)

theorem kept2 (s : Fin 2048) : scr2 m c (ix2 s ch) = ((oddPart f g s.val : ℝ) : EReal) :=
  (held18_apply (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) _ _ _ _ _ _ _ _ _ _ _ _ _ _ _ _ _ _ _ _ _ _ _ _ _ _ _ _ _ _ _ _ _ _ _ _ _ _ _ _ _ s ch).trans (odd_value m c ch hf hg s)

theorem kept3 (s : Fin 2048) : scr3 m c (ix2 s ch) = (0 : EReal) :=
  (held19_apply (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) _ _ _ _ _ _ _ _ _ _ _ _ _ _ _ _ _ _ _ _ _ _ _ _ _ _ _ _ _ _ _ _ _ _ _ _ _ _ _ _ _ s ch).trans (Finite.sub_self ⟨_, odd_value m c ch hf hg s⟩)

/-- The results' elements. -/
theorem element0 (k : Fin 2048) : ((dats m 0 c).arrAt 12 cfg0.N : Vec Ideal S2048x256 .f32) (ix2 k ch) = ((cosines (evenPart f g) k.val : ℝ) : EReal) := by
  have hk := k.isLt
  have ht : k.val / 256 < cfg0.N := lt_of_lt_of_eq (by omega : k.val / 256 < 8) N_0.symm
  have hr : k.val % 256 < 256 := Nat.mod_lt _ (by norm_num)
  have split : 256 * (k.val / 256) + k.val % 256 = k.val := Nat.div_add_mod _ _
  obtain ⟨i0, i1⟩ := (block_numbers ⟨k.val / 256, ht⟩).2.2.2.2.2.2.2.2.2.2.2.2.1
  have h := congrFun ((blocks12 m c ⟨k.val / 256, ht⟩).trans (flushed12 m c ⟨k.val / 256, ht⟩)) (ix2 (⟨k.val % 256, hr⟩ : Fin 256) ch)
  rw [View.read_apply] at h
  have e : ((cfg0.win 12).blk ⟨k.val / 256, ht⟩).view.emb (ix2 (⟨k.val % 256, hr⟩ : Fin 256) ch) = ix2 k ch :=
    rows_index (M := 2048) (N := 256) _ i0 i1 ⟨k.val % 256, hr⟩ ch k split.symm rfl rfl
  rw [e] at h
  refine h.trans ((pay19_apply _ _ _ _ _ _ (⟨k.val % 256, hr⟩ : Fin 256) ch).trans ?_)
  exact products (fun s => cosine k.val s) (evenPart f g) (fun s => (cosine_block m c ⟨k.val / 256, ht⟩ ⟨k.val % 256, hr⟩ s).trans (by rw [split]))
    (fun s => cosine_left m c _ _ s) (fun s => kept0 m c ch hf hg s) (fun s => kept1 m c ch hf hg s)

theorem element1 (k : Fin 2048) : ((dats m 0 c).arrAt 13 cfg0.N : Vec Ideal S2048x256 .f32) (ix2 k ch) = ((sines (oddPart f g) k.val : ℝ) : EReal) := by
  have hk := k.isLt
  have ht : k.val / 256 < cfg0.N := lt_of_lt_of_eq (by omega : k.val / 256 < 8) N_0.symm
  have hr : k.val % 256 < 256 := Nat.mod_lt _ (by norm_num)
  have split : 256 * (k.val / 256) + k.val % 256 = k.val := Nat.div_add_mod _ _
  obtain ⟨i0, i1⟩ := (block_numbers ⟨k.val / 256, ht⟩).2.2.2.2.2.2.2.2.2.2.2.2.2.1
  have h := congrFun ((blocks13 m c ⟨k.val / 256, ht⟩).trans (flushed13 m c ⟨k.val / 256, ht⟩)) (ix2 (⟨k.val % 256, hr⟩ : Fin 256) ch)
  rw [View.read_apply] at h
  have e : ((cfg0.win 13).blk ⟨k.val / 256, ht⟩).view.emb (ix2 (⟨k.val % 256, hr⟩ : Fin 256) ch) = ix2 k ch :=
    rows_index (M := 2048) (N := 256) _ i0 i1 ⟨k.val % 256, hr⟩ ch k split.symm rfl rfl
  rw [e] at h
  refine h.trans ((pay20_apply _ _ _ _ _ _ (⟨k.val % 256, hr⟩ : Fin 256) ch).trans ?_)
  exact products (fun s => sine k.val s) (oddPart f g) (fun s => (sine_block m c ⟨k.val / 256, ht⟩ ⟨k.val % 256, hr⟩ s).trans (by rw [split]))
    (fun s => sine_left m c _ _ s) (fun s => kept2 m c ch hf hg s) (fun s => kept3 m c ch hf hg s)

theorem element2 (r : Fin 8) : ((dats m 0 c).arrAt 14 cfg0.N : Vec Ideal S8x256 .f32) (ix2 r ch) = ((signs (evenPart f g) : ℝ) : EReal) := by
  obtain ⟨i0, i1⟩ := (block_numbers last).2.2.2.2.2.2.2.2.2.2.2.2.2.2
  have h := congrFun ((blocks14 m c).trans (flushed14 m c last)) (ix2 r ch)
  rw [View.read_apply] at h
  have e : ((cfg0.win 14).blk last).view.emb (ix2 r ch) = ix2 r ch := whole_index (M := 8) (N := 256) (M' := 8) (N' := 256) _ i0 i1 r ch rfl rfl
  rw [e] at h
  refine h.trans ((alt_apply (iblk m c 0 p0 : Vec Ideal S2048x128 .f32) (iblk m c 1 p0 : Vec Ideal S128x64 .f32) (iblk m c 2 p0 : Vec Ideal S1x64 .f32) (iblk m c 3 p0 : Vec Ideal S64x64 .f32) (iblk m c 4 p0 : Vec Ideal S1x64 .f32) (iblk m c 5 p0 : Vec Ideal S1x64 .f32) (iblk m c 6 p0 : Vec Ideal S64x512 .f32) (iblk m c 7 p0 : Vec Ideal S2048x256 .f32) _ _ _ _ _ _ _ _ _ _ _ _ _ _ _ _ _ _ _ _ _ _ _ _ _ _ _ _ _ _ _ _ _ _ _ _ _ _ _ _ _ r ch).trans ?_)
  exact sum_coe (fun s => evenPart f g s * alternating s) _ fun s => by rw [even_value m c ch hf hg s, EReal.coe_mul]

end Channel

/-- An array of two axes, element by element. -/
theorem ext2 {a b : ℕ} {α : Type} {p q : (⟨2, ![a, b]⟩ : Shape).Idx → α} (h : ∀ i j, p (ix2 i j) = q (ix2 i j)) : p = q := by
  funext y
  obtain ⟨i, j, rfl⟩ : ∃ (i : Fin a) (j : Fin b), y = ix2 i j := ⟨y 0, y 1, eq_ix2 y⟩
  exact h i j

theorem array0_eq (h : Pre_Kernel5Ideal_finite5 m) : Reference5Ideal.Read.val_main_v51 (F := Ideal) (features m c) (window m c) (weight1 m c) (offset1 m c) (weight2 m c) (offset2 m c) (frequency m c) (weight3 m c) = (dats m 0 c).arrAt 12 cfg0.N :=
  ext2 fun k ch => by
    obtain ⟨f, g, hf, hg⟩ := columns m c (allReal m c h) ch
    exact (Reference5Ideal.Filter.result0 _ _ _ _ _ _ _ _ ch hf hg k).trans (element0 m c ch hf hg k).symm

theorem array1_eq (h : Pre_Kernel5Ideal_finite5 m) : Reference5Ideal.Read.val_main_v53 (F := Ideal) (features m c) (window m c) (weight1 m c) (offset1 m c) (weight2 m c) (offset2 m c) (frequency m c) (weight3 m c) = (dats m 0 c).arrAt 13 cfg0.N :=
  ext2 fun k ch => by
    obtain ⟨f, g, hf, hg⟩ := columns m c (allReal m c h) ch
    exact (Reference5Ideal.Filter.result1 _ _ _ _ _ _ _ _ ch hf hg k).trans (element1 m c ch hf hg k).symm

theorem array2_eq (h : Pre_Kernel5Ideal_finite5 m) : Reference5Ideal.Read.val_main_v55 (F := Ideal) (features m c) (window m c) (weight1 m c) (offset1 m c) (weight2 m c) (offset2 m c) (frequency m c) (weight3 m c) = (dats m 0 c).arrAt 14 cfg0.N :=
  ext2 fun k ch => by
    obtain ⟨f, g, hf, hg⟩ := columns m c (allReal m c h) ch
    exact (Reference5Ideal.Filter.result2 _ _ _ _ _ _ _ _ ch hf hg k).trans (element2 m c ch hf hg k).symm

/-- The claim. -/
theorem algebraic : algebraic_Kernel5Ideal_Reference5Ideal_pre_finite5 := by
  intro m ρ m' ρ' hpre hagree
  refine ⟨_, _, _, run_blocks (F := Ideal) m ρ, ?_⟩
  refine (θ_run Cert.Reference5Ideal.defs _ _).mono (fun _ h c => ?_) (Cert.Reference5Ideal.Value.run (F := Ideal) m' ρ')
  obtain ⟨r0, r1, r2, ha⟩ := h c
  obtain ⟨a0, a1, a2, a3, a4, a5, a6, a7⟩ := hagree c
  refine ⟨r0.trans ((Reference5Ideal.Read.val_main_v51_eq _ _).trans ?_), r1.trans ((Reference5Ideal.Read.val_main_v53_eq _ _).trans ?_),
    r2.trans ((Reference5Ideal.Read.val_main_v55_eq _ _).trans ?_), ha⟩
  · rw [a0, a1, a2, a3, a4, a5, a6, a7]
    exact array0_eq m c hpre
  · rw [a0, a1, a2, a3, a4, a5, a6, a7]
    exact array1_eq m c hpre
  · rw [a0, a1, a2, a3, a4, a5, a6, a7]
    exact array2_eq m c hpre

end Cert.Proof.Filter

end
-- ==== Proof.lean ====
module

public import proofs.«01_k».proof.Proof.Hyena.Frame
public import proofs.«01_k».proof.Proof.Hyena.IdealFrame
public import proofs.«01_k».proof.Proof.Gen.ReferenceIdeal.Run
public import proofs.«01_k».proof.Proof.Gen.ReferenceIdeal.Read
public import proofs.«01_k».proof.Proof.Gen.Pre_finite
public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.Filter.Frame
public import proofs.«01_k».proof.Proof.Filter.IdealFrame
public import proofs.«01_k».proof.Proof.Gen.Reference5Ideal.Run
public import proofs.«01_k».proof.Proof.Gen.Reference5Ideal.Read
public import proofs.«01_k».proof.Proof.Gen.Pre_finite5
public import Idealize.ShloMosaic.Adequacy
public import Idealize.ShloMosaic.Init
public import Idealize.ShloMosaic.Lib.Quiescent
public import proofs.«01_k».proof.Proof.Hyena.Equal
public import proofs.«01_k».proof.Proof.Experts.Value
public import proofs.«01_k».proof.Proof.InProj.Equal
public import proofs.«01_k».proof.Proof.OutProj.Equal
public import proofs.«01_k».proof.Proof.Filter.Equal

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The experts' network: the kernel's result array is the reference's, stage by stage (Proof/Experts/Value.lean). -/
theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Kernel2Ideal.Experts.result_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite4.Gen.facts, Cert.Pre_finite5.Gen.facts,
  fun m ρ _ => Cert.Kernel.Hyena.frame m ρ, fun m ρ _ => Cert.KernelIdeal.Hyena.frame m ρ, fun m ρ _ => Cert.KernelIdeal.Hyena.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  fun m ρ _ => Cert.Kernel5.Filter.frame m ρ, fun m ρ _ => Cert.Kernel5Ideal.Filter.frame m ρ, fun m ρ _ => Cert.Kernel5Ideal.Filter.frame m ρ,
  quiescent_Reference5Ideal, fun m ρ _ => quiescent_Reference5Ideal m ρ trivial,
  (trivial : preserves_Kernel_KernelIdeal), Hyena.algebraic,
  (trivial : preserves_Kernel2_Kernel2Ideal), algebraic_Kernel2Ideal_Reference2Ideal,
  (trivial : preserves_Kernel3_Kernel3Ideal), InProj.algebraic,
  (trivial : preserves_Kernel4_Kernel4Ideal), OutProj.algebraic,
  (trivial : preserves_Kernel5_Kernel5Ideal), Filter.algebraic⟩

end Cert.Proof

end
